-- ==== Defs.lean ====
def Pre_Kernel [hPre_blocks_and_rows : Cert.Pre_blocks_and_rows.Facts] (m : (ℓ : Loc Cert.Kernel.nD Cert.Kernel.τ Cert.Kernel.sig) → Buf (Elt Bits) ℓ) : Prop :=
  ∀ c : Dev Cert.Kernel.nD,
    (Cert.Pre_blocks_and_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_blocks_and_rows : Cert.Pre_blocks_and_rows.Facts] (m : (ℓ : Loc Cert.KernelIdeal.nD Cert.KernelIdeal.τ Cert.KernelIdeal.sig) → Buf (Elt Ideal) ℓ) : Prop :=
  ∀ c : Dev Cert.KernelIdeal.nD,
    (Cert.Pre_blocks_and_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_blocks_and_rows [hPre_blocks_and_rows : Cert.Pre_blocks_and_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_blocks_and_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] [hPre_blocks_and_rows : Cert.Pre_blocks_and_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] [hPre_blocks_and_rows : Cert.Pre_blocks_and_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_blocks_and_rows [hReferenceIdeal : Cert.ReferenceIdeal.Facts] [hPre_blocks_and_rows : Cert.Pre_blocks_and_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_blocks_and_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_blocks_and_rows : Cert.Pre_blocks_and_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_blocks_and_rows : Cert.Pre_blocks_and_rows.Facts),
    quiescent_Kernel (hKernel := hKernel) (hPre_blocks_and_rows := hPre_blocks_and_rows)
    ∧ quiescent_KernelIdeal (hKernelIdeal := hKernelIdeal) (hPre_blocks_and_rows := hPre_blocks_and_rows)
    ∧ quiescent_ReferenceIdeal (hReferenceIdeal := hReferenceIdeal)
    ∧ quiescent_ReferenceIdeal_pre_blocks_and_rows (hReferenceIdeal := hReferenceIdeal) (hPre_blocks_and_rows := hPre_blocks_and_rows)
    ∧ preserves_Kernel_KernelIdeal
    ∧ algebraic_KernelIdeal_ReferenceIdeal (hKernelIdeal := hKernelIdeal) (hReferenceIdeal := hReferenceIdeal) (hPre_blocks_and_rows := hPre_blocks_and_rows)
-- ==== Pre_blocks_and_rows.lean ====
abbrev S2048x1024 : Shape := ⟨2, ![2048, 1024]⟩
abbrev S1024x8 : Shape := ⟨2, ![1024, 8]⟩
abbrev S5888x1024 : Shape := ⟨2, ![5888, 1024]⟩
abbrev S8x1024x2048 : Shape := ⟨3, ![8, 1024, 2048]⟩
abbrev S8x2048x1024 : Shape := ⟨3, ![8, 2048, 1024]⟩
abbrev S23 : Shape := ⟨1, ![23]⟩
abbrev S2048 : Shape := ⟨1, ![2048]⟩
abbrev S1x23 : Shape := ⟨2, ![1, 23]⟩
abbrev S2048x1 : Shape := ⟨2, ![2048, 1]⟩
abbrev S_ : Shape := ⟨0, ![]⟩
abbrev S2048x23 : Shape := ⟨2, ![2048, 23]⟩
abbrev S1 : Shape := ⟨1, ![1]⟩
abbrev S22 : Shape := ⟨1, ![22]⟩
abbrev S2048x23x1 : Shape := ⟨3, ![2048, 23, 1]⟩
abbrev S1x23x1 : Shape := ⟨3, ![1, 23, 1]⟩
abbrev S1x1x22 : Shape := ⟨3, ![1, 1, 22]⟩
abbrev S2048x23x22 : Shape := ⟨3, ![2048, 23, 22]⟩

class Facts : Prop where
  bcast_S23_S1x23_1 : S23.BroadcastsInDim S1x23 (![1] : Fin 1 → Fin S1x23.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S_S1x23 : S_.BroadcastsInDim S1x23 (![] : Fin 0 → Fin S1x23.rank)
  bcast_S2048x1_S2048x23_0_1 : S2048x1.BroadcastsInDim S2048x23 (![0, 1] : Fin 2 → Fin S2048x23.rank)
  bcast_S1x23_S2048x23_0_1 : S1x23.BroadcastsInDim S2048x23 (![0, 1] : Fin 2 → Fin S2048x23.rank)
  bcast_S_S23 : S_.BroadcastsInDim S23 (![] : Fin 0 → Fin S23.rank)
  slices_S23_S1_0 : S23.Slices ![0] S1
  bcast_S_S1 : S_.BroadcastsInDim S1 (![] : Fin 0 → Fin S1.rank)
  bcast_S1_S23_0 : S1.BroadcastsInDim S23 (![0] : Fin 1 → Fin S23.rank)
  slices_S23_S22_1 : S23.Slices ![1] S22
  slices_S23_S22_0 : S23.Slices ![0] S22
  bcast_S_S22 : S_.BroadcastsInDim S22 (![] : Fin 0 → Fin S22.rank)
  slices_S23_S1_22 : S23.Slices ![22] S1
  bcast_S2048x23_S2048x23x1_0_1 : S2048x23.BroadcastsInDim S2048x23x1 (![0, 1] : Fin 2 → Fin S2048x23x1.rank)
  bcast_S23_S1x23x1_1 : S23.BroadcastsInDim S1x23x1 (![1] : Fin 1 → Fin S1x23x1.rank)
  bcast_S1x23x1_S2048x23x1_0_1_2 : S1x23x1.BroadcastsInDim S2048x23x1 (![0, 1, 2] : Fin 3 → Fin S2048x23x1.rank)
  bcast_S22_S1x1x22_2 : S22.BroadcastsInDim S1x1x22 (![2] : Fin 1 → Fin S1x1x22.rank)
  bcast_S2048x23x1_S2048x23x22_0_1_2 : S2048x23x1.BroadcastsInDim S2048x23x22 (![0, 1, 2] : Fin 3 → Fin S2048x23x22.rank)
  bcast_S1x1x22_S2048x23x22_0_1_2 : S1x1x22.BroadcastsInDim S2048x23x22 (![0, 1, 2] : Fin 3 → Fin S2048x23x22.rank)

variable [Facts]

def fn_part8 {F : FTy → Type} [FloatOps F] (main_v144 : IVec S22 1) (main_v154 : IVec S2048x23x1 1) (main_v156 : IVec S2048x23x1 1) : IVec S2048x23x22 1 :=
  let main_v157 : IVec S2048x23x1 1 := andi main_v154 main_v156
  let main_v158 : IVec S1x1x22 1 := broadcastInDim S1x1x22 ![2] bcast_S22_S1x1x22_2 main_v144
  let main_v159 : IVec S2048x23x22 1 := broadcastInDim S2048x23x22 ![0, 1, 2] bcast_S2048x23x1_S2048x23x22_0_1_2 main_v157
  let main_v160 : IVec S2048x23x22 1 := broadcastInDim S2048x23x22 ![0, 1, 2] bcast_S1x1x22_S2048x23x22_0_1_2 main_v158
  let main_v161 : IVec S2048x23x22 1 := andi main_v159 main_v160
  main_v161

def fn_part7 {F : FTy → Type} [FloatOps F] (main_arg7 : IVec S23 32) (main_arg10 : IVec S23 32) (main_v50 : IVec S2048x23 1) (main_v95 : IVec S23 1) (main_v132 : IVec S22 1) (main_v135 : IVec S22 1) (main_v136 : IVec S22 32) : IVec S2048x23x22 1 :=
  let main_c_30 : IVec S_ 32 := constantI S_ 32 0#32
  let main_v137 : IVec S22 32 := broadcastInDim S22 ![] bcast_S_S22 main_c_30
  let main_v138 : IVec S22 1 := cmpi .eq main_v136 main_v137
  let main_v139 : IVec S22 1 := ori main_v135 main_v138
  let main_v140 : IVec S22 32 := (extractStridedSlice S22 ![0] · slices_S23_S22_0) main_arg10
  let main_c_31 : IVec S_ 32 := constantI S_ 32 8#32
  let main_v141 : IVec S22 32 := broadcastInDim S22 ![] bcast_S_S22 main_c_31
  let main_v142 : IVec S22 1 := cmpi .eq main_v140 main_v141
  let main_v143 : IVec S22 1 := ori main_v139 main_v142
  let main_v144 : IVec S22 1 := andi main_v132 main_v143
  let main_v145 : IVec S1 32 := (extractStridedSlice S1 ![22] · slices_S23_S1_22) main_arg7
  let main_c_32 : IVec S_ 32 := constantI S_ 32 0#32
  let main_v146 : IVec S1 32 := broadcastInDim S1 ![] bcast_S_S1 main_c_32
  let main_v147 : IVec S1 1 := cmpi .eq main_v145 main_v146
  let main_v148 : IVec S1 32 := (extractStridedSlice S1 ![22] · slices_S23_S1_22) main_arg10
  let main_c_33 : IVec S_ 32 := constantI S_ 32 8#32
  let main_v149 : IVec S1 32 := broadcastInDim S1 ![] bcast_S_S1 main_c_33
  let main_v150 : IVec S1 1 := cmpi .eq main_v148 main_v149
  let main_v151 : IVec S1 1 := ori main_v147 main_v150
  let main_v152 : IVec S23 1 := broadcastInDim S23 ![0] bcast_S1_S23_0 main_v151
  let main_v153 : IVec S23 1 := andi main_v95 main_v152
  let main_v154 : IVec S2048x23x1 1 := broadcastInDim S2048x23x1 ![0, 1] bcast_S2048x23_S2048x23x1_0_1 main_v50
  let main_v155 : IVec S1x23x1 1 := broadcastInDim S1x23x1 ![1] bcast_S23_S1x23x1_1 main_v153
  let main_v156 : IVec S2048x23x1 1 := broadcastInDim S2048x23x1 ![0, 1, 2] bcast_S1x23x1_S2048x23x1_0_1_2 main_v155
  fn_part8 (F := F) main_v144 main_v154 main_v156

def fn_part6 {F : FTy → Type} [FloatOps F] (main_arg7 : IVec S23 32) (main_arg8 : IVec S23 32) (main_arg10 : IVec S23 32) (main_v50 : IVec S2048x23 1) (main_v95 : IVec S23 1) (main_v106 : IVec S22 1) (main_v115 : IVec S22 1) (main_v116 : IVec S22 32) (main_c_25 : IVec S_ 32) : IVec S2048x23x22 1 :=
  let main_v117 : IVec S22 32 := broadcastInDim S22 ![] bcast_S_S22 main_c_25
  let main_v118 : IVec S22 1 := cmpi .eq main_v116 main_v117
  let main_v119 : IVec S22 32 := (extractStridedSlice S22 ![0] · slices_S23_S22_0) main_arg7
  let main_c_26 : IVec S_ 32 := constantI S_ 32 1#32
  let main_v120 : IVec S22 32 := broadcastInDim S22 ![] bcast_S_S22 main_c_26
  let main_v121 : IVec S22 1 := cmpi .eq main_v119 main_v120
  let main_v122 : IVec S22 32 := (extractStridedSlice S22 ![1] · slices_S23_S22_1) main_arg8
  let main_c_27 : IVec S_ 32 := constantI S_ 32 0#32
  let main_v123 : IVec S22 32 := broadcastInDim S22 ![] bcast_S_S22 main_c_27
  let main_v124 : IVec S22 1 := cmpi .eq main_v122 main_v123
  let main_v125 : IVec S22 1 := andi main_v124 main_v106
  let main_v126 : IVec S22 32 := (extractStridedSlice S22 ![1] · slices_S23_S22_1) main_arg8
  let main_c_28 : IVec S_ 32 := constantI S_ 32 1#32
  let main_v127 : IVec S22 32 := broadcastInDim S22 ![] bcast_S_S22 main_c_28
  let main_v128 : IVec S22 1 := cmpi .eq main_v126 main_v127
  let main_v129 : IVec S22 1 := andi main_v128 main_v115
  let main_v130 : IVec S22 1 := ori main_v125 main_v129
  let main_v131 : IVec S22 1 := andi main_v121 main_v130
  let main_v132 : IVec S22 1 := ori main_v118 main_v131
  let main_v133 : IVec S22 32 := (extractStridedSlice S22 ![1] · slices_S23_S22_1) main_arg7
  let main_c_29 : IVec S_ 32 := constantI S_ 32 1#32
  let main_v134 : IVec S22 32 := broadcastInDim S22 ![] bcast_S_S22 main_c_29
  let main_v135 : IVec S22 1 := cmpi .eq main_v133 main_v134
  let main_v136 : IVec S22 32 := (extractStridedSlice S22 ![0] · slices_S23_S22_0) main_arg7
  fn_part7 (F := F) main_arg7 main_arg10 main_v50 main_v95 main_v132 main_v135 main_v136

def fn_part5 {F : FTy → Type} [FloatOps F] (main_arg6 : IVec S23 32) (main_arg7 : IVec S23 32) (main_arg8 : IVec S23 32) (main_arg10 : IVec S23 32) (main_arg11 : IVec S23 32) (main_v50 : IVec S2048x23 1) (main_v90 : IVec S23 1) (main_v94 : IVec S23 1) : IVec S2048x23x22 1 :=
  let main_v95 : IVec S23 1 := andi main_v90 main_v94
  let main_v96 : IVec S22 32 := (extractStridedSlice S22 ![1] · slices_S23_S22_1) main_arg11
  let main_v97 : IVec S22 32 := (extractStridedSlice S22 ![0] · slices_S23_S22_0) main_arg11
  let main_v98 : IVec S22 1 := cmpi .eq main_v96 main_v97
  let main_v99 : IVec S22 32 := (extractStridedSlice S22 ![1] · slices_S23_S22_1) main_arg6
  let main_v100 : IVec S22 32 := (extractStridedSlice S22 ![0] · slices_S23_S22_0) main_arg6
  let main_v101 : IVec S22 1 := cmpi .eq main_v99 main_v100
  let main_v102 : IVec S22 1 := andi main_v98 main_v101
  let main_v103 : IVec S22 32 := (extractStridedSlice S22 ![1] · slices_S23_S22_1) main_arg10
  let main_v104 : IVec S22 32 := (extractStridedSlice S22 ![0] · slices_S23_S22_0) main_arg10
  let main_v105 : IVec S22 1 := cmpi .eq main_v103 main_v104
  let main_v106 : IVec S22 1 := andi main_v102 main_v105
  let main_v107 : IVec S22 32 := (extractStridedSlice S22 ![1] · slices_S23_S22_1) main_arg11
  let main_v108 : IVec S22 32 := (extractStridedSlice S22 ![0] · slices_S23_S22_0) main_arg11
  let main_c_24 : IVec S_ 32 := constantI S_ 32 1#32
  let main_v109 : IVec S22 32 := broadcastInDim S22 ![] bcast_S_S22 main_c_24
  let main_v110 : IVec S22 32 := subi main_v109 main_v108
  let main_v111 : IVec S22 1 := cmpi .eq main_v107 main_v110
  let main_v112 : IVec S22 32 := (extractStridedSlice S22 ![1] · slices_S23_S22_1) main_arg6
  let main_v113 : IVec S22 32 := (extractStridedSlice S22 ![0] · slices_S23_S22_0) main_arg10
  let main_v114 : IVec S22 1 := cmpi .eq main_v112 main_v113
  let main_v115 : IVec S22 1 := andi main_v111 main_v114
  let main_v116 : IVec S22 32 := (extractStridedSlice S22 ![1] · slices_S23_S22_1) main_arg7
  let main_c_25 : IVec S_ 32 := constantI S_ 32 0#32
  fn_part6 (F := F) main_arg7 main_arg8 main_arg10 main_v50 main_v95 main_v106 main_v115 main_v116 main_c_25

def fn_part4 {F : FTy → Type} [FloatOps F] (main_arg6 : IVec S23 32) (main_arg7 : IVec S23 32) (main_arg8 : IVec S23 32) (main_arg9 : IVec S23 32) (main_arg10 : IVec S23 32) (main_arg11 : IVec S23 32) (main_v50 : IVec S2048x23 1) (main_v73 : IVec S23 1) (main_v75 : IVec S23 1) : IVec S2048x23x22 1 :=
  let main_v76 : IVec S23 1 := andi main_v73 main_v75
  let main_c_19 : IVec S_ 32 := constantI S_ 32 8#32
  let main_v77 : IVec S23 32 := broadcastInDim S23 ![] bcast_S_S23 main_c_19
  let main_v78 : IVec S23 1 := cmpi .sle main_arg10 main_v77
  let main_v79 : IVec S23 1 := andi main_v76 main_v78
  let main_v80 : IVec S23 1 := cmpi .sle main_arg8 main_arg7
  let main_v81 : IVec S23 1 := andi main_v79 main_v80
  let main_c_20 : IVec S_ 32 := constantI S_ 32 1#32
  let main_v82 : IVec S23 32 := broadcastInDim S23 ![] bcast_S_S23 main_c_20
  let main_v83 : IVec S23 1 := cmpi .eq main_arg9 main_v82
  let main_c_21 : IVec S_ 32 := constantI S_ 32 1#32
  let main_v84 : IVec S23 32 := broadcastInDim S23 ![] bcast_S_S23 main_c_21
  let main_v85 : IVec S23 1 := cmpi .eq main_arg8 main_v84
  let main_c_22 : IVec S_ 32 := constantI S_ 32 8#32
  let main_v86 : IVec S23 32 := broadcastInDim S23 ![] bcast_S_S23 main_c_22
  let main_v87 : IVec S23 1 := cmpi .slt main_arg10 main_v86
  let main_v88 : IVec S23 1 := andi main_v85 main_v87
  let main_v89 : IVec S23 1 := cmpi .eq main_v83 main_v88
  let main_v90 : IVec S23 1 := andi main_v81 main_v89
  let main_v91 : IVec S1 32 := (extractStridedSlice S1 ![0] · slices_S23_S1_0) main_arg8
  let main_c_23 : IVec S_ 32 := constantI S_ 32 1#32
  let main_v92 : IVec S1 32 := broadcastInDim S1 ![] bcast_S_S1 main_c_23
  let main_v93 : IVec S1 1 := cmpi .eq main_v91 main_v92
  let main_v94 : IVec S23 1 := broadcastInDim S23 ![0] bcast_S1_S23_0 main_v93
  fn_part5 (F := F) main_arg6 main_arg7 main_arg8 main_arg10 main_arg11 main_v50 main_v90 main_v94

def fn_part3 {F : FTy → Type} [FloatOps F] (main_arg6 : IVec S23 32) (main_arg7 : IVec S23 32) (main_arg8 : IVec S23 32) (main_arg9 : IVec S23 32) (main_arg10 : IVec S23 32) (main_arg11 : IVec S23 32) (main_v50 : IVec S2048x23 1) (main_v55 : IVec S23 1) (main_v57 : IVec S23 1) : IVec S2048x23x22 1 :=
  let main_v58 : IVec S23 1 := andi main_v55 main_v57
  let main_c_13 : IVec S_ 32 := constantI S_ 32 2#32
  let main_v59 : IVec S23 32 := broadcastInDim S23 ![] bcast_S_S23 main_c_13
  let main_v60 : IVec S23 1 := cmpi .slt main_arg11 main_v59
  let main_v61 : IVec S23 1 := andi main_v58 main_v60
  let main_c_14 : IVec S_ 32 := constantI S_ 32 0#32
  let main_v62 : IVec S23 32 := broadcastInDim S23 ![] bcast_S_S23 main_c_14
  let main_v63 : IVec S23 1 := cmpi .sge main_arg7 main_v62
  let main_v64 : IVec S23 1 := andi main_v61 main_v63
  let main_c_15 : IVec S_ 32 := constantI S_ 32 2#32
  let main_v65 : IVec S23 32 := broadcastInDim S23 ![] bcast_S_S23 main_c_15
  let main_v66 : IVec S23 1 := cmpi .slt main_arg7 main_v65
  let main_v67 : IVec S23 1 := andi main_v64 main_v66
  let main_c_16 : IVec S_ 32 := constantI S_ 32 0#32
  let main_v68 : IVec S23 32 := broadcastInDim S23 ![] bcast_S_S23 main_c_16
  let main_v69 : IVec S23 1 := cmpi .sge main_arg8 main_v68
  let main_v70 : IVec S23 1 := andi main_v67 main_v69
  let main_c_17 : IVec S_ 32 := constantI S_ 32 2#32
  let main_v71 : IVec S23 32 := broadcastInDim S23 ![] bcast_S_S23 main_c_17
  let main_v72 : IVec S23 1 := cmpi .slt main_arg8 main_v71
  let main_v73 : IVec S23 1 := andi main_v70 main_v72
  let main_c_18 : IVec S_ 32 := constantI S_ 32 0#32
  let main_v74 : IVec S23 32 := broadcastInDim S23 ![] bcast_S_S23 main_c_18
  let main_v75 : IVec S23 1 := cmpi .sge main_arg10 main_v74
  fn_part4 (F := F) main_arg6 main_arg7 main_arg8 main_arg9 main_arg10 main_arg11 main_v50 main_v73 main_v75

def fn_part2 {F : FTy → Type} [FloatOps F] (main_arg6 : IVec S23 32) (main_arg7 : IVec S23 32) (main_arg8 : IVec S23 32) (main_arg9 : IVec S23 32) (main_arg10 : IVec S23 32) (main_arg11 : IVec S23 32) (main_v1 : IVec S1x23 32) (main_v3 : IVec S2048x1 32) (main_v17 : IVec S1x23 1) (main_v34 : IVec S2048x23 1) (main_v37 : IVec S2048x23 32) (main_v38 : IVec S2048x23 32) : IVec S2048x23x22 1 :=
  let main_v39 : IVec S2048x23 1 := cmpi .slt main_v37 main_v38
  let main_v40 : IVec S2048x23 1 := broadcastInDim S2048x23 ![0, 1] bcast_S1x23_S2048x23_0_1 main_v17
  let main_v41 : IVec S2048x23 1 := ori main_v40 main_v39
  let main_c_8 : IVec S_ 32 := constantI S_ 32 256#32
  let main_v42 : IVec S1x23 32 := broadcastInDim S1x23 ![] bcast_S_S1x23 main_c_8
  let main_v43 : IVec S1x23 32 := muli main_v42 main_v1
  let main_c_9 : IVec S_ 32 := constantI S_ 32 256#32
  let main_v44 : IVec S1x23 32 := broadcastInDim S1x23 ![] bcast_S_S1x23 main_c_9
  let main_v45 : IVec S1x23 32 := addi main_v43 main_v44
  let main_v46 : IVec S2048x23 32 := broadcastInDim S2048x23 ![0, 1] bcast_S2048x1_S2048x23_0_1 main_v3
  let main_v47 : IVec S2048x23 32 := broadcastInDim S2048x23 ![0, 1] bcast_S1x23_S2048x23_0_1 main_v45
  let main_v48 : IVec S2048x23 1 := cmpi .sge main_v46 main_v47
  let main_v49 : IVec S2048x23 1 := ori main_v41 main_v48
  let main_v50 : IVec S2048x23 1 := andi main_v34 main_v49
  let main_c_10 : IVec S_ 32 := constantI S_ 32 0#32
  let main_v51 : IVec S23 32 := broadcastInDim S23 ![] bcast_S_S23 main_c_10
  let main_v52 : IVec S23 1 := cmpi .sge main_arg6 main_v51
  let main_c_11 : IVec S_ 32 := constantI S_ 32 8#32
  let main_v53 : IVec S23 32 := broadcastInDim S23 ![] bcast_S_S23 main_c_11
  let main_v54 : IVec S23 1 := cmpi .slt main_arg6 main_v53
  let main_v55 : IVec S23 1 := andi main_v52 main_v54
  let main_c_12 : IVec S_ 32 := constantI S_ 32 0#32
  let main_v56 : IVec S23 32 := broadcastInDim S23 ![] bcast_S_S23 main_c_12
  let main_v57 : IVec S23 1 := cmpi .sge main_arg11 main_v56
  fn_part3 (F := F) main_arg6 main_arg7 main_arg8 main_arg9 main_arg10 main_arg11 main_v50 main_v55 main_v57

def fn_part1 {F : FTy → Type} [FloatOps F] (main_arg6 : IVec S23 32) (main_arg7 : IVec S23 32) (main_arg8 : IVec S23 32) (main_arg9 : IVec S23 32) (main_arg10 : IVec S23 32) (main_arg11 : IVec S23 32) (main_v1 : IVec S1x23 32) (main_v2 : IVec S2048x1 32) (main_v3 : IVec S2048x1 32) (main_v14 : IVec S2048x1 1) (main_v17 : IVec S1x23 1) (main_c_4 : IVec S_ 32) : IVec S2048x23x22 1 :=
  let main_v18 : IVec S1x23 32 := broadcastInDim S1x23 ![] bcast_S_S1x23 main_c_4
  let main_v19 : IVec S1x23 32 := muli main_v18 main_v1
  let main_v20 : IVec S2048x23 32 := broadcastInDim S2048x23 ![0, 1] bcast_S2048x1_S2048x23_0_1 main_v2
  let main_v21 : IVec S2048x23 32 := broadcastInDim S2048x23 ![0, 1] bcast_S1x23_S2048x23_0_1 main_v19
  let main_v22 : IVec S2048x23 1 := cmpi .slt main_v20 main_v21
  let main_v23 : IVec S2048x23 1 := broadcastInDim S2048x23 ![0, 1] bcast_S1x23_S2048x23_0_1 main_v17
  let main_v24 : IVec S2048x23 1 := ori main_v23 main_v22
  let main_c_5 : IVec S_ 32 := constantI S_ 32 256#32
  let main_v25 : IVec S1x23 32 := broadcastInDim S1x23 ![] bcast_S_S1x23 main_c_5
  let main_v26 : IVec S1x23 32 := muli main_v25 main_v1
  let main_c_6 : IVec S_ 32 := constantI S_ 32 256#32
  let main_v27 : IVec S1x23 32 := broadcastInDim S1x23 ![] bcast_S_S1x23 main_c_6
  let main_v28 : IVec S1x23 32 := addi main_v26 main_v27
  let main_v29 : IVec S2048x23 32 := broadcastInDim S2048x23 ![0, 1] bcast_S2048x1_S2048x23_0_1 main_v2
  let main_v30 : IVec S2048x23 32 := broadcastInDim S2048x23 ![0, 1] bcast_S1x23_S2048x23_0_1 main_v28
  let main_v31 : IVec S2048x23 1 := cmpi .sge main_v29 main_v30
  let main_v32 : IVec S2048x23 1 := ori main_v24 main_v31
  let main_v33 : IVec S2048x23 1 := broadcastInDim S2048x23 ![0, 1] bcast_S2048x1_S2048x23_0_1 main_v14
  let main_v34 : IVec S2048x23 1 := andi main_v33 main_v32
  let main_c_7 : IVec S_ 32 := constantI S_ 32 256#32
  let main_v35 : IVec S1x23 32 := broadcastInDim S1x23 ![] bcast_S_S1x23 main_c_7
  let main_v36 : IVec S1x23 32 := muli main_v35 main_v1
  let main_v37 : IVec S2048x23 32 := broadcastInDim S2048x23 ![0, 1] bcast_S2048x1_S2048x23_0_1 main_v3
  let main_v38 : IVec S2048x23 32 := broadcastInDim S2048x23 ![0, 1] bcast_S1x23_S2048x23_0_1 main_v36
  fn_part2 (F := F) main_arg6 main_arg7 main_arg8 main_arg9 main_arg10 main_arg11 main_v1 main_v3 main_v17 main_v34 main_v37 main_v38

def fn {F : FTy → Type} [FloatOps F] (main_arg0 : FVec F S2048x1024 .f32) (main_arg1 : FVec F S1024x8 .f32) (main_arg2 : FVec F S5888x1024 .f32) (main_arg3 : FVec F S8x1024x2048 .f32) (main_arg4 : FVec F S8x1024x2048 .f32) (main_arg5 : FVec F S8x2048x1024 .f32) (main_arg6 : IVec S23 32) (main_arg7 : IVec S23 32) (main_arg8 : IVec S23 32) (main_arg9 : IVec S23 32) (main_arg10 : IVec S23 32) (main_arg11 : IVec S23 32) (main_arg12 : IVec S2048 32) (main_arg13 : IVec S2048 32) : IVec S2048x23x22 1 :=
  let main_v0 : IVec S23 32 := iotaInDim S23 32 0
  let main_v1 : IVec S1x23 32 := broadcastInDim S1x23 ![1] bcast_S23_S1x23_1 main_v0
  let main_v2 : IVec S2048x1 32 := broadcastInDim S2048x1 ![0] bcast_S2048_S2048x1_0 main_arg12
  let main_v3 : IVec S2048x1 32 := broadcastInDim S2048x1 ![0] bcast_S2048_S2048x1_0 main_arg13
  let main_c : IVec S_ 32 := constantI S_ 32 0#32
  let main_v4 : IVec S2048x1 32 := broadcastInDim S2048x1 ![] bcast_S_S2048x1 main_c
  let main_v5 : IVec S2048x1 1 := cmpi .sge main_v2 main_v4
  let main_c_0 : IVec S_ 32 := constantI S_ 32 5888#32
  let main_v6 : IVec S2048x1 32 := broadcastInDim S2048x1 ![] bcast_S_S2048x1 main_c_0
  let main_v7 : IVec S2048x1 1 := cmpi .slt main_v2 main_v6
  let main_v8 : IVec S2048x1 1 := andi main_v5 main_v7
  let main_c_1 : IVec S_ 32 := constantI S_ 32 0#32
  let main_v9 : IVec S2048x1 32 := broadcastInDim S2048x1 ![] bcast_S_S2048x1 main_c_1
  let main_v10 : IVec S2048x1 1 := cmpi .sge main_v3 main_v9
  let main_v11 : IVec S2048x1 1 := andi main_v8 main_v10
  let main_c_2 : IVec S_ 32 := constantI S_ 32 5888#32
  let main_v12 : IVec S2048x1 32 := broadcastInDim S2048x1 ![] bcast_S_S2048x1 main_c_2
  let main_v13 : IVec S2048x1 1 := cmpi .slt main_v3 main_v12
  let main_v14 : IVec S2048x1 1 := andi main_v11 main_v13
  let main_v15 : IVec S1x23 32 := broadcastInDim S1x23 ![1] bcast_S23_S1x23_1 main_arg7
  let main_c_3 : IVec S_ 32 := constantI S_ 32 1#32
  let main_v16 : IVec S1x23 32 := broadcastInDim S1x23 ![] bcast_S_S1x23 main_c_3
  let main_v17 : IVec S1x23 1 := cmpi .eq main_v15 main_v16
  let main_c_4 : IVec S_ 32 := constantI S_ 32 256#32
  fn_part1 (F := F) main_arg6 main_arg7 main_arg8 main_arg9 main_arg10 main_arg11 main_v1 main_v2 main_v3 main_v14 main_v17 main_c_4
-- ==== Kernel.lean ====
abbrev S2048x1024 : Shape := ⟨2, ![2048, 1024]⟩
abbrev S1024x8 : Shape := ⟨2, ![1024, 8]⟩
abbrev S5888x1024 : Shape := ⟨2, ![5888, 1024]⟩
abbrev S8x1024x2048 : Shape := ⟨3, ![8, 1024, 2048]⟩
abbrev S8x2048x1024 : Shape := ⟨3, ![8, 2048, 1024]⟩
abbrev S23 : Shape := ⟨1, ![23]⟩
abbrev S2048 : Shape := ⟨1, ![2048]⟩
abbrev S2048x8 : Shape := ⟨2, ![2048, 8]⟩
abbrev S2048x1 : Shape := ⟨2, ![2048, 1]⟩
abbrev S2048x16 : Shape := ⟨2, ![2048, 16]⟩
abbrev S23x1 : Shape := ⟨2, ![23, 1]⟩
abbrev S4096x8 : Shape := ⟨2, ![4096, 8]⟩
abbrev S512x512 : Shape := ⟨2, ![512, 512]⟩
abbrev S1x8 : Shape := ⟨2, ![1, 8]⟩
abbrev S512x8 : Shape := ⟨2, ![512, 8]⟩
abbrev S512 : Shape := ⟨1, ![512]⟩
abbrev S512x1 : Shape := ⟨2, ![512, 1]⟩
abbrev S8 : Shape := ⟨1, ![8]⟩
abbrev S4096x1 : Shape := ⟨2, ![4096, 1]⟩
abbrev S8x8 : Shape := ⟨2, ![8, 8]⟩
abbrev S4096 : Shape := ⟨1, ![4096]⟩
abbrev S23x8 : Shape := ⟨2, ![23, 8]⟩
abbrev S8x1 : Shape := ⟨2, ![8, 1]⟩
abbrev S256x1024 : Shape := ⟨2, ![256, 1024]⟩
abbrev S2x1024x2048 : Shape := ⟨3, ![2, 1024, 2048]⟩
abbrev S2x2048x1024 : Shape := ⟨3, ![2, 2048, 1024]⟩
abbrev S2 : Shape := ⟨1, ![2]⟩
abbrev S1 : Shape := ⟨1, ![1]⟩
abbrev S_ : Shape := ⟨0, ![]⟩
abbrev S1x512x2048 : Shape := ⟨3, ![1, 512, 2048]⟩
abbrev S512x2048 : Shape := ⟨2, ![512, 2048]⟩
abbrev S1x1024x1024 : Shape := ⟨3, ![1, 1024, 1024]⟩
abbrev S1024x1024 : Shape := ⟨2, ![1024, 1024]⟩
abbrev S1x1024x2048 : Shape := ⟨3, ![1, 1024, 2048]⟩
abbrev S1024x2048 : Shape := ⟨2, ![1024, 2048]⟩
abbrev S256x2048 : Shape := ⟨2, ![256, 2048]⟩
abbrev S1x2048x1024 : Shape := ⟨3, ![1, 2048, 1024]⟩
abbrev S32 : Shape := ⟨1, ![32]⟩
abbrev S32x16 : Shape := ⟨2, ![32, 16]⟩
abbrev S32x1024 : Shape := ⟨2, ![32, 1024]⟩
abbrev S32x128 : Shape := ⟨2, ![32, 128]⟩
abbrev S5888x128 : Shape := ⟨2, ![5888, 128]⟩
abbrev S1x16 : Shape := ⟨2, ![1, 16]⟩
abbrev S16 : Shape := ⟨1, ![16]⟩

abbrev nBuf : Table → Nat
  | .hbm => 21
  | .local .tc .vmem => 20
  | .local .tc .smem => 6
  | .local .scVector .vmem => 6
  | _ => 0

abbrev bufTy : (tb : Table) → Fin (nBuf tb) → BufTy
  | .hbm, ⟨0, _⟩ => ⟨S2048x1024, .f32⟩
  | .hbm, ⟨1, _⟩ => ⟨S1024x8, .f32⟩
  | .hbm, ⟨2, _⟩ => ⟨S5888x1024, .f32⟩
  | .hbm, ⟨3, _⟩ => ⟨S8x1024x2048, .f32⟩
  | .hbm, ⟨4, _⟩ => ⟨S8x1024x2048, .f32⟩
  | .hbm, ⟨5, _⟩ => ⟨S8x2048x1024, .f32⟩
  | .hbm, ⟨6, _⟩ => ⟨S2048, .i32⟩
  | .hbm, ⟨7, _⟩ => ⟨S2048, .i32⟩
  | .hbm, ⟨8, _⟩ => ⟨S2048x8, .f32⟩
  | .hbm, ⟨9, _⟩ => ⟨S2048x1, .i32⟩
  | .hbm, ⟨10, _⟩ => ⟨S2048x1, .i32⟩
  | .hbm, ⟨11, _⟩ => ⟨S2048x16, .f32⟩
  | .hbm, ⟨12, _⟩ => ⟨S2048x16, .f32⟩
  | .hbm, ⟨13, _⟩ => ⟨S23x1, .i32⟩
  | .hbm, ⟨14, _⟩ => ⟨S23x1, .i32⟩
  | .hbm, ⟨15, _⟩ => ⟨S23x1, .i32⟩
  | .hbm, ⟨16, _⟩ => ⟨S23x1, .i32⟩
  | .hbm, ⟨17, _⟩ => ⟨S23x1, .i32⟩
  | .hbm, ⟨18, _⟩ => ⟨S23x1, .i32⟩
  | .hbm, ⟨19, _⟩ => ⟨S5888x1024, .f32⟩
  | .hbm, ⟨20, _⟩ => ⟨S2048x1024, .f32⟩
  | .local .tc .vmem, ⟨0, _⟩ => ⟨S2048x1024, .f32⟩
  | .local .tc .vmem, ⟨1, _⟩ => ⟨S1024x8, .f32⟩
  | .local .tc .vmem, ⟨2, _⟩ => ⟨S2048x8, .f32⟩
  | .local .tc .vmem, ⟨3, _⟩ => ⟨S2048x1, .i32⟩
  | .local .tc .vmem, ⟨4, _⟩ => ⟨S2048x1, .i32⟩
  | .local .tc .vmem, ⟨5, _⟩ => ⟨S2048x16, .f32⟩
  | .local .tc .vmem, ⟨6, _⟩ => ⟨S2048x16, .f32⟩
  | .local .tc .vmem, ⟨7, _⟩ => ⟨S23x1, .i32⟩
  | .local .tc .vmem, ⟨8, _⟩ => ⟨S23x1, .i32⟩
  | .local .tc .vmem, ⟨9, _⟩ => ⟨S23x1, .i32⟩
  | .local .tc .vmem, ⟨10, _⟩ => ⟨S23x1, .i32⟩
  | .local .tc .vmem, ⟨11, _⟩ => ⟨S23x1, .i32⟩
  | .local .tc .vmem, ⟨12, _⟩ => ⟨S23x1, .i32⟩
  | .local .tc .vmem, ⟨13, _⟩ => ⟨S256x1024, .f32⟩
  | .local .tc .vmem, ⟨14, _⟩ => ⟨S256x1024, .f32⟩
  | .local .tc .vmem, ⟨15, _⟩ => ⟨S256x1024, .f32⟩
  | .local .tc .vmem, ⟨16, _⟩ => ⟨S256x1024, .f32⟩
  | .local .tc .vmem, ⟨17, _⟩ => ⟨S2x1024x2048, .f32⟩
  | .local .tc .vmem, ⟨18, _⟩ => ⟨S2x1024x2048, .f32⟩
  | .local .tc .vmem, ⟨19, _⟩ => ⟨S2x2048x1024, .f32⟩
  | .local .tc .smem, ⟨0, _⟩ => ⟨S23, .i32⟩
  | .local .tc .smem, ⟨1, _⟩ => ⟨S23, .i32⟩
  | .local .tc .smem, ⟨2, _⟩ => ⟨S23, .i32⟩
  | .local .tc .smem, ⟨3, _⟩ => ⟨S23, .i32⟩
  | .local .tc .smem, ⟨4, _⟩ => ⟨S23, .i32⟩
  | .local .tc .smem, ⟨5, _⟩ => ⟨S23, .i32⟩
  | .local .scVector .vmem, ⟨0, _⟩ => ⟨S32, .i32⟩
  | .local .scVector .vmem, ⟨1, _⟩ => ⟨S32, .i32⟩
  | .local .scVector .vmem, ⟨2, _⟩ => ⟨S32x16, .f32⟩
  | .local .scVector .vmem, ⟨3, _⟩ => ⟨S32x16, .f32⟩
  | .local .scVector .vmem, ⟨4, _⟩ => ⟨S32x1024, .f32⟩
  | .local .scVector .vmem, ⟨5, _⟩ => ⟨S32x1024, .f32⟩
  | _, _ => ⟨S2048x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | _ => false

abbrev sig : RefSig :=
  ofTables nBuf rfl bufTy 4 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg12 : Ref sig .tc := ⟨.hbm, 6, rfl⟩
abbrev main_arg13 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev main_v0_8 : Ref sig .tc := ⟨.hbm, 16, rfl⟩
abbrev main_v0_9 : Ref sig .tc := ⟨.hbm, 17, rfl⟩
abbrev main_v0_10 : Ref sig .tc := ⟨.hbm, 18, rfl⟩
abbrev main_v1 : Ref sig .tc := ⟨.hbm, 19, rfl⟩
abbrev main_v2 : Ref sig .tc := ⟨.hbm, 20, rfl⟩
abbrev main_arg6 : Ref sig .tc := ⟨.smem, 0, rfl⟩
abbrev main_arg7 : Ref sig .tc := ⟨.smem, 1, rfl⟩
abbrev main_arg8 : Ref sig .tc := ⟨.smem, 2, rfl⟩
abbrev main_arg9 : Ref sig .tc := ⟨.smem, 3, rfl⟩
abbrev main_arg10 : Ref sig .tc := ⟨.smem, 4, rfl⟩
abbrev main_arg11 : Ref sig .tc := ⟨.smem, 5, rfl⟩
abbrev main_v1_scv : Ref sig .scVector := ⟨.hbm, 19, rfl⟩
abbrev main_arg12_scv : Ref sig .scVector := ⟨.hbm, 6, rfl⟩
abbrev main_arg13_scv : Ref sig .scVector := ⟨.hbm, 7, rfl⟩
abbrev main_v0_3_scv : Ref sig .scVector := ⟨.hbm, 11, rfl⟩
abbrev main_v0_4_scv : Ref sig .scVector := ⟨.hbm, 12, rfl⟩
abbrev main_v2_scv : Ref sig .scVector := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc2_scratch3 : Ref sig .scVector := ⟨.vmem, 3, rfl⟩
abbrev cc2_scratch4 : Ref sig .scVector := ⟨.vmem, 4, rfl⟩
abbrev cc2_scratch5 : Ref sig .scVector := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc1_sem0_0 : DmaSem sig := 13
abbrev cc1_sem0_1 : DmaSem sig := 14
abbrev cc1_sem1_0 : DmaSem sig := 15
abbrev cc1_sem1_1 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S23x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S23x1 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S23x1 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S23x1 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S23x1 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S23x1 .i32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev grid1 : Pipeline.Grid := ⟨1, ![23], ![false]⟩

abbrev pre1 : Pipeline.Prefetch sig := ⟨6, ![main_arg6.idx, main_arg7.idx, main_arg8.idx, main_arg9.idx, main_arg10.idx, main_arg11.idx], fun | 0 => main_arg6.names | 1 => main_arg7.names | 2 => main_arg8.names | 3 => main_arg9.names | 4 => main_arg10.names | 5 => main_arg11.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_cond1 (i : grid1.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_0 : BitVec 32 := 0#32
  let v6 : BitVec 1 := Scalar.cmpi .ne v5 c0_i32_0
  v6

def k1_off2 (v3 : BitVec 32) : Fin 1 → Nat :=
  ![v3.toNat]

def k1_off3 (v3 : BitVec 32) : Fin 3 → Nat :=
  let c0_i32_10 : BitVec 32 := 0#32
  let c0_i32_11 : BitVec 32 := 0#32
  ![v3.toNat, 0, 0]
def k1_off4 (v1 : BitVec 32) : Fin 3 → Nat :=
  let c0_i32_12 : BitVec 32 := 0#32
  let c0_i32_13 : BitVec 32 := 0#32
  ![v1.toNat, 0, 0]

def k1_off5 (v3 : BitVec 32) : Fin 1 → Nat :=
  ![v3.toNat]
def k1_off6 (v3 : BitVec 32) : Fin 3 → Nat :=
  let c512_i32 : BitVec 32 := 512#32
  let c0_i32_14 : BitVec 32 := 0#32
  ![v3.toNat, 512, 0]
def k1_off7 (v1 : BitVec 32) : Fin 3 → Nat :=
  let c512_i32_15 : BitVec 32 := 512#32
  let c0_i32_16 : BitVec 32 := 0#32
  ![v1.toNat, 512, 0]
def k1_off8 (v3 : BitVec 32) : Fin 3 → Nat :=
  let c0_i32_17 : BitVec 32 := 0#32
  let c0_i32_18 : BitVec 32 := 0#32
  ![v3.toNat, 0, 0]
def k1_off9 (v3 : BitVec 32) : Fin 3 → Nat :=
  let c0_i32_25 : BitVec 32 := 0#32
  let c0_i32_26 : BitVec 32 := 0#32
  ![v3.toNat, 0, 0]
def k1_off10 (v1 : BitVec 32) : Fin 3 → Nat :=
  let c0_i32_27 : BitVec 32 := 0#32
  let c0_i32_28 : BitVec 32 := 0#32
  ![v1.toNat, 0, 0]
def k1_off11 (v3 : BitVec 32) : Fin 3 → Nat :=
  let c1024_i32 : BitVec 32 := 1024#32
  let c0_i32_29 : BitVec 32 := 0#32
  ![v3.toNat, 1024, 0]

def k1_chk1 (i : grid1.Coords) (v3 : BitVec 32) : Prop :=
  (∀ (k1_h1 : k1_cond1 i = 1#1), ∀ a, (k1_off2 v3) a + S1.size a ≤ S2.size a) ∧
  (∀ (k1_h1 : k1_cond1 i = 1#1), ∀ a, (k1_off3 v3) a + S1x512x2048.size a ≤ S2x1024x2048.size a) ∧
  (∀ (k1_h1 : k1_cond1 i = 1#1), ∀ a, (k1_off5 v3) a + S1.size a ≤ S2.size a) ∧
  (∀ (k1_h1 : k1_cond1 i = 1#1), ∀ a, (k1_off6 v3) a + S1x512x2048.size a ≤ S2x1024x2048.size a) ∧
  (∀ (k1_h1 : k1_cond1 i = 1#1), ∀ a, (k1_off8 v3) a + S1x512x2048.size a ≤ S2x1024x2048.size a) ∧
  (∀ (k1_h1 : k1_cond1 i = 1#1), ∀ a, (k1_off9 v3) a + S1x1024x1024.size a ≤ S2x2048x1024.size a) ∧
  (∀ (k1_h1 : k1_cond1 i = 1#1), ∀ a, (k1_off11 v3) a + S1x1024x1024.size a ≤ S2x2048x1024.size a)
theorem k1_off2_inb : ∀ (i : grid1.Coords) (v3 : BitVec 32) (k1_hw1 : k1_chk1 i v3), ∀ (k1_h1 : k1_cond1 i = 1#1), ∀ a, (k1_off2 v3) a + S1.size a ≤ S2.size a := fun i v3 k1_hw1 k1_h1 => k1_hw1.1 k1_h1
theorem k1_off3_inb : ∀ (i : grid1.Coords) (v3 : BitVec 32) (k1_hw1 : k1_chk1 i v3), ∀ (k1_h1 : k1_cond1 i = 1#1), ∀ a, (k1_off3 v3) a + S1x512x2048.size a ≤ S2x1024x2048.size a := fun i v3 k1_hw1 k1_h1 => k1_hw1.2.1 k1_h1
theorem k1_off5_inb : ∀ (i : grid1.Coords) (v3 : BitVec 32) (k1_hw1 : k1_chk1 i v3), ∀ (k1_h1 : k1_cond1 i = 1#1), ∀ a, (k1_off5 v3) a + S1.size a ≤ S2.size a := fun i v3 k1_hw1 k1_h1 => k1_hw1.2.2.1 k1_h1
theorem k1_off6_inb : ∀ (i : grid1.Coords) (v3 : BitVec 32) (k1_hw1 : k1_chk1 i v3), ∀ (k1_h1 : k1_cond1 i = 1#1), ∀ a, (k1_off6 v3) a + S1x512x2048.size a ≤ S2x1024x2048.size a := fun i v3 k1_hw1 k1_h1 => k1_hw1.2.2.2.1 k1_h1
theorem k1_off8_inb : ∀ (i : grid1.Coords) (v3 : BitVec 32) (k1_hw1 : k1_chk1 i v3), ∀ (k1_h1 : k1_cond1 i = 1#1), ∀ a, (k1_off8 v3) a + S1x512x2048.size a ≤ S2x1024x2048.size a := fun i v3 k1_hw1 k1_h1 => k1_hw1.2.2.2.2.1 k1_h1
theorem k1_off9_inb : ∀ (i : grid1.Coords) (v3 : BitVec 32) (k1_hw1 : k1_chk1 i v3), ∀ (k1_h1 : k1_cond1 i = 1#1), ∀ a, (k1_off9 v3) a + S1x1024x1024.size a ≤ S2x2048x1024.size a := fun i v3 k1_hw1 k1_h1 => k1_hw1.2.2.2.2.2.1 k1_h1
theorem k1_off11_inb : ∀ (i : grid1.Coords) (v3 : BitVec 32) (k1_hw1 : k1_chk1 i v3), ∀ (k1_h1 : k1_cond1 i = 1#1), ∀ a, (k1_off11 v3) a + S1x1024x1024.size a ≤ S2x2048x1024.size a := fun i v3 k1_hw1 k1_h1 => k1_hw1.2.2.2.2.2.2 k1_h1

def k1_off12 (v1 : BitVec 32) : Fin 3 → Nat :=
  let c1024_i32_30 : BitVec 32 := 1024#32
  let c0_i32_31 : BitVec 32 := 0#32
  ![v1.toNat, 1024, 0]

def k1_chk2 (i : grid1.Coords) (v1 : BitVec 32) : Prop :=
  (∀ (k1_h1 : k1_cond1 i = 1#1), ∀ a, (k1_off4 v1) a + S1x512x2048.size a ≤ S8x1024x2048.size a) ∧
  (∀ (k1_h1 : k1_cond1 i = 1#1), ∀ a, (k1_off7 v1) a + S1x512x2048.size a ≤ S8x1024x2048.size a) ∧
  (∀ (k1_h1 : k1_cond1 i = 1#1), ∀ a, (k1_off10 v1) a + S1x1024x1024.size a ≤ S8x2048x1024.size a) ∧
  (∀ (k1_h1 : k1_cond1 i = 1#1), ∀ a, (k1_off12 v1) a + S1x1024x1024.size a ≤ S8x2048x1024.size a)
theorem k1_off4_inb : ∀ (i : grid1.Coords) (v1 : BitVec 32) (k1_hw2 : k1_chk2 i v1), ∀ (k1_h1 : k1_cond1 i = 1#1), ∀ a, (k1_off4 v1) a + S1x512x2048.size a ≤ S8x1024x2048.size a := fun i v1 k1_hw2 k1_h1 => k1_hw2.1 k1_h1
theorem k1_off7_inb : ∀ (i : grid1.Coords) (v1 : BitVec 32) (k1_hw2 : k1_chk2 i v1), ∀ (k1_h1 : k1_cond1 i = 1#1), ∀ a, (k1_off7 v1) a + S1x512x2048.size a ≤ S8x1024x2048.size a := fun i v1 k1_hw2 k1_h1 => k1_hw2.2.1 k1_h1
theorem k1_off10_inb : ∀ (i : grid1.Coords) (v1 : BitVec 32) (k1_hw2 : k1_chk2 i v1), ∀ (k1_h1 : k1_cond1 i = 1#1), ∀ a, (k1_off10 v1) a + S1x1024x1024.size a ≤ S8x2048x1024.size a := fun i v1 k1_hw2 k1_h1 => k1_hw2.2.2.1 k1_h1
theorem k1_off12_inb : ∀ (i : grid1.Coords) (v1 : BitVec 32) (k1_hw2 : k1_chk2 i v1), ∀ (k1_h1 : k1_cond1 i = 1#1), ∀ a, (k1_off12 v1) a + S1x1024x1024.size a ≤ S8x2048x1024.size a := fun i v1 k1_hw2 k1_h1 => k1_hw2.2.2.2 k1_h1

def k1_off13 (i : grid1.Coords) : Fin 1 → Nat :=
  let arg0 : BitVec 32 := BitVec.ofNat 32 (i 0).val
  let v7 : Index := Scalar.indexCast arg0
  ![v7.toNat]
def k1_off14 (v3 : BitVec 32) : Fin 1 → Nat :=
  ![v3.toNat]
def k1_cond2 (v8 : BitVec 32) : BitVec 1 :=
  let c1_i32 : BitVec 32 := 1#32
  let v9 : BitVec 1 := Scalar.cmpi .eq v8 c1_i32
  let v10 : BitVec 32 := Scalar.extui v9
  let c0_i32_1 : BitVec 32 := 0#32
  let v11 : BitVec 1 := Scalar.cmpi .ne v10 c0_i32_1
  v11

def k1_off15 (v3 : BitVec 32) : Fin 3 → Nat :=
  let c0_i32_10 : BitVec 32 := 0#32
  let c0_i32_11 : BitVec 32 := 0#32
  ![v3.toNat, 0, 0]
def k1_off16 (v1 : BitVec 32) : Fin 3 → Nat :=
  let c0_i32_12 : BitVec 32 := 0#32
  let c0_i32_13 : BitVec 32 := 0#32
  ![v1.toNat, 0, 0]
def k1_off17 (v3 : BitVec 32) : Fin 3 → Nat :=
  let c512_i32 : BitVec 32 := 512#32
  let c0_i32_14 : BitVec 32 := 0#32
  ![v3.toNat, 512, 0]
def k1_off18 (v1 : BitVec 32) : Fin 3 → Nat :=
  let c512_i32_15 : BitVec 32 := 512#32
  let c0_i32_16 : BitVec 32 := 0#32
  ![v1.toNat, 512, 0]
def k1_off19 (v3 : BitVec 32) : Fin 3 → Nat :=
  let c0_i32_25 : BitVec 32 := 0#32
  let c0_i32_26 : BitVec 32 := 0#32
  ![v3.toNat, 0, 0]
def k1_off20 (v1 : BitVec 32) : Fin 3 → Nat :=
  let c0_i32_27 : BitVec 32 := 0#32
  let c0_i32_28 : BitVec 32 := 0#32
  ![v1.toNat, 0, 0]
def k1_off21 (v3 : BitVec 32) : Fin 3 → Nat :=
  let c1024_i32 : BitVec 32 := 1024#32
  let c0_i32_29 : BitVec 32 := 0#32
  ![v3.toNat, 1024, 0]
def k1_off22 (v1 : BitVec 32) : Fin 3 → Nat :=
  let c1024_i32_30 : BitVec 32 := 1024#32
  let c0_i32_31 : BitVec 32 := 0#32
  ![v1.toNat, 1024, 0]

def k1_chk3 (v1 : BitVec 32) (v3 : BitVec 32) (v8 : BitVec 32) : Prop :=
  (∀ (k1_h2 : k1_cond2 v8 = 1#1), ∀ a, (k1_off14 v3) a + S1.size a ≤ S2.size a) ∧
  (∀ (k1_h2 : k1_cond2 v8 = 1#1), ∀ a, (k1_off15 v3) a + S1x512x2048.size a ≤ S2x1024x2048.size a) ∧
  (∀ (k1_h2 : k1_cond2 v8 = 1#1), ∀ a, (k1_off16 v1) a + S1x512x2048.size a ≤ S8x1024x2048.size a) ∧
  (∀ (k1_h2 : k1_cond2 v8 = 1#1), ∀ a, (k1_off17 v3) a + S1x512x2048.size a ≤ S2x1024x2048.size a) ∧
  (∀ (k1_h2 : k1_cond2 v8 = 1#1), ∀ a, (k1_off18 v1) a + S1x512x2048.size a ≤ S8x1024x2048.size a) ∧
  (∀ (k1_h2 : k1_cond2 v8 = 1#1), ∀ a, (k1_off19 v3) a + S1x1024x1024.size a ≤ S2x2048x1024.size a) ∧
  (∀ (k1_h2 : k1_cond2 v8 = 1#1), ∀ a, (k1_off20 v1) a + S1x1024x1024.size a ≤ S8x2048x1024.size a) ∧
  (∀ (k1_h2 : k1_cond2 v8 = 1#1), ∀ a, (k1_off21 v3) a + S1x1024x1024.size a ≤ S2x2048x1024.size a) ∧
  (∀ (k1_h2 : k1_cond2 v8 = 1#1), ∀ a, (k1_off22 v1) a + S1x1024x1024.size a ≤ S8x2048x1024.size a)
theorem k1_off14_inb : ∀ (v1 : BitVec 32) (v3 : BitVec 32) (v8 : BitVec 32) (k1_hw3 : k1_chk3 v1 v3 v8), ∀ (k1_h2 : k1_cond2 v8 = 1#1), ∀ a, (k1_off14 v3) a + S1.size a ≤ S2.size a := fun v1 v3 v8 k1_hw3 k1_h2 => k1_hw3.1 k1_h2
theorem k1_off15_inb : ∀ (v1 : BitVec 32) (v3 : BitVec 32) (v8 : BitVec 32) (k1_hw3 : k1_chk3 v1 v3 v8), ∀ (k1_h2 : k1_cond2 v8 = 1#1), ∀ a, (k1_off15 v3) a + S1x512x2048.size a ≤ S2x1024x2048.size a := fun v1 v3 v8 k1_hw3 k1_h2 => k1_hw3.2.1 k1_h2
theorem k1_off16_inb : ∀ (v1 : BitVec 32) (v3 : BitVec 32) (v8 : BitVec 32) (k1_hw3 : k1_chk3 v1 v3 v8), ∀ (k1_h2 : k1_cond2 v8 = 1#1), ∀ a, (k1_off16 v1) a + S1x512x2048.size a ≤ S8x1024x2048.size a := fun v1 v3 v8 k1_hw3 k1_h2 => k1_hw3.2.2.1 k1_h2
theorem k1_off17_inb : ∀ (v1 : BitVec 32) (v3 : BitVec 32) (v8 : BitVec 32) (k1_hw3 : k1_chk3 v1 v3 v8), ∀ (k1_h2 : k1_cond2 v8 = 1#1), ∀ a, (k1_off17 v3) a + S1x512x2048.size a ≤ S2x1024x2048.size a := fun v1 v3 v8 k1_hw3 k1_h2 => k1_hw3.2.2.2.1 k1_h2
theorem k1_off18_inb : ∀ (v1 : BitVec 32) (v3 : BitVec 32) (v8 : BitVec 32) (k1_hw3 : k1_chk3 v1 v3 v8), ∀ (k1_h2 : k1_cond2 v8 = 1#1), ∀ a, (k1_off18 v1) a + S1x512x2048.size a ≤ S8x1024x2048.size a := fun v1 v3 v8 k1_hw3 k1_h2 => k1_hw3.2.2.2.2.1 k1_h2
theorem k1_off19_inb : ∀ (v1 : BitVec 32) (v3 : BitVec 32) (v8 : BitVec 32) (k1_hw3 : k1_chk3 v1 v3 v8), ∀ (k1_h2 : k1_cond2 v8 = 1#1), ∀ a, (k1_off19 v3) a + S1x1024x1024.size a ≤ S2x2048x1024.size a := fun v1 v3 v8 k1_hw3 k1_h2 => k1_hw3.2.2.2.2.2.1 k1_h2
theorem k1_off20_inb : ∀ (v1 : BitVec 32) (v3 : BitVec 32) (v8 : BitVec 32) (k1_hw3 : k1_chk3 v1 v3 v8), ∀ (k1_h2 : k1_cond2 v8 = 1#1), ∀ a, (k1_off20 v1) a + S1x1024x1024.size a ≤ S8x2048x1024.size a := fun v1 v3 v8 k1_hw3 k1_h2 => k1_hw3.2.2.2.2.2.2.1 k1_h2
theorem k1_off21_inb : ∀ (v1 : BitVec 32) (v3 : BitVec 32) (v8 : BitVec 32) (k1_hw3 : k1_chk3 v1 v3 v8), ∀ (k1_h2 : k1_cond2 v8 = 1#1), ∀ a, (k1_off21 v3) a + S1x1024x1024.size a ≤ S2x2048x1024.size a := fun v1 v3 v8 k1_hw3 k1_h2 => k1_hw3.2.2.2.2.2.2.2.1 k1_h2
theorem k1_off22_inb : ∀ (v1 : BitVec 32) (v3 : BitVec 32) (v8 : BitVec 32) (k1_hw3 : k1_chk3 v1 v3 v8), ∀ (k1_h2 : k1_cond2 v8 = 1#1), ∀ a, (k1_off22 v1) a + S1x1024x1024.size a ≤ S8x2048x1024.size a := fun v1 v3 v8 k1_hw3 k1_h2 => k1_hw3.2.2.2.2.2.2.2.2 k1_h2

def k1_off23 (i : grid1.Coords) : Fin 1 → Nat :=
  let arg0 : BitVec 32 := BitVec.ofNat 32 (i 0).val
  let v12 : Index := Scalar.indexCast arg0
  ![v12.toNat]
def k1_off24 (i : grid1.Coords) : Fin 1 → Nat :=
  let arg0 : BitVec 32 := BitVec.ofNat 32 (i 0).val
  let v31 : Index := Scalar.indexCast arg0
  ![v31.toNat]
def k1_off25 (v3 : BitVec 32) : Fin 1 → Nat :=
  let c1_i32_10 : BitVec 32 := 1#32
  let v33 : BitVec 32 := Scalar.subi c1_i32_10 v3
  ![v33.toNat]
def k1_cond3 (v13 : BitVec 32) : BitVec 1 :=
  let c1_i32_2 : BitVec 32 := 1#32
  let v14 : BitVec 1 := Scalar.cmpi .eq v13 c1_i32_2
  let v15 : BitVec 32 := Scalar.extui v14
  let c0_i32_3 : BitVec 32 := 0#32
  let v16 : BitVec 1 := Scalar.cmpi .ne v15 c0_i32_3
  v16

def k1_off26 (v3 : BitVec 32) : Fin 3 → Nat :=
  let c1_i32_10 : BitVec 32 := 1#32
  let v33 : BitVec 32 := Scalar.subi c1_i32_10 v3
  let c0_i32_11 : BitVec 32 := 0#32
  let c0_i32_12 : BitVec 32 := 0#32
  ![v33.toNat, 0, 0]
def k1_off27 (v32 : BitVec 32) : Fin 3 → Nat :=
  let c0_i32_13 : BitVec 32 := 0#32
  let c0_i32_14 : BitVec 32 := 0#32
  ![v32.toNat, 0, 0]

def k1_off28 (v3 : BitVec 32) : Fin 1 → Nat :=
  let c1_i32_10 : BitVec 32 := 1#32
  let v33 : BitVec 32 := Scalar.subi c1_i32_10 v3
  ![v33.toNat]
def k1_off29 (v3 : BitVec 32) : Fin 3 → Nat :=
  let c1_i32_10 : BitVec 32 := 1#32
  let v33 : BitVec 32 := Scalar.subi c1_i32_10 v3
  let c512_i32 : BitVec 32 := 512#32
  let c0_i32_15 : BitVec 32 := 0#32
  ![v33.toNat, 512, 0]
def k1_off30 (v32 : BitVec 32) : Fin 3 → Nat :=
  let c512_i32_16 : BitVec 32 := 512#32
  let c0_i32_17 : BitVec 32 := 0#32
  ![v32.toNat, 512, 0]
def k1_off31 (v3 : BitVec 32) : Fin 3 → Nat :=
  let c1_i32_10 : BitVec 32 := 1#32
  let v33 : BitVec 32 := Scalar.subi c1_i32_10 v3
  let c0_i32_18 : BitVec 32 := 0#32
  let c0_i32_19 : BitVec 32 := 0#32
  ![v33.toNat, 0, 0]
def k1_off32 (v3 : BitVec 32) : Fin 3 → Nat :=
  let c1_i32_10 : BitVec 32 := 1#32
  let v33 : BitVec 32 := Scalar.subi c1_i32_10 v3
  let c0_i32_26 : BitVec 32 := 0#32
  let c0_i32_27 : BitVec 32 := 0#32
  ![v33.toNat, 0, 0]
def k1_off33 (v32 : BitVec 32) : Fin 3 → Nat :=
  let c0_i32_28 : BitVec 32 := 0#32
  let c0_i32_29 : BitVec 32 := 0#32
  ![v32.toNat, 0, 0]
def k1_off34 (v3 : BitVec 32) : Fin 3 → Nat :=
  let c1_i32_10 : BitVec 32 := 1#32
  let v33 : BitVec 32 := Scalar.subi c1_i32_10 v3
  let c1024_i32 : BitVec 32 := 1024#32
  let c0_i32_30 : BitVec 32 := 0#32
  ![v33.toNat, 1024, 0]

def k1_chk4 (v3 : BitVec 32) (v13 : BitVec 32) : Prop :=
  (∀ (k1_h3 : k1_cond3 v13 = 1#1), ∀ a, (k1_off25 v3) a + S1.size a ≤ S2.size a) ∧
  (∀ (k1_h3 : k1_cond3 v13 = 1#1), ∀ a, (k1_off26 v3) a + S1x512x2048.size a ≤ S2x1024x2048.size a) ∧
  (∀ (k1_h3 : k1_cond3 v13 = 1#1), ∀ a, (k1_off28 v3) a + S1.size a ≤ S2.size a) ∧
  (∀ (k1_h3 : k1_cond3 v13 = 1#1), ∀ a, (k1_off29 v3) a + S1x512x2048.size a ≤ S2x1024x2048.size a) ∧
  (∀ (k1_h3 : k1_cond3 v13 = 1#1), ∀ a, (k1_off31 v3) a + S1x512x2048.size a ≤ S2x1024x2048.size a) ∧
  (∀ (k1_h3 : k1_cond3 v13 = 1#1), ∀ a, (k1_off32 v3) a + S1x1024x1024.size a ≤ S2x2048x1024.size a) ∧
  (∀ (k1_h3 : k1_cond3 v13 = 1#1), ∀ a, (k1_off34 v3) a + S1x1024x1024.size a ≤ S2x2048x1024.size a)
theorem k1_off25_inb : ∀ (v3 : BitVec 32) (v13 : BitVec 32) (k1_hw4 : k1_chk4 v3 v13), ∀ (k1_h3 : k1_cond3 v13 = 1#1), ∀ a, (k1_off25 v3) a + S1.size a ≤ S2.size a := fun v3 v13 k1_hw4 k1_h3 => k1_hw4.1 k1_h3
theorem k1_off26_inb : ∀ (v3 : BitVec 32) (v13 : BitVec 32) (k1_hw4 : k1_chk4 v3 v13), ∀ (k1_h3 : k1_cond3 v13 = 1#1), ∀ a, (k1_off26 v3) a + S1x512x2048.size a ≤ S2x1024x2048.size a := fun v3 v13 k1_hw4 k1_h3 => k1_hw4.2.1 k1_h3
theorem k1_off28_inb : ∀ (v3 : BitVec 32) (v13 : BitVec 32) (k1_hw4 : k1_chk4 v3 v13), ∀ (k1_h3 : k1_cond3 v13 = 1#1), ∀ a, (k1_off28 v3) a + S1.size a ≤ S2.size a := fun v3 v13 k1_hw4 k1_h3 => k1_hw4.2.2.1 k1_h3
theorem k1_off29_inb : ∀ (v3 : BitVec 32) (v13 : BitVec 32) (k1_hw4 : k1_chk4 v3 v13), ∀ (k1_h3 : k1_cond3 v13 = 1#1), ∀ a, (k1_off29 v3) a + S1x512x2048.size a ≤ S2x1024x2048.size a := fun v3 v13 k1_hw4 k1_h3 => k1_hw4.2.2.2.1 k1_h3
theorem k1_off31_inb : ∀ (v3 : BitVec 32) (v13 : BitVec 32) (k1_hw4 : k1_chk4 v3 v13), ∀ (k1_h3 : k1_cond3 v13 = 1#1), ∀ a, (k1_off31 v3) a + S1x512x2048.size a ≤ S2x1024x2048.size a := fun v3 v13 k1_hw4 k1_h3 => k1_hw4.2.2.2.2.1 k1_h3
theorem k1_off32_inb : ∀ (v3 : BitVec 32) (v13 : BitVec 32) (k1_hw4 : k1_chk4 v3 v13), ∀ (k1_h3 : k1_cond3 v13 = 1#1), ∀ a, (k1_off32 v3) a + S1x1024x1024.size a ≤ S2x2048x1024.size a := fun v3 v13 k1_hw4 k1_h3 => k1_hw4.2.2.2.2.2.1 k1_h3
theorem k1_off34_inb : ∀ (v3 : BitVec 32) (v13 : BitVec 32) (k1_hw4 : k1_chk4 v3 v13), ∀ (k1_h3 : k1_cond3 v13 = 1#1), ∀ a, (k1_off34 v3) a + S1x1024x1024.size a ≤ S2x2048x1024.size a := fun v3 v13 k1_hw4 k1_h3 => k1_hw4.2.2.2.2.2.2 k1_h3

def k1_off35 (v32 : BitVec 32) : Fin 3 → Nat :=
  let c1024_i32_31 : BitVec 32 := 1024#32
  let c0_i32_32 : BitVec 32 := 0#32
  ![v32.toNat, 1024, 0]

def k1_chk5 (v13 : BitVec 32) (v32 : BitVec 32) : Prop :=
  (∀ (k1_h3 : k1_cond3 v13 = 1#1), ∀ a, (k1_off27 v32) a + S1x512x2048.size a ≤ S8x1024x2048.size a) ∧
  (∀ (k1_h3 : k1_cond3 v13 = 1#1), ∀ a, (k1_off30 v32) a + S1x512x2048.size a ≤ S8x1024x2048.size a) ∧
  (∀ (k1_h3 : k1_cond3 v13 = 1#1), ∀ a, (k1_off33 v32) a + S1x1024x1024.size a ≤ S8x2048x1024.size a) ∧
  (∀ (k1_h3 : k1_cond3 v13 = 1#1), ∀ a, (k1_off35 v32) a + S1x1024x1024.size a ≤ S8x2048x1024.size a)
theorem k1_off27_inb : ∀ (v13 : BitVec 32) (v32 : BitVec 32) (k1_hw5 : k1_chk5 v13 v32), ∀ (k1_h3 : k1_cond3 v13 = 1#1), ∀ a, (k1_off27 v32) a + S1x512x2048.size a ≤ S8x1024x2048.size a := fun v13 v32 k1_hw5 k1_h3 => k1_hw5.1 k1_h3
theorem k1_off30_inb : ∀ (v13 : BitVec 32) (v32 : BitVec 32) (k1_hw5 : k1_chk5 v13 v32), ∀ (k1_h3 : k1_cond3 v13 = 1#1), ∀ a, (k1_off30 v32) a + S1x512x2048.size a ≤ S8x1024x2048.size a := fun v13 v32 k1_hw5 k1_h3 => k1_hw5.2.1 k1_h3
theorem k1_off33_inb : ∀ (v13 : BitVec 32) (v32 : BitVec 32) (k1_hw5 : k1_chk5 v13 v32), ∀ (k1_h3 : k1_cond3 v13 = 1#1), ∀ a, (k1_off33 v32) a + S1x1024x1024.size a ≤ S8x2048x1024.size a := fun v13 v32 k1_hw5 k1_h3 => k1_hw5.2.2.1 k1_h3
theorem k1_off35_inb : ∀ (v13 : BitVec 32) (v32 : BitVec 32) (k1_hw5 : k1_chk5 v13 v32), ∀ (k1_h3 : k1_cond3 v13 = 1#1), ∀ a, (k1_off35 v32) a + S1x1024x1024.size a ≤ S8x2048x1024.size a := fun v13 v32 k1_hw5 k1_h3 => k1_hw5.2.2.2 k1_h3

def k1_off36 (i : grid1.Coords) : Fin 1 → Nat :=
  let arg0 : BitVec 32 := BitVec.ofNat 32 (i 0).val
  let v17 : Index := Scalar.indexCast arg0
  ![v17.toNat]
def k1_off37 (i : grid1.Coords) : Fin 1 → Nat :=
  let arg0 : BitVec 32 := BitVec.ofNat 32 (i 0).val
  let v24 : Index := Scalar.indexCast arg0
  ![v24.toNat]
def k1_cond4 (v3 : BitVec 32) (v18 : BitVec 32) : BitVec 1 :=
  let c1_i32_4 : BitVec 32 := 1#32
  let v19 : BitVec 1 := Scalar.cmpi .eq v18 c1_i32_4
  let c0_i32_5 : BitVec 32 := 0#32
  let v20 : BitVec 1 := Scalar.cmpi .eq v3 c0_i32_5
  let v21 : BitVec 1 := Scalar.andi v19 v20
  let v22 : BitVec 32 := Scalar.extui v21
  let c0_i32_6 : BitVec 32 := 0#32
  let v23 : BitVec 1 := Scalar.cmpi .ne v22 c0_i32_6
  v23

def k1_cond5 (v3 : BitVec 32) (v25 : BitVec 32) : BitVec 1 :=
  let c1_i32_7 : BitVec 32 := 1#32
  let v26 : BitVec 1 := Scalar.cmpi .eq v25 c1_i32_7
  let c1_i32_8 : BitVec 32 := 1#32
  let v27 : BitVec 1 := Scalar.cmpi .eq v3 c1_i32_8
  let v28 : BitVec 1 := Scalar.andi v26 v27
  let v29 : BitVec 32 := Scalar.extui v28
  let c0_i32_9 : BitVec 32 := 0#32
  let v30 : BitVec 1 := Scalar.cmpi .ne v29 c0_i32_9
  v30

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![2, 16], ![false, false]⟩

def k2_off1 (i : grid2.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v3 : BitVec 32 := Scalar.addi v2 c0_i32
  ![v3.toNat]
def k2_off2 (i : grid2.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v3 : BitVec 32 := Scalar.addi v2 c0_i32
  let c0_i32_24_r2 : BitVec 32 := 0#32
  ![v3.toNat, 0]
@[reducible] def k2_t1_loop : Scf.Loop 32 :=
  let c0_i32_0 : BitVec 32 := 0#32
  let c8_i32 : BitVec 32 := 8#32
  let v4 : BitVec 32 := Scalar.addi c0_i32_0 c8_i32
  let c1_i32 : BitVec 32 := 1#32
  ⟨c0_i32_0, v4, c1_i32⟩
def k2_off3 (k2_t1 : Fin k2_t1_loop.trips) : Fin 2 → Nat :=
  let c0_i32_26 : BitVec 32 := 0#32
  let c0_i32_25 : BitVec 32 := 0#32
  let c0_i32_0 : BitVec 32 := 0#32
  let c1_i32 : BitVec 32 := 1#32
  let arg15 : BitVec 32 := Scf.iv c0_i32_0 c1_i32 k2_t1
  let c1_i32_24 : BitVec 32 := 1#32
  let v13 : BitVec 32 := Scalar.muli arg15 c1_i32_24
  let v14 : BitVec 32 := Scalar.addi c0_i32_25 v13
  let c128_i32 : BitVec 32 := 128#32
  let v15 : BitVec 32 := Scalar.muli v14 c128_i32
  ![0, v15.toNat]
def k2_off4 (k2_t1 : Fin k2_t1_loop.trips) : Fin 2 → Nat :=
  let c0_i32_27 : BitVec 32 := 0#32
  let c0_i32_25 : BitVec 32 := 0#32
  let c0_i32_0 : BitVec 32 := 0#32
  let c1_i32 : BitVec 32 := 1#32
  let arg15 : BitVec 32 := Scf.iv c0_i32_0 c1_i32 k2_t1
  let c1_i32_24 : BitVec 32 := 1#32
  let v13 : BitVec 32 := Scalar.muli arg15 c1_i32_24
  let v14 : BitVec 32 := Scalar.addi c0_i32_25 v13
  let c128_i32 : BitVec 32 := 128#32
  let v15 : BitVec 32 := Scalar.muli v14 c128_i32
  ![0, v15.toNat]
@[reducible] def k2_t2_loop : Scf.Loop 32 :=
  let c0_i32_2 : BitVec 32 := 0#32
  let c8_i32_3 : BitVec 32 := 8#32
  let v5 : BitVec 32 := Scalar.addi c0_i32_2 c8_i32_3
  let c1_i32_4 : BitVec 32 := 1#32
  ⟨c0_i32_2, v5, c1_i32_4⟩
def k2_off5 (k2_t2 : Fin k2_t2_loop.trips) : Fin 2 → Nat :=
  let c0_i32_26 : BitVec 32 := 0#32
  let c0_i32_25 : BitVec 32 := 0#32
  let c0_i32_2 : BitVec 32 := 0#32
  let c1_i32_4 : BitVec 32 := 1#32
  let arg15 : BitVec 32 := Scf.iv c0_i32_2 c1_i32_4 k2_t2
  let c1_i32_24 : BitVec 32 := 1#32
  let v13 : BitVec 32 := Scalar.muli arg15 c1_i32_24
  let v14 : BitVec 32 := Scalar.addi c0_i32_25 v13
  let c128_i32 : BitVec 32 := 128#32
  let v15 : BitVec 32 := Scalar.muli v14 c128_i32
  ![0, v15.toNat]
def k2_off6 (k2_t2 : Fin k2_t2_loop.trips) : Fin 2 → Nat :=
  let c0_i32_27 : BitVec 32 := 0#32
  let c0_i32_25 : BitVec 32 := 0#32
  let c0_i32_2 : BitVec 32 := 0#32
  let c1_i32_4 : BitVec 32 := 1#32
  let arg15 : BitVec 32 := Scf.iv c0_i32_2 c1_i32_4 k2_t2
  let c1_i32_24 : BitVec 32 := 1#32
  let v13 : BitVec 32 := Scalar.muli arg15 c1_i32_24
  let v14 : BitVec 32 := Scalar.addi c0_i32_25 v13
  let c128_i32 : BitVec 32 := 128#32
  let v15 : BitVec 32 := Scalar.muli v14 c128_i32
  ![0, v15.toNat]
@[reducible] def k2_t3_loop : Scf.Loop 32 :=
  let c0_i32_7 : BitVec 32 := 0#32
  let c32_i32 : BitVec 32 := 32#32
  let v6 : BitVec 32 := Scalar.addi c0_i32_7 c32_i32
  let c1_i32_8 : BitVec 32 := 1#32
  ⟨c0_i32_7, v6, c1_i32_8⟩
def k2_off7 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v13 : Index := Scalar.indexCast arg15
  let c0 : Index := 0#32
  ![v13.toNat, 0]
def k2_off8 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v19 : Index := Scalar.indexCast arg15
  let c0_25 : Index := 0#32
  ![v19.toNat, 0]
def k2_off9 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v32 : Index := Scalar.indexCast arg15
  let c16 : Index := 16#32
  ![v32.toNat, 16]
def k2_off10 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v45 : Index := Scalar.indexCast arg15
  let c32 : Index := 32#32
  ![v45.toNat, 32]
def k2_off11 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v58 : Index := Scalar.indexCast arg15
  let c48 : Index := 48#32
  ![v58.toNat, 48]
def k2_off12 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v71 : Index := Scalar.indexCast arg15
  let c64 : Index := 64#32
  ![v71.toNat, 64]
def k2_off13 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v84 : Index := Scalar.indexCast arg15
  let c80 : Index := 80#32
  ![v84.toNat, 80]
def k2_off14 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v97 : Index := Scalar.indexCast arg15
  let c96 : Index := 96#32
  ![v97.toNat, 96]
def k2_off15 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v110 : Index := Scalar.indexCast arg15
  let c112 : Index := 112#32
  ![v110.toNat, 112]
def k2_off16 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v123 : Index := Scalar.indexCast arg15
  let c128 : Index := 128#32
  ![v123.toNat, 128]
def k2_off17 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v136 : Index := Scalar.indexCast arg15
  let c144 : Index := 144#32
  ![v136.toNat, 144]
def k2_off18 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v149 : Index := Scalar.indexCast arg15
  let c160 : Index := 160#32
  ![v149.toNat, 160]
def k2_off19 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v162 : Index := Scalar.indexCast arg15
  let c176 : Index := 176#32
  ![v162.toNat, 176]
def k2_off20 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v175 : Index := Scalar.indexCast arg15
  let c192 : Index := 192#32
  ![v175.toNat, 192]
def k2_off21 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v188 : Index := Scalar.indexCast arg15
  let c208 : Index := 208#32
  ![v188.toNat, 208]
def k2_off22 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v201 : Index := Scalar.indexCast arg15
  let c224 : Index := 224#32
  ![v201.toNat, 224]
def k2_off23 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v214 : Index := Scalar.indexCast arg15
  let c240 : Index := 240#32
  ![v214.toNat, 240]
def k2_off24 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v227 : Index := Scalar.indexCast arg15
  let c256 : Index := 256#32
  ![v227.toNat, 256]
def k2_off25 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v240 : Index := Scalar.indexCast arg15
  let c272 : Index := 272#32
  ![v240.toNat, 272]
def k2_off26 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v253 : Index := Scalar.indexCast arg15
  let c288 : Index := 288#32
  ![v253.toNat, 288]
def k2_off27 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v266 : Index := Scalar.indexCast arg15
  let c304 : Index := 304#32
  ![v266.toNat, 304]
def k2_off28 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v279 : Index := Scalar.indexCast arg15
  let c320 : Index := 320#32
  ![v279.toNat, 320]
def k2_off29 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v292 : Index := Scalar.indexCast arg15
  let c336 : Index := 336#32
  ![v292.toNat, 336]
def k2_off30 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v305 : Index := Scalar.indexCast arg15
  let c352 : Index := 352#32
  ![v305.toNat, 352]
def k2_off31 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v318 : Index := Scalar.indexCast arg15
  let c368 : Index := 368#32
  ![v318.toNat, 368]
def k2_off32 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v331 : Index := Scalar.indexCast arg15
  let c384 : Index := 384#32
  ![v331.toNat, 384]
def k2_off33 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v344 : Index := Scalar.indexCast arg15
  let c400 : Index := 400#32
  ![v344.toNat, 400]
def k2_off34 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v357 : Index := Scalar.indexCast arg15
  let c416 : Index := 416#32
  ![v357.toNat, 416]
def k2_off35 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v370 : Index := Scalar.indexCast arg15
  let c432 : Index := 432#32
  ![v370.toNat, 432]
def k2_off36 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v383 : Index := Scalar.indexCast arg15
  let c448 : Index := 448#32
  ![v383.toNat, 448]
def k2_off37 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v396 : Index := Scalar.indexCast arg15
  let c464 : Index := 464#32
  ![v396.toNat, 464]
def k2_off38 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v409 : Index := Scalar.indexCast arg15
  let c480 : Index := 480#32
  ![v409.toNat, 480]
def k2_off39 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v422 : Index := Scalar.indexCast arg15
  let c496 : Index := 496#32
  ![v422.toNat, 496]
def k2_off40 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v435 : Index := Scalar.indexCast arg15
  let c512 : Index := 512#32
  ![v435.toNat, 512]
def k2_off41 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v448 : Index := Scalar.indexCast arg15
  let c528 : Index := 528#32
  ![v448.toNat, 528]
def k2_off42 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v461 : Index := Scalar.indexCast arg15
  let c544 : Index := 544#32
  ![v461.toNat, 544]
def k2_off43 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v474 : Index := Scalar.indexCast arg15
  let c560 : Index := 560#32
  ![v474.toNat, 560]
def k2_off44 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v487 : Index := Scalar.indexCast arg15
  let c576 : Index := 576#32
  ![v487.toNat, 576]
def k2_off45 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v500 : Index := Scalar.indexCast arg15
  let c592 : Index := 592#32
  ![v500.toNat, 592]
def k2_off46 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v513 : Index := Scalar.indexCast arg15
  let c608 : Index := 608#32
  ![v513.toNat, 608]
def k2_off47 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v526 : Index := Scalar.indexCast arg15
  let c624 : Index := 624#32
  ![v526.toNat, 624]
def k2_off48 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v539 : Index := Scalar.indexCast arg15
  let c640 : Index := 640#32
  ![v539.toNat, 640]
def k2_off49 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v552 : Index := Scalar.indexCast arg15
  let c656 : Index := 656#32
  ![v552.toNat, 656]
def k2_off50 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v565 : Index := Scalar.indexCast arg15
  let c672 : Index := 672#32
  ![v565.toNat, 672]
def k2_off51 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v578 : Index := Scalar.indexCast arg15
  let c688 : Index := 688#32
  ![v578.toNat, 688]
def k2_off52 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v591 : Index := Scalar.indexCast arg15
  let c704 : Index := 704#32
  ![v591.toNat, 704]
def k2_off53 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v604 : Index := Scalar.indexCast arg15
  let c720 : Index := 720#32
  ![v604.toNat, 720]
def k2_off54 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v617 : Index := Scalar.indexCast arg15
  let c736 : Index := 736#32
  ![v617.toNat, 736]
def k2_off55 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v630 : Index := Scalar.indexCast arg15
  let c752 : Index := 752#32
  ![v630.toNat, 752]
def k2_off56 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v643 : Index := Scalar.indexCast arg15
  let c768 : Index := 768#32
  ![v643.toNat, 768]
def k2_off57 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v656 : Index := Scalar.indexCast arg15
  let c784 : Index := 784#32
  ![v656.toNat, 784]
def k2_off58 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v669 : Index := Scalar.indexCast arg15
  let c800 : Index := 800#32
  ![v669.toNat, 800]
def k2_off59 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v682 : Index := Scalar.indexCast arg15
  let c816 : Index := 816#32
  ![v682.toNat, 816]
def k2_off60 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v695 : Index := Scalar.indexCast arg15
  let c832 : Index := 832#32
  ![v695.toNat, 832]
def k2_off61 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v708 : Index := Scalar.indexCast arg15
  let c848 : Index := 848#32
  ![v708.toNat, 848]
def k2_off62 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v721 : Index := Scalar.indexCast arg15
  let c864 : Index := 864#32
  ![v721.toNat, 864]
def k2_off63 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v734 : Index := Scalar.indexCast arg15
  let c880 : Index := 880#32
  ![v734.toNat, 880]
def k2_off64 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v747 : Index := Scalar.indexCast arg15
  let c896 : Index := 896#32
  ![v747.toNat, 896]
def k2_off65 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v760 : Index := Scalar.indexCast arg15
  let c912 : Index := 912#32
  ![v760.toNat, 912]
def k2_off66 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v773 : Index := Scalar.indexCast arg15
  let c928 : Index := 928#32
  ![v773.toNat, 928]
def k2_off67 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v786 : Index := Scalar.indexCast arg15
  let c944 : Index := 944#32
  ![v786.toNat, 944]
def k2_off68 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v799 : Index := Scalar.indexCast arg15
  let c960 : Index := 960#32
  ![v799.toNat, 960]
def k2_off69 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v812 : Index := Scalar.indexCast arg15
  let c976 : Index := 976#32
  ![v812.toNat, 976]
def k2_off70 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v825 : Index := Scalar.indexCast arg15
  let c992 : Index := 992#32
  ![v825.toNat, 992]
def k2_off71 (k2_t3 : Fin k2_t3_loop.trips) : Fin 2 → Nat :=
  let c0_i32_7 : BitVec 32 := 0#32
  let c1_i32_8 : BitVec 32 := 1#32
  let arg15 : BitVec 32 := Scf.iv c0_i32_7 c1_i32_8 k2_t3
  let v838 : Index := Scalar.indexCast arg15
  let c1008 : Index := 1008#32
  ![v838.toNat, 1008]
def k2_off72 (i : grid2.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v3 : BitVec 32 := Scalar.addi v2 c0_i32
  let c0_i32_24_r4 : BitVec 32 := 0#32
  ![v3.toNat, 0]
@[reducible] def k2_t4_loop : Scf.Loop 32 :=
  let c0_i32_11 : BitVec 32 := 0#32
  let c8_i32_12 : BitVec 32 := 8#32
  let v9 : BitVec 32 := Scalar.addi c0_i32_11 c8_i32_12
  let c1_i32_13 : BitVec 32 := 1#32
  ⟨c0_i32_11, v9, c1_i32_13⟩
def k2_off73 (k2_t4 : Fin k2_t4_loop.trips) : Fin 2 → Nat :=
  let c0_i32_26 : BitVec 32 := 0#32
  let c0_i32_25 : BitVec 32 := 0#32
  let c0_i32_11 : BitVec 32 := 0#32
  let c1_i32_13 : BitVec 32 := 1#32
  let arg15 : BitVec 32 := Scf.iv c0_i32_11 c1_i32_13 k2_t4
  let c1_i32_24 : BitVec 32 := 1#32
  let v13 : BitVec 32 := Scalar.muli arg15 c1_i32_24
  let v14 : BitVec 32 := Scalar.addi c0_i32_25 v13
  let c128_i32 : BitVec 32 := 128#32
  let v15 : BitVec 32 := Scalar.muli v14 c128_i32
  ![0, v15.toNat]
def k2_off74 (k2_t4 : Fin k2_t4_loop.trips) : Fin 2 → Nat :=
  let c0_i32_27 : BitVec 32 := 0#32
  let c0_i32_25 : BitVec 32 := 0#32
  let c0_i32_11 : BitVec 32 := 0#32
  let c1_i32_13 : BitVec 32 := 1#32
  let arg15 : BitVec 32 := Scf.iv c0_i32_11 c1_i32_13 k2_t4
  let c1_i32_24 : BitVec 32 := 1#32
  let v13 : BitVec 32 := Scalar.muli arg15 c1_i32_24
  let v14 : BitVec 32 := Scalar.addi c0_i32_25 v13
  let c128_i32 : BitVec 32 := 128#32
  let v15 : BitVec 32 := Scalar.muli v14 c128_i32
  ![0, v15.toNat]
@[reducible] def k2_t5_loop : Scf.Loop 32 :=
  let c0_i32_15 : BitVec 32 := 0#32
  let c8_i32_16 : BitVec 32 := 8#32
  let v10 : BitVec 32 := Scalar.addi c0_i32_15 c8_i32_16
  let c1_i32_17 : BitVec 32 := 1#32
  ⟨c0_i32_15, v10, c1_i32_17⟩
def k2_off75 (k2_t5 : Fin k2_t5_loop.trips) : Fin 2 → Nat :=
  let c0_i32_26 : BitVec 32 := 0#32
  let c0_i32_25 : BitVec 32 := 0#32
  let c0_i32_15 : BitVec 32 := 0#32
  let c1_i32_17 : BitVec 32 := 1#32
  let arg15 : BitVec 32 := Scf.iv c0_i32_15 c1_i32_17 k2_t5
  let c1_i32_24 : BitVec 32 := 1#32
  let v13 : BitVec 32 := Scalar.muli arg15 c1_i32_24
  let v14 : BitVec 32 := Scalar.addi c0_i32_25 v13
  let c128_i32 : BitVec 32 := 128#32
  let v15 : BitVec 32 := Scalar.muli v14 c128_i32
  ![0, v15.toNat]
def k2_off76 (k2_t5 : Fin k2_t5_loop.trips) : Fin 2 → Nat :=
  let c0_i32_27 : BitVec 32 := 0#32
  let c0_i32_25 : BitVec 32 := 0#32
  let c0_i32_15 : BitVec 32 := 0#32
  let c1_i32_17 : BitVec 32 := 1#32
  let arg15 : BitVec 32 := Scf.iv c0_i32_15 c1_i32_17 k2_t5
  let c1_i32_24 : BitVec 32 := 1#32
  let v13 : BitVec 32 := Scalar.muli arg15 c1_i32_24
  let v14 : BitVec 32 := Scalar.addi c0_i32_25 v13
  let c128_i32 : BitVec 32 := 128#32
  let v15 : BitVec 32 := Scalar.muli v14 c128_i32
  ![0, v15.toNat]
@[reducible] def k2_t6_loop : Scf.Loop 32 :=
  let c0_i32_20 : BitVec 32 := 0#32
  let c32_i32_21 : BitVec 32 := 32#32
  let v11 : BitVec 32 := Scalar.addi c0_i32_20 c32_i32_21
  let c1_i32_22 : BitVec 32 := 1#32
  ⟨c0_i32_20, v11, c1_i32_22⟩
def k2_off77 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v13 : Index := Scalar.indexCast arg15
  let c0 : Index := 0#32
  ![v13.toNat, 0]
def k2_off78 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v19 : Index := Scalar.indexCast arg15
  let c0_25 : Index := 0#32
  ![v19.toNat, 0]
def k2_off79 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v32 : Index := Scalar.indexCast arg15
  let c16 : Index := 16#32
  ![v32.toNat, 16]
def k2_off80 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v45 : Index := Scalar.indexCast arg15
  let c32 : Index := 32#32
  ![v45.toNat, 32]
def k2_off81 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v58 : Index := Scalar.indexCast arg15
  let c48 : Index := 48#32
  ![v58.toNat, 48]
def k2_off82 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v71 : Index := Scalar.indexCast arg15
  let c64 : Index := 64#32
  ![v71.toNat, 64]
def k2_off83 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v84 : Index := Scalar.indexCast arg15
  let c80 : Index := 80#32
  ![v84.toNat, 80]
def k2_off84 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v97 : Index := Scalar.indexCast arg15
  let c96 : Index := 96#32
  ![v97.toNat, 96]
def k2_off85 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v110 : Index := Scalar.indexCast arg15
  let c112 : Index := 112#32
  ![v110.toNat, 112]
def k2_off86 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v123 : Index := Scalar.indexCast arg15
  let c128 : Index := 128#32
  ![v123.toNat, 128]
def k2_off87 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v136 : Index := Scalar.indexCast arg15
  let c144 : Index := 144#32
  ![v136.toNat, 144]
def k2_off88 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v149 : Index := Scalar.indexCast arg15
  let c160 : Index := 160#32
  ![v149.toNat, 160]
def k2_off89 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v162 : Index := Scalar.indexCast arg15
  let c176 : Index := 176#32
  ![v162.toNat, 176]
def k2_off90 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v175 : Index := Scalar.indexCast arg15
  let c192 : Index := 192#32
  ![v175.toNat, 192]
def k2_off91 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v188 : Index := Scalar.indexCast arg15
  let c208 : Index := 208#32
  ![v188.toNat, 208]
def k2_off92 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v201 : Index := Scalar.indexCast arg15
  let c224 : Index := 224#32
  ![v201.toNat, 224]
def k2_off93 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v214 : Index := Scalar.indexCast arg15
  let c240 : Index := 240#32
  ![v214.toNat, 240]
def k2_off94 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v227 : Index := Scalar.indexCast arg15
  let c256 : Index := 256#32
  ![v227.toNat, 256]
def k2_off95 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v240 : Index := Scalar.indexCast arg15
  let c272 : Index := 272#32
  ![v240.toNat, 272]
def k2_off96 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v253 : Index := Scalar.indexCast arg15
  let c288 : Index := 288#32
  ![v253.toNat, 288]
def k2_off97 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v266 : Index := Scalar.indexCast arg15
  let c304 : Index := 304#32
  ![v266.toNat, 304]
def k2_off98 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v279 : Index := Scalar.indexCast arg15
  let c320 : Index := 320#32
  ![v279.toNat, 320]
def k2_off99 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v292 : Index := Scalar.indexCast arg15
  let c336 : Index := 336#32
  ![v292.toNat, 336]
def k2_off100 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v305 : Index := Scalar.indexCast arg15
  let c352 : Index := 352#32
  ![v305.toNat, 352]
def k2_off101 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v318 : Index := Scalar.indexCast arg15
  let c368 : Index := 368#32
  ![v318.toNat, 368]
def k2_off102 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v331 : Index := Scalar.indexCast arg15
  let c384 : Index := 384#32
  ![v331.toNat, 384]
def k2_off103 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v344 : Index := Scalar.indexCast arg15
  let c400 : Index := 400#32
  ![v344.toNat, 400]
def k2_off104 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v357 : Index := Scalar.indexCast arg15
  let c416 : Index := 416#32
  ![v357.toNat, 416]
def k2_off105 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v370 : Index := Scalar.indexCast arg15
  let c432 : Index := 432#32
  ![v370.toNat, 432]
def k2_off106 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v383 : Index := Scalar.indexCast arg15
  let c448 : Index := 448#32
  ![v383.toNat, 448]
def k2_off107 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v396 : Index := Scalar.indexCast arg15
  let c464 : Index := 464#32
  ![v396.toNat, 464]
def k2_off108 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v409 : Index := Scalar.indexCast arg15
  let c480 : Index := 480#32
  ![v409.toNat, 480]
def k2_off109 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v422 : Index := Scalar.indexCast arg15
  let c496 : Index := 496#32
  ![v422.toNat, 496]
def k2_off110 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v435 : Index := Scalar.indexCast arg15
  let c512 : Index := 512#32
  ![v435.toNat, 512]
def k2_off111 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v448 : Index := Scalar.indexCast arg15
  let c528 : Index := 528#32
  ![v448.toNat, 528]
def k2_off112 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v461 : Index := Scalar.indexCast arg15
  let c544 : Index := 544#32
  ![v461.toNat, 544]
def k2_off113 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v474 : Index := Scalar.indexCast arg15
  let c560 : Index := 560#32
  ![v474.toNat, 560]
def k2_off114 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v487 : Index := Scalar.indexCast arg15
  let c576 : Index := 576#32
  ![v487.toNat, 576]
def k2_off115 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v500 : Index := Scalar.indexCast arg15
  let c592 : Index := 592#32
  ![v500.toNat, 592]
def k2_off116 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v513 : Index := Scalar.indexCast arg15
  let c608 : Index := 608#32
  ![v513.toNat, 608]
def k2_off117 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v526 : Index := Scalar.indexCast arg15
  let c624 : Index := 624#32
  ![v526.toNat, 624]
def k2_off118 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v539 : Index := Scalar.indexCast arg15
  let c640 : Index := 640#32
  ![v539.toNat, 640]
def k2_off119 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v552 : Index := Scalar.indexCast arg15
  let c656 : Index := 656#32
  ![v552.toNat, 656]
def k2_off120 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v565 : Index := Scalar.indexCast arg15
  let c672 : Index := 672#32
  ![v565.toNat, 672]
def k2_off121 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v578 : Index := Scalar.indexCast arg15
  let c688 : Index := 688#32
  ![v578.toNat, 688]
def k2_off122 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v591 : Index := Scalar.indexCast arg15
  let c704 : Index := 704#32
  ![v591.toNat, 704]
def k2_off123 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v604 : Index := Scalar.indexCast arg15
  let c720 : Index := 720#32
  ![v604.toNat, 720]
def k2_off124 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v617 : Index := Scalar.indexCast arg15
  let c736 : Index := 736#32
  ![v617.toNat, 736]
def k2_off125 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v630 : Index := Scalar.indexCast arg15
  let c752 : Index := 752#32
  ![v630.toNat, 752]
def k2_off126 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v643 : Index := Scalar.indexCast arg15
  let c768 : Index := 768#32
  ![v643.toNat, 768]
def k2_off127 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v656 : Index := Scalar.indexCast arg15
  let c784 : Index := 784#32
  ![v656.toNat, 784]
def k2_off128 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v669 : Index := Scalar.indexCast arg15
  let c800 : Index := 800#32
  ![v669.toNat, 800]
def k2_off129 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v682 : Index := Scalar.indexCast arg15
  let c816 : Index := 816#32
  ![v682.toNat, 816]
def k2_off130 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v695 : Index := Scalar.indexCast arg15
  let c832 : Index := 832#32
  ![v695.toNat, 832]
def k2_off131 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v708 : Index := Scalar.indexCast arg15
  let c848 : Index := 848#32
  ![v708.toNat, 848]
def k2_off132 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v721 : Index := Scalar.indexCast arg15
  let c864 : Index := 864#32
  ![v721.toNat, 864]
def k2_off133 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v734 : Index := Scalar.indexCast arg15
  let c880 : Index := 880#32
  ![v734.toNat, 880]
def k2_off134 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v747 : Index := Scalar.indexCast arg15
  let c896 : Index := 896#32
  ![v747.toNat, 896]
def k2_off135 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v760 : Index := Scalar.indexCast arg15
  let c912 : Index := 912#32
  ![v760.toNat, 912]
def k2_off136 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v773 : Index := Scalar.indexCast arg15
  let c928 : Index := 928#32
  ![v773.toNat, 928]
def k2_off137 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v786 : Index := Scalar.indexCast arg15
  let c944 : Index := 944#32
  ![v786.toNat, 944]
def k2_off138 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v799 : Index := Scalar.indexCast arg15
  let c960 : Index := 960#32
  ![v799.toNat, 960]
def k2_off139 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v812 : Index := Scalar.indexCast arg15
  let c976 : Index := 976#32
  ![v812.toNat, 976]
def k2_off140 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v825 : Index := Scalar.indexCast arg15
  let c992 : Index := 992#32
  ![v825.toNat, 992]
def k2_off141 (k2_t6 : Fin k2_t6_loop.trips) : Fin 2 → Nat :=
  let c0_i32_20 : BitVec 32 := 0#32
  let c1_i32_22 : BitVec 32 := 1#32
  let arg15 : BitVec 32 := Scf.iv c0_i32_20 c1_i32_22 k2_t6
  let v838 : Index := Scalar.indexCast arg15
  let c1008 : Index := 1008#32
  ![v838.toNat, 1008]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2048x1024 : Shape := ⟨2, ![2048, 1024]⟩
abbrev S1024x8 : Shape := ⟨2, ![1024, 8]⟩
abbrev S5888x1024 : Shape := ⟨2, ![5888, 1024]⟩
abbrev S8x1024x2048 : Shape := ⟨3, ![8, 1024, 2048]⟩
abbrev S8x2048x1024 : Shape := ⟨3, ![8, 2048, 1024]⟩
abbrev S23 : Shape := ⟨1, ![23]⟩
abbrev S2048 : Shape := ⟨1, ![2048]⟩
abbrev S2048x8 : Shape := ⟨2, ![2048, 8]⟩
abbrev S_ : Shape := ⟨0, ![]⟩
abbrev S2048x1 : Shape := ⟨2, ![2048, 1]⟩
abbrev S2048x2 : Shape := ⟨2, ![2048, 2]⟩
abbrev S23x1 : Shape := ⟨2, ![23, 1]⟩
abbrev S23x256 : Shape := ⟨2, ![23, 256]⟩
abbrev S5888 : Shape := ⟨1, ![5888]⟩
abbrev S8 : Shape := ⟨1, ![8]⟩
abbrev S8x1 : Shape := ⟨2, ![8, 1]⟩
abbrev S1x5888 : Shape := ⟨2, ![1, 5888]⟩
abbrev S8x5888 : Shape := ⟨2, ![8, 5888]⟩
abbrev S5888x8x2048 : Shape := ⟨3, ![5888, 8, 2048]⟩
abbrev S8x5888x2048 : Shape := ⟨3, ![8, 5888, 2048]⟩
abbrev S8x5888x1024 : Shape := ⟨3, ![8, 5888, 1024]⟩
abbrev S8x5888x1 : Shape := ⟨3, ![8, 5888, 1]⟩

abbrev nBuf : Space → Nat
  | .hbm => 91
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x8, .f32⟩
  | .hbm, ⟨2, _⟩ => ⟨S5888x1024, .f32⟩
  | .hbm, ⟨3, _⟩ => ⟨S8x1024x2048, .f32⟩
  | .hbm, ⟨4, _⟩ => ⟨S8x1024x2048, .f32⟩
  | .hbm, ⟨5, _⟩ => ⟨S8x2048x1024, .f32⟩
  | .hbm, ⟨6, _⟩ => ⟨S23, .i32⟩
  | .hbm, ⟨7, _⟩ => ⟨S23, .i32⟩
  | .hbm, ⟨8, _⟩ => ⟨S23, .i32⟩
  | .hbm, ⟨9, _⟩ => ⟨S23, .i32⟩
  | .hbm, ⟨10, _⟩ => ⟨S23, .i32⟩
  | .hbm, ⟨11, _⟩ => ⟨S23, .i32⟩
  | .hbm, ⟨12, _⟩ => ⟨S2048, .i32⟩
  | .hbm, ⟨13, _⟩ => ⟨S2048, .i32⟩
  | .hbm, ⟨14, _⟩ => ⟨S2048x8, .f32⟩
  | .hbm, ⟨15, _⟩ => ⟨S_, .f32⟩
  | .hbm, ⟨16, _⟩ => ⟨S2048, .f32⟩
  | .hbm, ⟨17, _⟩ => ⟨S_, .f32⟩
  | .hbm, ⟨18, _⟩ => ⟨S2048, .f32⟩
  | .hbm, ⟨19, _⟩ => ⟨S2048, .f32⟩
  | .hbm, ⟨20, _⟩ => ⟨S2048x1, .f32⟩
  | .hbm, ⟨21, _⟩ => ⟨S2048x8, .f32⟩
  | .hbm, ⟨22, _⟩ => ⟨S2048x8, .f32⟩
  | .hbm, ⟨23, _⟩ => ⟨S2048x8, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S2048x8, .f32⟩
  | .hbm, ⟨28, _⟩ => ⟨S2048x8, .f32⟩
  | .hbm, ⟨29, _⟩ => ⟨S2048x2, .f32⟩
  | .hbm, ⟨30, _⟩ => ⟨S2048x2, .i32⟩
  | .hbm, ⟨31, _⟩ => ⟨S_, .f32⟩
  | .hbm, ⟨32, _⟩ => ⟨S2048, .f32⟩
  | .hbm, ⟨33, _⟩ => ⟨S2048x1, .f32⟩
  | .hbm, ⟨34, _⟩ => ⟨S2048x2, .f32⟩
  | .hbm, ⟨35, _⟩ => ⟨S2048x2, .f32⟩
  | .hbm, ⟨36, _⟩ => ⟨S23x1, .i32⟩
  | .hbm, ⟨37, _⟩ => ⟨S23x256, .i32⟩
  | .hbm, ⟨38, _⟩ => ⟨S5888, .i32⟩
  | .hbm, ⟨39, _⟩ => ⟨S8, .i32⟩
  | .hbm, ⟨40, _⟩ => ⟨S8x1, .i32⟩
  | .hbm, ⟨41, _⟩ => ⟨S1x5888, .i32⟩
  | .hbm, ⟨42, _⟩ => ⟨S8x5888, .i32⟩
  | .hbm, ⟨43, _⟩ => ⟨S8x5888, .i32⟩
  | .hbm, ⟨44, _⟩ => ⟨S8x5888, .i1⟩
  | .hbm, ⟨45, _⟩ => ⟨S8x5888, .f32⟩
  | .hbm, ⟨46, _⟩ => ⟨S5888x8x2048, .f32⟩
  | .hbm, ⟨47, _⟩ => ⟨S8x5888x2048, .f32⟩
  | .hbm, ⟨48, _⟩ => ⟨S8x5888x2048, .f32⟩
  | .hbm, ⟨49, _⟩ => ⟨S8x5888x2048, .f32⟩
  | .hbm, ⟨50, _⟩ => ⟨S_, .f32⟩
  | .hbm, ⟨51, _⟩ => ⟨S8x5888x2048, .f32⟩
  | .hbm, ⟨52, _⟩ => ⟨S8x5888x2048, .f32⟩
  | .hbm, ⟨53, _⟩ => ⟨S_, .f32⟩
  | .hbm, ⟨54, _⟩ => ⟨S8x5888x2048, .f32⟩
  | .hbm, ⟨55, _⟩ => ⟨S8x5888x2048, .f32⟩
  | .hbm, ⟨56, _⟩ => ⟨S8x5888x2048, .f32⟩
  | .hbm, ⟨57, _⟩ => ⟨S5888x8x2048, .f32⟩
  | .hbm, ⟨58, _⟩ => ⟨S8x5888x2048, .f32⟩
  | .hbm, ⟨59, _⟩ => ⟨S8x5888x2048, .f32⟩
  | .hbm, ⟨60, _⟩ => ⟨S8x5888x1024, .f32⟩
  | .hbm, ⟨61, _⟩ => ⟨S8x5888x1, .f32⟩
  | .hbm, ⟨62, _⟩ => ⟨S8x5888x1024, .f32⟩
  | .hbm, ⟨63, _⟩ => ⟨S8x5888x1024, .f32⟩
  | .hbm, ⟨64, _⟩ => ⟨S_, .f32⟩
  | .hbm, ⟨65, _⟩ => ⟨S5888x1024, .f32⟩
  | .hbm, ⟨66, _⟩ => ⟨S2048x1, .f32⟩
  | .hbm, ⟨67, _⟩ => ⟨S_, .i32⟩
  | .hbm, ⟨68, _⟩ => ⟨S2048, .i32⟩
  | .hbm, ⟨69, _⟩ => ⟨S2048, .i1⟩
  | .hbm, ⟨70, _⟩ => ⟨S_, .i32⟩
  | .hbm, ⟨71, _⟩ => ⟨S2048, .i32⟩
  | .hbm, ⟨72, _⟩ => ⟨S2048, .i32⟩
  | .hbm, ⟨73, _⟩ => ⟨S2048, .i32⟩
  | .hbm, ⟨74, _⟩ => ⟨S2048x1, .i32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S2048x1, .f32⟩
  | .hbm, ⟨79, _⟩ => ⟨S_, .i32⟩
  | .hbm, ⟨80, _⟩ => ⟨S2048, .i32⟩
  | .hbm, ⟨81, _⟩ => ⟨S2048, .i1⟩
  | .hbm, ⟨82, _⟩ => ⟨S_, .i32⟩
  | .hbm, ⟨83, _⟩ => ⟨S2048, .i32⟩
  | .hbm, ⟨84, _⟩ => ⟨S2048, .i32⟩
  | .hbm, ⟨85, _⟩ => ⟨S2048, .i32⟩
  | .hbm, ⟨86, _⟩ => ⟨S2048x1, .i32⟩
  | .hbm, ⟨87, _⟩ => ⟨S2048x1024, .f32⟩
  | .hbm, ⟨88, _⟩ => ⟨S2048x1024, .f32⟩
  | .hbm, ⟨89, _⟩ => ⟨S2048x1024, .f32⟩
  | .hbm, ⟨90, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_values : Ref sig .tc := ⟨.hbm, 29, rfl⟩
abbrev main_indices : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_3 : Ref sig .tc := ⟨.hbm, 64, rfl⟩
abbrev main_v36 : Ref sig .tc := ⟨.hbm, 65, rfl⟩
abbrev main_v37 : Ref sig .tc := ⟨.hbm, 66, rfl⟩
abbrev main_c : Ref sig .tc := ⟨.hbm, 67, rfl⟩
abbrev main_v38 : Ref sig .tc := ⟨.hbm, 68, rfl⟩
abbrev main_v39 : Ref sig .tc := ⟨.hbm, 69, rfl⟩
abbrev main_c_4 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_c_5 : Ref sig .tc := ⟨.hbm, 79, rfl⟩
abbrev main_v48 : Ref sig .tc := ⟨.hbm, 80, rfl⟩
abbrev main_v49 : Ref sig .tc := ⟨.hbm, 81, rfl⟩
abbrev main_c_6 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩

abbrev nD : Nat := 1
abbrev τ : Topo := Topo.v7x

variable {F : FTy → Type} [FloatOps F]
-- ==== Proof.Halves.lean ====
/-
  The kernel's function as two runs of ONE half. The printed function does the same work twice, for the first and for the
  last thirty-two rows of the tile's block: fetch the two position lists and the two weight blocks, gather the rows the lists
  name (128 columns at a time), combine them row by row in 64 chunks of 16 columns, copy the result out. This module writes
  the chunk, the row, the gather trip and the half once, and shows that the printed function is the half at 0 followed by
  the half at 1.
-/
module

public import proofs.«01_k».proof.Defs
public import proofs.«01_k».proof.Proof.Gen.KernelIdeal
public import proofs.«01_k».proof.Proof.Gen.KernelIdeal.Skeleton

@[expose] public section

noncomputable section

namespace Cert.Proof.Moe

open Cert.KernelIdeal Cert.KernelIdeal.Gen
open Idealize.ShloMosaic Idealize.SL.Sem

variable {F : FTy → Type} [FloatOps F]

/-- The programs a tile runs. -/
abbrev TileProg (F : FTy → Type) (i : grid2.Coords) : Type → Type 1 :=
  Prog (TpuEff nD τ sig (Elt F) Λ₀ (.scVector ((i 0).castLE hcore2) ((i 1).castLE hsub2)))

/-- Where chunk `j` of row `k` starts. -/
def chunkOff (k : Fin k2_t3_loop.trips) (j : Nat) : Fin 2 → Nat :=
  ![(Scalar.indexCast (Scf.iv 0#32 1#32 k)).toNat, 16 * j]

theorem chunkOff_eq (k : Fin k2_t3_loop.trips) (j : Nat) : chunkOff k j = ![k.val, 16 * j] := by
  have h := congrFun (k2_off7_eq k) 0
  funext a
  match a with
  | 0 => exact h
  | 1 => rfl

theorem chunkOff_inb (k : Fin k2_t3_loop.trips) {j : Nat} (hj : j < 64) :
    ∀ a, chunkOff k j a + S1x16.size a ≤ S32x1024.size a := by
  have hk : k.val < 32 := lt_of_lt_of_le k.isLt k2_t3_abs.2.1
  rw [chunkOff_eq]
  intro a
  match a with
  | 0 => show k.val + 1 ≤ 32; omega
  | 1 => show 16 * j + 16 ≤ 1024; omega

/-- What a chunk stores: the first row's sixteen numbers by their weights plus the second row's by theirs. -/
def mix (p q : FVec F S16 .f32) (a b : Vec F S1x16 .f32) : FVec F S1x16 .f32 :=
  shapeCast S1x16 (addf (mulf p (shapeCast S16 a shapeCasts_S1x16_S16)) (mulf q (shapeCast S16 b shapeCasts_S1x16_S16)))
    shapeCasts_S16_S1x16

/-- Chunk `j` of row `k`, as the kernel does it: both rows' sixteen numbers read, the sum stored over the first's. -/
def chunk (i : grid2.Coords) (A B : Memref sig .scVector .vmem S32x1024 .f32) (k : Fin k2_t3_loop.trips) (p q : FVec F S16 .f32)
    (j : Nat) (hj : j < 64) : TileProg F i PUnit := do
  let a : Vec F S1x16 .f32 ← Prog.lift (.load A (Rect.unit (s := S32x1024) (chunkOff k j) S1x16.size (chunkOff_inb k hj)).toLoadRect (View.loadsAt_vmem h_S1x16))
  let b : Vec F S1x16 .f32 ← Prog.lift (.load B (Rect.unit (s := S32x1024) (chunkOff k j) S1x16.size (chunkOff_inb k hj)).toLoadRect (View.loadsAt_vmem h_S1x16))
  let _ : Vec F S1x16 .f32 ← Prog.lift (.load A (Rect.unit (s := S32x1024) (chunkOff k j) S1x16.size (chunkOff_inb k hj)).toLoadRect (View.loadsAt_vmem h_S1x16))
  Prog.lift (.store A (Rect.unit (s := S32x1024) (chunkOff k j) S1x16.size (chunkOff_inb k hj)) (mix p q a b) Finset.univ (View.stores_vmem_bits_univ h_S1x16 rfl) (.inl rfl))

/-- The last `n` chunks of row `k`. -/
def chunks (i : grid2.Coords) (A B : Memref sig .scVector .vmem S32x1024 .f32) (k : Fin k2_t3_loop.trips) (p q : FVec F S16 .f32) :
    (n : Nat) → n ≤ 64 → TileProg F i PUnit
  | 0, _ => pure ⟨⟩
  | n + 1, h => chunk i A B k p q (64 - (n + 1)) (Nat.sub_lt (by decide) (Nat.succ_pos n)) >>= fun _ => chunks i A B k p q n (Nat.le_of_succ_le h)

/-- Row `k`: its two weights (sixteen copies of each), then the 64 chunks. -/
def row (i : grid2.Coords) (P Q : Memref sig .scVector .vmem S32x16 .f32) (A B : Memref sig .scVector .vmem S32x1024 .f32)
    (k : Fin k2_t3_loop.trips) : TileProg F i (BitVec 32) := do
  let p : Vec F S1x16 .f32 ← Prog.lift (.load P (Rect.unit (s := S32x16) (k2_off7 k) S1x16.size (k2_off7_inb k)).toLoadRect (View.loadsAt_vmem h_S1x16))
  let q : Vec F S1x16 .f32 ← Prog.lift (.load Q (Rect.unit (s := S32x16) (k2_off7 k) S1x16.size (k2_off7_inb k)).toLoadRect (View.loadsAt_vmem h_S1x16))
  chunks i A B k (shapeCast S16 p shapeCasts_S1x16_S16) (shapeCast S16 q shapeCasts_S1x16_S16) 64 (Nat.le_refl 64) >>= fun _ => pure 0#32

/-- Columns `[128 k, 128 (k + 1))` of the rows the list names, into the same columns of the row buffer. -/
def fetch (i : grid2.Coords) (Y : Memref sig .scVector .hbm S5888x1024 .f32) (L : Memref sig .scVector .vmem S32 .i32)
    (A : Memref sig .scVector .vmem S32x1024 .f32) (s : DmaSems sig S_) (k : Fin k2_t1_loop.trips) : TileProg F i PUnit := do
  let dst : Memref sig .scVector .vmem S32x128 .f32 := A.slice (Rect.unit (s := S32x1024) (k2_off3 k) S32x128.size (k2_off3_inb k)) (fun _ => rfl)
  let src : Memref sig .scVector .hbm S5888x128 .f32 := Y.slice (Rect.unit (s := S5888x1024) (k2_off4 k) S5888x128.size (k2_off4_inb k)) (fun _ => rfl)
  SparseCore.enqueueIndirectGather rfl src dst gathers_S5888x128_S32x128 L rfl s.sem (View.wordExact_bits rfl) rfl (Or.inl rfl)
  SparseCore.waitIndirectGather s.sem src dst (View.wordExact_bits rfl) (View.wordExact_bits rfl)
  pure ⟨⟩

/-- A tile's half `c`: its thirty-two rows from row `64 w + 32 c` on, `w` the tile's number. -/
def half (i : grid2.Coords) (c : Fin 2) (arg2 : Memref sig .scVector .hbm S5888x1024 .f32) (harg2 : arg2.IsWhole)
  (arg3 : Memref sig .scVector .hbm S2048 .i32) (harg3 : arg3.IsWhole)
  (arg4 : Memref sig .scVector .hbm S2048 .i32) (harg4 : arg4.IsWhole)
  (arg5 : Memref sig .scVector .hbm S2048x16 .f32) (harg5 : arg5.IsWhole)
  (arg6 : Memref sig .scVector .hbm S2048x16 .f32) (harg6 : arg6.IsWhole)
  (arg7 : Memref sig .scVector .hbm S2048x1024 .f32) (harg7 : arg7.IsWhole)
  (arg8 : Memref sig .scVector .vmem S32 .i32) (harg8 : arg8.IsWhole)
  (arg9 : Memref sig .scVector .vmem S32 .i32) (harg9 : arg9.IsWhole)
  (arg10 : Memref sig .scVector .vmem S32x16 .f32) (harg10 : arg10.IsWhole)
  (arg11 : Memref sig .scVector .vmem S32x16 .f32) (harg11 : arg11.IsWhole)
  (arg12 : Memref sig .scVector .vmem S32x1024 .f32) (harg12 : arg12.IsWhole)
  (arg13 : Memref sig .scVector .vmem S32x1024 .f32) (harg13 : arg13.IsWhole)
  (arg14 s0 s1 s2 s3 s4 : DmaSems sig S_) : TileProg F i PUnit := do
  Prog.lift (.enqueueDma (arg3.slice (Rect.unit (s := S2048) (k2_off1 i (BitVec.ofNat 32 (32 * c.val))) S32.size (k2_off1_inb i c)) (fun _ => rfl)) (.here arg8) (.dma s0.sem) (View.wordExact_bits rfl) harg8.wordExact ⟨Or.inl rfl, trivial⟩)
  Prog.lift (.waitDma2 s0.sem (arg3.slice (Rect.unit (s := S2048) (k2_off1 i (BitVec.ofNat 32 (32 * c.val))) S32.size (k2_off1_inb i c)) (fun _ => rfl)) arg8 (View.wordExact_bits rfl) harg8.wordExact)
  Prog.lift (.enqueueDma (arg4.slice (Rect.unit (s := S2048) (k2_off1 i (BitVec.ofNat 32 (32 * c.val))) S32.size (k2_off1_inb i c)) (fun _ => rfl)) (.here arg9) (.dma s1.sem) (View.wordExact_bits rfl) harg9.wordExact ⟨Or.inl rfl, trivial⟩)
  Prog.lift (.waitDma2 s1.sem (arg4.slice (Rect.unit (s := S2048) (k2_off1 i (BitVec.ofNat 32 (32 * c.val))) S32.size (k2_off1_inb i c)) (fun _ => rfl)) arg9 (View.wordExact_bits rfl) harg9.wordExact)
  Prog.lift (.enqueueDma (arg5.slice (Rect.unit (s := S2048x16) (k2_off2 i (BitVec.ofNat 32 (32 * c.val))) S32x16.size (k2_off2_inb i c)) (fun _ => rfl)) (.here arg10) (.dma s2.sem) (View.wordExact_bits rfl) harg10.wordExact ⟨Or.inl rfl, trivial⟩)
  Prog.lift (.waitDma2 s2.sem (arg5.slice (Rect.unit (s := S2048x16) (k2_off2 i (BitVec.ofNat 32 (32 * c.val))) S32x16.size (k2_off2_inb i c)) (fun _ => rfl)) arg10 (View.wordExact_bits rfl) harg10.wordExact)
  Prog.lift (.enqueueDma (arg6.slice (Rect.unit (s := S2048x16) (k2_off2 i (BitVec.ofNat 32 (32 * c.val))) S32x16.size (k2_off2_inb i c)) (fun _ => rfl)) (.here arg11) (.dma s3.sem) (View.wordExact_bits rfl) harg11.wordExact ⟨Or.inl rfl, trivial⟩)
  Prog.lift (.waitDma2 s3.sem (arg6.slice (Rect.unit (s := S2048x16) (k2_off2 i (BitVec.ofNat 32 (32 * c.val))) S32x16.size (k2_off2_inb i c)) (fun _ => rfl)) arg11 (View.wordExact_bits rfl) harg11.wordExact)
  Scf.Loop.for k2_t1_loop k2_t1_ok ⟨⟩ (fun k _ => fetch i arg2 arg8 arg12 arg14 k)
  Scf.Loop.for k2_t1_loop k2_t1_ok ⟨⟩ (fun k _ => fetch i arg2 arg9 arg13 arg14 k)
  let _ ← Scf.Loop.for k2_t3_loop k2_t3_ok 0#32 (fun k _ => row i arg10 arg11 arg12 arg13 k)
  Prog.lift (.enqueueDma arg12 (.here (arg7.slice (Rect.unit (s := S2048x1024) (k2_off72 i (BitVec.ofNat 32 (32 * c.val))) S32x1024.size (k2_off72_inb i c)) (fun _ => rfl))) (.dma s4.sem) harg12.wordExact (View.wordExact_bits rfl) ⟨Or.inl rfl, trivial⟩)
  Prog.lift (.waitDma2 s4.sem arg12 (arg7.slice (Rect.unit (s := S2048x1024) (k2_off72 i (BitVec.ofNat 32 (32 * c.val))) S32x1024.size (k2_off72_inb i c)) (fun _ => rfl)) harg12.wordExact (View.wordExact_bits rfl))

section Same

variable (i : grid2.Coords) (arg2 : Memref sig .scVector .hbm S5888x1024 .f32) (harg2 : arg2.IsWhole)
  (arg3 : Memref sig .scVector .hbm S2048 .i32) (harg3 : arg3.IsWhole)
  (arg4 : Memref sig .scVector .hbm S2048 .i32) (harg4 : arg4.IsWhole)
  (arg5 : Memref sig .scVector .hbm S2048x16 .f32) (harg5 : arg5.IsWhole)
  (arg6 : Memref sig .scVector .hbm S2048x16 .f32) (harg6 : arg6.IsWhole)
  (arg7 : Memref sig .scVector .hbm S2048x1024 .f32) (harg7 : arg7.IsWhole)
  (arg8 : Memref sig .scVector .vmem S32 .i32) (harg8 : arg8.IsWhole)
  (arg9 : Memref sig .scVector .vmem S32 .i32) (harg9 : arg9.IsWhole)
  (arg10 : Memref sig .scVector .vmem S32x16 .f32) (harg10 : arg10.IsWhole)
  (arg11 : Memref sig .scVector .vmem S32x16 .f32) (harg11 : arg11.IsWhole)
  (arg12 : Memref sig .scVector .vmem S32x1024 .f32) (harg12 : arg12.IsWhole)
  (arg13 : Memref sig .scVector .vmem S32x1024 .f32) (harg13 : arg13.IsWhole)
  (arg14 : DmaSems sig S_) (r0 r1 r2 r3 r4 r5 r6 r7 r8 r9 : DmaSems sig S_)

set_option maxRecDepth 100000 in
set_option maxHeartbeats 4000000 in
theorem rows_first : k2_t3_body (F := F) i arg2 harg2 arg3 harg3 arg4 harg4 arg5 harg5 arg6 harg6 arg7 harg7 arg8 harg8 arg9 harg9 arg10 harg10 arg11 harg11 arg12 harg12 arg13 harg13 arg14 r0 r1 r2 r3 r4 r5 r6 r7 r8 r9
    = fun k _ => row i arg10 arg11 arg12 arg13 k := rfl

set_option maxRecDepth 100000 in
set_option maxHeartbeats 4000000 in
theorem rows_second : k2_t6_body (F := F) i arg2 harg2 arg3 harg3 arg4 harg4 arg5 harg5 arg6 harg6 arg7 harg7 arg8 harg8 arg9 harg9 arg10 harg10 arg11 harg11 arg12 harg12 arg13 harg13 arg14 r0 r1 r2 r3 r4 r5 r6 r7 r8 r9 0#32
    = fun k _ => row i arg10 arg11 arg12 arg13 k := rfl

set_option maxRecDepth 100000 in
set_option maxHeartbeats 4000000 in
/-- The printed function is the half at 0, then the half at 1. -/
theorem combine_eq : cc2_combine (F := F) i arg2 harg2 arg3 harg3 arg4 harg4 arg5 harg5 arg6 harg6 arg7 harg7 arg8 harg8 arg9 harg9 arg10 harg10 arg11 harg11 arg12 harg12 arg13 harg13 arg14 r0 r1 r2 r3 r4 r5 r6 r7 r8 r9
    = (half i 0 arg2 harg2 arg3 harg3 arg4 harg4 arg5 harg5 arg6 harg6 arg7 harg7 arg8 harg8 arg9 harg9 arg10 harg10 arg11 harg11 arg12 harg12 arg13 harg13 arg14 r0 r1 r2 r3 r4
        >>= fun _ => half i 1 arg2 harg2 arg3 harg3 arg4 harg4 arg5 harg5 arg6 harg6 arg7 harg7 arg8 harg8 arg9 harg9 arg10 harg10 arg11 harg11 arg12 harg12 arg13 harg13 arg14 r5 r6 r7 r8 r9) := by
  rw [cc2_combine_eq_skeleton]
  unfold cc2_combine_skel half
  rw [k2_part37_eq_skeleton, k2_part38_eq_skeleton]
  unfold k2_part37_skel k2_part38_skel
  rw [rows_first]
  simp only [bind_assoc, pure_bind, rows_second]
  rfl

end Same

end Cert.Proof.Moe

end
-- ==== Proof.Base.lean ====
/-
  The launch's set-up for `combine`, and the arrays and buffers its tiles work on.
-/
module

public import proofs.«01_k».proof.Proof.Halves
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Moe

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The resource algebra: the launch's rounds beside the router's staging rounds and the transfers' counters. -/
abbrev UH : Type := URounds (GSem nD τ sig) ℕ
abbrev UP : Type := URounds (GSem nD τ sig) Unit
abbrev UU : Type := UH × (UP × Counters)

abbrev MM (F : FTy → Type) := MT nD τ sig (HIx 1) (Elt F) ℕ UU ℕ

abbrev EH : Emb UH (MM F) := embL
/-- The router's staging rounds. -/
def EP : Emb UP (MM F) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP (MM F)).LandsIn (upEmb : UEmb _ (MM F)) := by unfold EP; infer_instance

/-! ## The arrays -/

abbrev yLoc (d : Dev nD) : Loc nD τ sig := (SparseCore.T d).loc main_v1
abbrev p0Loc (d : Dev nD) : Loc nD τ sig := (SparseCore.T d).loc main_arg12
abbrev p1Loc (d : Dev nD) : Loc nD τ sig := (SparseCore.T d).loc main_arg13
abbrev e0Loc (d : Dev nD) : Loc nD τ sig := (SparseCore.T d).loc main_v0_3
abbrev e1Loc (d : Dev nD) : Loc nD τ sig := (SparseCore.T d).loc main_v0_4
abbrev oLoc (d : Dev nD) : Loc nD τ sig := (SparseCore.T d).loc main_v2

/-! ## The tile at a symbolic place -/

abbrev cV (L : grid2.Coords) : Fin τ.nSC := (L 0).castLE hcore2
abbrev jV (L : grid2.Coords) : Fin τ.nSub := (L 1).castLE hsub2
abbrev tV (d : Dev nD) (L : grid2.Coords) : Thread nD τ := V d (cV L) (jV L)

end Cert.Proof.Moe

end
-- ==== Proof.Rows.lean ====
/-
  One row of the row buffers: the kernel replaces the first buffer's row by its weighted sum with the second's, in 64 chunks
  of 16 columns. The buffer in between is `stage`: the sum before a place in row-major order, the gathered rows from there on.
-/
module

public import proofs.«01_k».proof.Proof.Base
public import Idealize.ShloMosaic.Lib.Writes
public import Idealize.ShloMosaic.Lib.ValueLayout

@[expose] public section

noncomputable section

namespace Cert.Proof.Moe

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "aM" => (Memref.whole Cert.KernelIdeal.cc2_scratch4 : Memref Cert.KernelIdeal.sig Kind.scVector Space.vmem Cert.KernelIdeal.S32x1024 EltTy.f32)
local notation "bM" => (Memref.whole Cert.KernelIdeal.cc2_scratch5 : Memref Cert.KernelIdeal.sig Kind.scVector Space.vmem Cert.KernelIdeal.S32x1024 EltTy.f32)
local notation "pM" => (Memref.whole Cert.KernelIdeal.cc2_scratch2 : Memref Cert.KernelIdeal.sig Kind.scVector Space.vmem Cert.KernelIdeal.S32x16 EltTy.f32)
local notation "qM" => (Memref.whole Cert.KernelIdeal.cc2_scratch3 : Memref Cert.KernelIdeal.sig Kind.scVector Space.vmem Cert.KernelIdeal.S32x16 EltTy.f32)

open Idealize.ShloMosaic.ValueIdx (ix1 ix2 eq_ix1 eq_ix2)

/-! ## The numbers -/

/-- The weighted sum of two row buffers, the weights read in the lane of the column. -/
def comb (P Q : S32x16.Idx → Elt F .f32) (A B : S32x1024.Idx → Elt F .f32) : S32x1024.Idx → Elt F .f32 := fun x =>
  FloatOps.addf (FloatOps.mulf (P (ix2 (x 0) ⟨(x 1).val % 16, Nat.mod_lt _ (by decide)⟩)) (A x))
    (FloatOps.mulf (Q (ix2 (x 0) ⟨(x 1).val % 16, Nat.mod_lt _ (by decide)⟩)) (B x))

/-- The row buffer with the places before `n`, in row-major order, done. -/
def stage (G O : S32x1024.Idx → Elt F .f32) (n : ℕ) : S32x1024.Idx → Elt F .f32 := fun x =>
  if 1024 * (x 0).val + (x 1).val < n then O x else G x

theorem stage_zero (G O : S32x1024.Idx → Elt F .f32) : stage G O 0 = G := by
  funext x; exact if_neg (Nat.not_lt_zero _)

theorem stage_all (G O : S32x1024.Idx → Elt F .f32) : stage G O (1024 * 32) = O := by
  funext x
  have h0 : (x 0).val < 32 := (x 0).isLt
  have h1 : (x 1).val < 1024 := (x 1).isLt
  exact if_pos (by omega)

theorem mix_apply (p q : FVec F S16 .f32) (a b : Vec F S1x16 .f32) (y : S1x16.Idx) :
    mix p q a b y = FloatOps.addf (FloatOps.mulf (p (ix1 (y 1))) (a y)) (FloatOps.mulf (q (ix1 (y 1))) (b y)) := by
  have hy : y = ix2 (0 : Fin 1) (y 1) := by
    have h0 : y 0 = (0 : Fin 1) := Fin.ext (by have : (y 0).val < 1 := (y 0).isLt; show (y 0).val = 0; omega)
    exact (eq_ix2 y).trans (congrArg (fun u => ix2 u (y 1)) h0)
  have e : ∀ v : Vec F S1x16 .f32, shapeCast S16 v shapeCasts_S1x16_S16 (ix1 (y 1)) = v y := fun v =>
    (Idealize.ShloMosaic.ValueIdx.shapeCast_1a_a_apply v shapeCasts_S1x16_S16 (y 1)).trans (congrArg v hy.symm)
  unfold mix
  conv_lhs => rw [hy]
  refine (Idealize.ShloMosaic.ValueIdx.shapeCast_a_1a_apply _ shapeCasts_S16_S1x16 0 (y 1)).trans ?_
  show FloatOps.addf (FloatOps.mulf _ _) (FloatOps.mulf _ _) = _
  rw [e a, e b]

/-- A row's weights as the chunks use them. -/
abbrev lanes (k : Fin k2_t3_loop.trips) (P : S32x16.Idx → Elt F .f32) : FVec F S16 .f32 :=
  shapeCast S16 (View.readAt (Elt F) (pM).view (Rect.unit (s := S32x16) (k2_off7 k) S1x16.size (k2_off7_inb k)).toLoadRect P) shapeCasts_S1x16_S16

theorem lanes_apply (k : Fin k2_t3_loop.trips) (P : S32x16.Idx → Elt F .f32) (i : Fin 16) (r : Fin 32) (hr : r.val = k.val) :
    lanes k P (ix1 i) = P (ix2 r i) := by
  refine (Idealize.ShloMosaic.ValueIdx.shapeCast_1a_a_apply _ shapeCasts_S1x16_S16 i).trans ?_
  refine congrArg P (funext fun a => Fin.ext ?_)
  have e := k2_off7_eq k
  match a with
  | 0 =>
    show k2_off7 k 0 + 1 * 0 = r.val
    rw [e, hr]; rfl
  | 1 =>
    show k2_off7 k 1 + 1 * i.val = i.val
    rw [e]; show 0 + 1 * i.val = i.val; omega

/-- One store through a rectangle of the row buffer leaves `G`, if its payload is `G` on the rectangle and the buffer is `G` off it. -/
theorem store_eq (f G : S32x1024.Idx → Elt F .f32) (r : Rect S32x1024) (w : r.shape.Idx → Elt F .f32)
    (hw : ∀ y, w y = G (r.emb y)) (hf : ∀ x, x ∉ r.set → f x = G x) : (aM).view.writes (Elt F) f [⟨r, w⟩] = G := by
  have key : ∀ x, (aM).view.read (Elt F) ((aM).view.writes (Elt F) f [⟨r, w⟩]) x = G x := fun x => by
    by_cases hx : x ∈ r.set
    · exact View.read_writes_apply_of_pieces _ _ G _ (fun p hp y => by obtain rfl := List.mem_singleton.mp hp; exact hw y) x ⟨_, List.mem_singleton_self _, hx⟩
    · rw [View.read_writes_apply_of_forall_not_mem _ _ x _ (fun p hp => by obtain rfl := List.mem_singleton.mp hp; exact hx)]
      exact hf x hx
  exact funext key

/-- Chunk `j` of row `k` takes the buffer from one stage to the next. -/
theorem stage_step (k : Fin k2_t3_loop.trips) (P Q : S32x16.Idx → Elt F .f32) (A B : S32x1024.Idx → Elt F .f32) (j : Nat) (hj : j < 64) :
    (aM).view.writes (Elt F) (stage A (comb P Q A B) (1024 * k.val + 16 * j))
        [⟨Rect.unit (s := S32x1024) (chunkOff k j) S1x16.size (chunkOff_inb k hj),
          mix (lanes k P) (lanes k Q)
            (View.readAt (Elt F) (aM).view (Rect.unit (s := S32x1024) (chunkOff k j) S1x16.size (chunkOff_inb k hj)).toLoadRect (stage A (comb P Q A B) (1024 * k.val + 16 * j)))
            (View.readAt (Elt F) (bM).view (Rect.unit (s := S32x1024) (chunkOff k j) S1x16.size (chunkOff_inb k hj)).toLoadRect B)⟩]
      = stage A (comb P Q A B) (1024 * k.val + 16 * (j + 1)) := by
  have hk : k.val < 32 := lt_of_lt_of_le k.isLt k2_t3_abs.2.1
  refine store_eq _ _ _ _ (fun y => ?_) (fun x hx => ?_)
  · have y0 : (y 0).val < 1 := (y 0).isLt
    have y1 : (y 1).val < 16 := (y 1).isLt
    generalize hz : (Rect.unit (s := S32x1024) (chunkOff k j) S1x16.size (chunkOff_inb k hj)).emb y = z
    have z0 : (z 0).val = k.val := by
      rw [← hz]; show chunkOff k j 0 + 1 * (y 0).val = k.val
      have e : chunkOff k j 0 = k.val := congrFun (chunkOff_eq k j) 0
      omega
    have z1 : (z 1).val = 16 * j + (y 1).val := by
      rw [← hz]; show chunkOff k j 1 + 1 * (y 1).val = _
      have e : chunkOff k j 1 = 16 * j := congrFun (chunkOff_eq k j) 1
      omega
    refine (mix_apply _ _ _ _ y).trans ?_
    have ea : View.readAt (Elt F) (aM).view (Rect.unit (s := S32x1024) (chunkOff k j) S1x16.size (chunkOff_inb k hj)).toLoadRect (stage A (comb P Q A B) (1024 * k.val + 16 * j)) y = A z := by
      refine (congrArg (stage A (comb P Q A B) (1024 * k.val + 16 * j)) hz).trans (if_neg ?_)
      omega
    have eb : View.readAt (Elt F) (bM).view (Rect.unit (s := S32x1024) (chunkOff k j) S1x16.size (chunkOff_inb k hj)).toLoadRect B y = B z :=
      congrArg B hz
    rw [ea, eb]
    have el : (⟨(z 1).val % 16, Nat.mod_lt _ (by decide)⟩ : Fin 16) = y 1 := Fin.ext (by show (z 1).val % 16 = (y 1).val; omega)
    rw [stage, if_pos (by omega), comb, el, lanes_apply k P (y 1) (z 0) z0, lanes_apply k Q (y 1) (z 0) z0]
  · have x1 : (x 1).val < 1024 := (x 1).isLt
    · rw [Rect.mem_set_unit] at hx
      have hx' : ¬((x 0).val = k.val ∧ 16 * j ≤ (x 1).val ∧ (x 1).val < 16 * j + 16) := fun ⟨h0, h1, h2⟩ => hx fun a => by
        rw [chunkOff_eq]
        match a with
        | 0 => exact ⟨le_of_eq h0.symm, by show (x 0).val < k.val + 1; omega⟩
        | 1 => exact ⟨h1, h2⟩
      have : (1024 * (x 0).val + (x 1).val < 1024 * k.val + 16 * j) ↔ (1024 * (x 0).val + (x 1).val < 1024 * k.val + 16 * (j + 1)) := by omega
      unfold stage
      simp only [this]

/-! ## The run -/

section Run

variable (d : Dev nD) (L : grid2.Coords)

abbrev aPts (f : S32x1024.Idx → Elt F .f32) : sProp 𝕄 := (aM).view.loc (tV d L) ↦{fullShare} f
abbrev bPts (f : S32x1024.Idx → Elt F .f32) : sProp 𝕄 := (bM).view.loc (tV d L) ↦{fullShare} f
abbrev pPts (f : S32x16.Idx → Elt F .f32) : sProp 𝕄 := (pM).view.loc (tV d L) ↦{fullShare} f
abbrev qPts (f : S32x16.Idx → Elt F .f32) : sProp 𝕄 := (qM).view.loc (tV d L) ↦{fullShare} f

theorem chunk_wp (k : Fin k2_t3_loop.trips) (P Q : S32x16.Idx → Elt F .f32) (A B : S32x1024.Idx → Elt F .f32) (j : Nat) (hj : j < 64) (R : sProp 𝕄) :
    iprop(aPts d L (stage A (comb P Q A B) (1024 * k.val + 16 * j)) ∗ bPts d L B ∗ R)
      ⊢ wp frame (wpE (defs₀ (F := F)) 𝒱₀ (tV d L) none) Set.univ (chunk L aM bM k (lanes k P) (lanes k Q) j hj)
          fun _ => iprop(aPts d L (stage A (comb P Q A B) (1024 * k.val + 16 * (j + 1))) ∗ bPts d L B ∗ R) := by
  unfold chunk
  iintro ⟨Ha, Hb, HR⟩
  sl_exec
  sl_step
  isplitl [Ha]
  · rw [stage_step k P Q A B j hj]; iexact Ha
  isplitl [Hb]; · iexact Hb
  iexact HR

theorem chunks_wp (k : Fin k2_t3_loop.trips) (P Q : S32x16.Idx → Elt F .f32) (A B : S32x1024.Idx → Elt F .f32) (R : sProp 𝕄) :
    (n : Nat) → (hn : n ≤ 64) →
    iprop(aPts d L (stage A (comb P Q A B) (1024 * k.val + 16 * (64 - n))) ∗ bPts d L B ∗ R)
      ⊢ wp frame (wpE (defs₀ (F := F)) 𝒱₀ (tV d L) none) Set.univ (chunks L aM bM k (lanes k P) (lanes k Q) n hn)
          fun _ => iprop(aPts d L (stage A (comb P Q A B) (1024 * (k.val + 1))) ∗ bPts d L B ∗ R)
  | 0, _ => by
    unfold chunks
    rw [show 1024 * k.val + 16 * (64 - 0) = 1024 * (k.val + 1) by omega]
    iintro H; sl_step; iexact H
  | n + 1, hn => by
    unfold chunks
    rw [wp_bind]
    refine (chunk_wp d L k P Q A B (64 - (n + 1)) _ R).trans (wp_mono _ _ _ fun _ => ?_)
    rw [show 64 - (n + 1) + 1 = 64 - n by omega]
    exact chunks_wp k P Q A B R n (Nat.le_of_succ_le hn)

theorem row_wp (k : Fin k2_t3_loop.trips) (P Q : S32x16.Idx → Elt F .f32) (A B : S32x1024.Idx → Elt F .f32) :
    iprop(aPts d L (stage A (comb P Q A B) (1024 * k.val)) ∗ bPts d L B ∗ pPts d L P ∗ qPts d L Q)
      ⊢ wp frame (wpE (defs₀ (F := F)) 𝒱₀ (tV d L) none) Set.univ (row L pM qM aM bM k)
          fun _ => iprop(aPts d L (stage A (comb P Q A B) (1024 * (k.val + 1))) ∗ bPts d L B ∗ pPts d L P ∗ qPts d L Q) := by
  unfold row
  generalize hc : @chunks F _ L aM bM k = C
  iintro ⟨Ha, Hb, Hp, Hq⟩
  sl_exec
  subst hc
  rw [wp_bind]
  iapply ((chunks_wp d L k P Q A B iprop(pPts d L P ∗ qPts d L Q) 64 (Nat.le_refl 64)).trans (wp_mono _ _ _ fun _ => ?_)) $$ [Ha Hb Hp Hq]
  · iintro H; sl_step; iexact H
  · isplitl [Ha]; · iexact Ha
    isplitl [Hb]; · iexact Hb
    isplitl [Hp] <;> iassumption

end Run

end Cert.Proof.Moe

end
-- ==== Proof.Fetch.lean ====
/-
  The gather of whole rows, 128 columns a trip: after `k` trips the first `128 k` columns of the row buffer hold those of the
  rows the list names.
-/
module

public import proofs.«01_k».proof.Proof.Rows
public import Idealize.ShloMosaic.Lib.WritesUnit

@[expose] public section

noncomputable section

namespace Cert.Proof.Moe

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "yM" => (Memref.whole Cert.KernelIdeal.main_v1_scv : Memref Cert.KernelIdeal.sig Kind.scVector Space.hbm Cert.KernelIdeal.S5888x1024 EltTy.f32)

open Idealize.ShloMosaic.ValueIdx (ix1 ix2 eq_ix1 eq_ix2)

/-- The row a position names (the last one, for a word that names none). -/
def rowNo (v : BitVec 32) : Fin 5888 := ⟨min v.toNat 5887, by omega⟩

/-- The rows a list of positions names. -/
def named {α : Type} (Y : S5888x1024.Idx → α) (l : S32.Idx → BitVec 32) : S32x1024.Idx → α := fun x =>
  Y (ix2 (rowNo (l (ix1 (x 0)))) (x 1))

/-- The place in the list of word `j`. -/
theorem place_eq (j : Fin 32) (h : 32 = S32.numel) : S32.rowMajor.symm (j.cast h) = ix1 j := by
  rw [Equiv.symm_apply_eq]
  exact Fin.ext (by rw [Shape.rowMajor_val_one]; rfl)

section Run

variable (d : Dev nD) (L : grid2.Coords)

/-- What the stream brings: at row `x 0`, the window's part of the row its position names. -/
theorem payload_eq (k : Fin k2_t1_loop.trips) (Y : S5888x1024.Idx → Elt F .f32) (l : S32.Idx → BitVec 32)
    (hn : S32.numel = S32x128.size gathers_S5888x128_S32x128.axis')
    (hin : ∀ x, (l x).toNat < S5888x128.size gathers_S5888x128_S32x128.axis)
    (x : S32x128.Idx) (z : S32x1024.Idx) (h0 : (z 0).val = (x 0).val) (h1 : (z 1).val = 128 * k.val + (x 1).val) :
    SparseCore.gatherPayload (F := F) (e := .f32) gathers_S5888x128_S32x128
        (View.read (Elt F) ((yM).slice (Rect.unit (s := S5888x1024) (k2_off4 k) S5888x128.size (k2_off4_inb k)) (fun _ => rfl)).view Y)
        (SparseCore.rows (F := F) l hn hin) x = named Y l z := by
  have hp : S32.rowMajor.symm ((x 0).cast hn.symm) = ix1 (x 0) := place_eq (x 0) hn.symm
  have ez : (z 0 : Fin 32) = x 0 := Fin.ext h0
  have e0 : k2_off4 k 0 = 0 := congrFun (k2_off4_eq k) 0
  have e1 : k2_off4 k 1 = 128 * k.val := congrFun (k2_off4_eq k) 1
  show Y _ = Y _
  refine congrArg Y (funext fun a => Fin.ext ?_)
  match a with
  | 0 =>
    show k2_off4 k 0 + 1 * (l (S32.rowMajor.symm ((x 0).cast hn.symm))).toNat = min (l (ix1 (z 0))).toNat 5887
    rw [hp, ez, e0]
    exact (by omega : ∀ n : ℕ, n < 5888 → 0 + 1 * n = min n 5887) _ (hin _)
  | 1 =>
    show k2_off4 k 1 + 1 * (x 1).val = (z 1).val
    rw [e1]; omega

/-- The row buffer's first `n` columns are done. -/
def Fetched (A : Memref sig .scVector .vmem S32x1024 .f32) (G : S32x1024.Idx → Elt F .f32) (n : ℕ) (f : A.view.ty.Contents (Elt F)) : Prop :=
  ∀ x : S32x1024.Idx, (x 1).val < n → A.view.read (Elt F) f x = G x

/-- One more window of columns. -/
theorem fetched_window (A : Memref sig .scVector .vmem S32x1024 .f32) (n : ℕ) (G : S32x1024.Idx → Elt F .f32)
    (o : Fin 2 → ℕ) (ho : ∀ a, o a + S32x128.size a ≤ S32x1024.size a) (e : o = ![0, n])
    (f : A.view.ty.Contents (Elt F)) (hf : Fetched A G n f) (w : S32x128.Idx → Elt F .f32)
    (hw : ∀ (x : S32x128.Idx) (z : S32x1024.Idx), (z 0).val = (x 0).val → (z 1).val = n + (x 1).val → w x = G z) :
    Fetched A G (n + 128) (A.view.writes (Elt F) f [⟨Rect.unit (s := S32x1024) o S32x128.size ho, w⟩]) := by
  intro x hx
  rw [View.read_writes_cons_unit A.view f ho w [] x e]
  have h0 : (x 0).val < 32 := (x 0).isLt
  by_cases hc : (x 1).val < n
  · rw [dif_neg fun h => by have := (h 1).1; exact absurd hc (Nat.not_lt.mpr this)]
    exact hf x hc
  · rw [dif_pos fun a => by
      match a with
      | 0 => exact ⟨Nat.zero_le _, by show (x 0).val < 0 + 32; omega⟩
      | 1 => exact ⟨Nat.le_of_not_lt hc, hx⟩]
    exact hw _ x (by rw [Rect.unitLocal_val]; rfl) (by rw [Rect.unitLocal_val]; show (x 1).val = n + ((x 1).val - n); omega)

theorem fetched_step (A : Memref sig .scVector .vmem S32x1024 .f32) (k : Fin k2_t1_loop.trips) (G : S32x1024.Idx → Elt F .f32)
    (f : A.view.ty.Contents (Elt F)) (hf : Fetched A G (128 * k.val) f) (w : S32x128.Idx → Elt F .f32)
    (hw : ∀ (x : S32x128.Idx) (z : S32x1024.Idx), (z 0).val = (x 0).val → (z 1).val = 128 * k.val + (x 1).val → w x = G z) :
    Fetched A G (128 * (k.val + 1))
      (View.write (Elt F) (A.slice (Rect.unit (s := S32x1024) (k2_off3 k) S32x128.size (k2_off3_inb k)) (fun _ => rfl)).view f w Finset.univ) :=
  fetched_window A (128 * k.val) G (k2_off3 k) (k2_off3_inb k) (k2_off3_eq k) f hf w hw

/-- What a trip holds, before and after. -/
def fetchInv (Lm : Memref sig .scVector .vmem S32 .i32) (A : Memref sig .scVector .vmem S32x1024 .f32) (q : PosShare TreeShare)
    (Y : S5888x1024.Idx → Elt F .f32) (l : Buf (Elt F) (Lm.view.loc (tV d L))) (O : CellTallies nD τ sig (HIx 1)) (W : Waits sig (HIx 1))
    (n : ℕ) : sProp 𝕄 :=
  iprop(Transfers.MayWaits (tV d L) (none : HIx 1) O
    ∗ ((yM).view.loc (tV d L) ↦{q} Y) ∗ (Lm.view.loc (tV d L) ↦{fullShare} l)
    ∗ (∃ f, ⌜Fetched A (named Y (Lm.view.read (Elt F) l)) (128 * n) f⌝ ∗ (A.view.loc (tV d L) ↦{fullShare} f))
    ∗ semVal (tV d L, SemLoc.dma cc2_scratch6.sem) 0
    ∗ ∃ W', ⌜∀ p ∈ W', p ∈ W ∨ p.2 = none⌝ ∗ owes (tV d L) O W')

set_option maxRecDepth 100000 in
theorem fetch_wp (Lm : Memref sig .scVector .vmem S32 .i32) (hL : Lm.IsWhole) (A : Memref sig .scVector .vmem S32x1024 .f32) (hA : A.IsWhole)
    (k : Fin k2_t1_loop.trips) (q : PosShare TreeShare) (Y : S5888x1024.Idx → Elt F .f32)
    (l : Buf (Elt F) (Lm.view.loc (tV d L)))
    (hin : ∀ x, (Lm.view.read (Elt F) l x).toNat < S5888x128.size gathers_S5888x128_S32x128.axis)
    (O : CellTallies nD τ sig (HIx 1)) (W : Waits sig (HIx 1)) :
    fetchInv d L Lm A q Y l O W k.val
      ⊢ wp frame (wpE (defs₀ (F := F)) 𝒱₀ (tV d L) none) Set.univ (fetch L yM Lm A cc2_scratch6 k)
          fun _ => fetchInv d L Lm A q Y l O W (k.val + 1) := by
  unfold fetch fetchInv
  iintro ⟨Hmw, Hy, Hl, ⟨%f, %hf, Ha⟩, Hsem, %W', %hW', HO⟩
  sl_exec
  sl_step
  isplitl [Hmw]; · iexact Hmw
  isplitl [Hy]; · iexact Hy
  isplitl [Hl]; · iexact Hl
  isplitl [Ha]
  · iexists _; isplitr
    swap; · iexact Ha
    ipureintro
    exact fetched_step A k _ f hf _ fun x z h0 h1 => payload_eq k Y _ _ hin x z h0 h1
  isplitl [Hsem]; · iexact Hsem
  iexists _; isplitr
  swap; · iexact HO
  ipureintro; intro p hp
  rcases Finset.mem_insert.mp hp with hp | hp
  · exact .inr (hp ▸ rfl)
  · exact hW' p hp

end Run

end Cert.Proof.Moe

end
-- ==== Proof.Half.lean ====
/-
  One half of a tile's work, run: from the arrays it reads (a share of each) and its thirty-two rows of the result at
  anything, to those rows at the weighted sums.
-/
module

public import proofs.«01_k».proof.Proof.Fetch

@[expose] public section

noncomputable section

namespace Cert.Proof.Moe

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "yM" => (Memref.whole Cert.KernelIdeal.main_v1_scv : Memref Cert.KernelIdeal.sig Kind.scVector Space.hbm Cert.KernelIdeal.S5888x1024 EltTy.f32)
local notation "p0M" => (Memref.whole Cert.KernelIdeal.main_arg12_scv : Memref Cert.KernelIdeal.sig Kind.scVector Space.hbm Cert.KernelIdeal.S2048 EltTy.i32)
local notation "p1M" => (Memref.whole Cert.KernelIdeal.main_arg13_scv : Memref Cert.KernelIdeal.sig Kind.scVector Space.hbm Cert.KernelIdeal.S2048 EltTy.i32)
local notation "e0M" => (Memref.whole Cert.KernelIdeal.main_v0_3_scv : Memref Cert.KernelIdeal.sig Kind.scVector Space.hbm Cert.KernelIdeal.S2048x16 EltTy.f32)
local notation "e1M" => (Memref.whole Cert.KernelIdeal.main_v0_4_scv : Memref Cert.KernelIdeal.sig Kind.scVector Space.hbm Cert.KernelIdeal.S2048x16 EltTy.f32)
local notation "oM" => (Memref.whole Cert.KernelIdeal.main_v2_scv : Memref Cert.KernelIdeal.sig Kind.scVector Space.hbm Cert.KernelIdeal.S2048x1024 EltTy.f32)
local notation "l0M" => (Memref.whole Cert.KernelIdeal.cc2_scratch0 : Memref Cert.KernelIdeal.sig Kind.scVector Space.vmem Cert.KernelIdeal.S32 EltTy.i32)
local notation "l1M" => (Memref.whole Cert.KernelIdeal.cc2_scratch1 : Memref Cert.KernelIdeal.sig Kind.scVector Space.vmem Cert.KernelIdeal.S32 EltTy.i32)
local notation "pM" => (Memref.whole Cert.KernelIdeal.cc2_scratch2 : Memref Cert.KernelIdeal.sig Kind.scVector Space.vmem Cert.KernelIdeal.S32x16 EltTy.f32)
local notation "qM" => (Memref.whole Cert.KernelIdeal.cc2_scratch3 : Memref Cert.KernelIdeal.sig Kind.scVector Space.vmem Cert.KernelIdeal.S32x16 EltTy.f32)
local notation "aM" => (Memref.whole Cert.KernelIdeal.cc2_scratch4 : Memref Cert.KernelIdeal.sig Kind.scVector Space.vmem Cert.KernelIdeal.S32x1024 EltTy.f32)
local notation "bM" => (Memref.whole Cert.KernelIdeal.cc2_scratch5 : Memref Cert.KernelIdeal.sig Kind.scVector Space.vmem Cert.KernelIdeal.S32x1024 EltTy.f32)

open Idealize.ShloMosaic.ValueIdx (ix1 ix2 eq_ix1 eq_ix2)

/-- The whole result: every token's two rows by its two weights. -/
def outV (Y : S5888x1024.Idx → Elt F .f32) (P0 P1 : S2048.Idx → BitVec 32) (E0 E1 : S2048x16.Idx → Elt F .f32) :
    S2048x1024.Idx → Elt F .f32 := fun x =>
  FloatOps.addf
    (FloatOps.mulf (E0 (ix2 (x 0) ⟨(x 1).val % 16, Nat.mod_lt _ (by decide)⟩)) (Y (ix2 (rowNo (P0 (ix1 (x 0)))) (x 1))))
    (FloatOps.mulf (E1 (ix2 (x 0) ⟨(x 1).val % 16, Nat.mod_lt _ (by decide)⟩)) (Y (ix2 (rowNo (P1 (ix1 (x 0)))) (x 1))))

section Run

variable (d : Dev nD) (L : grid2.Coords)

/-- The half's part of a position array, of a weight array, of the result. -/
abbrev lRect (c : Fin 2) : Rect S2048 := Rect.unit (s := S2048) (k2_off1 L (BitVec.ofNat 32 (32 * c.val))) S32.size (k2_off1_inb L c)
abbrev wRect (c : Fin 2) : Rect S2048x16 := Rect.unit (s := S2048x16) (k2_off2 L (BitVec.ofNat 32 (32 * c.val))) S32x16.size (k2_off2_inb L c)
abbrev oRect (c : Fin 2) : Rect S2048x1024 := Rect.unit (s := S2048x1024) (k2_off72 L (BitVec.ofNat 32 (32 * c.val))) S32x1024.size (k2_off72_inb L c)
abbrev lPart (c : Fin 2) (P : S2048.Idx → BitVec 32) : S32.Idx → BitVec 32 := fun x => P ((lRect L c).emb x)
abbrev wPart (c : Fin 2) (E : S2048x16.Idx → Elt F .f32) : S32x16.Idx → Elt F .f32 := fun x => E ((wRect L c).emb x)
abbrev oBlk (c : Fin 2) : Memref sig .scVector .hbm S32x1024 .f32 := (oM).slice (oRect L c) (fun _ => rfl)

/-- What the half computes is its part of the result. -/
theorem part_eq (c : Fin 2) (Y : S5888x1024.Idx → Elt F .f32) (P0 P1 : S2048.Idx → BitVec 32) (E0 E1 : S2048x16.Idx → Elt F .f32)
    (x : S32x1024.Idx) :
    comb (wPart L c E0) (wPart L c E1) (named Y (lPart L c P0)) (named Y (lPart L c P1)) x = outV Y P0 P1 E0 E1 ((oRect L c).emb x) := by
  have el := congrFun (k2_off1_eq L c) 0
  have ew := congrFun (k2_off2_eq L c) 0
  have ew' := congrFun (k2_off2_eq L c) 1
  have eo := congrFun (k2_off72_eq L c) 0
  have eo' := congrFun (k2_off72_eq L c) 1
  have hl : (lRect L c).emb (ix1 (x 0)) = ix1 ((oRect L c).emb x 0) := funext fun a => Fin.ext (by
    match a with
    | 0 =>
      show k2_off1 L (BitVec.ofNat 32 (32 * c.val)) 0 + 1 * (x 0).val = k2_off72 L (BitVec.ofNat 32 (32 * c.val)) 0 + 1 * (x 0).val
      exact congrArg (· + 1 * (x 0).val) (el.trans eo.symm))
  have h1 : ((oRect L c).emb x 1).val = (x 1).val := by
    show k2_off72 L (BitVec.ofNat 32 (32 * c.val)) 1 + 1 * (x 1).val = (x 1).val
    rw [eo']; show 0 + 1 * (x 1).val = (x 1).val; omega
  have hx1 : (x 1 : Fin 1024) = (oRect L c).emb x 1 := Fin.ext h1.symm
  have hw : (wRect L c).emb (ix2 (x 0) ⟨(x 1).val % 16, Nat.mod_lt _ (by decide)⟩)
      = ix2 ((oRect L c).emb x 0) ⟨((oRect L c).emb x 1).val % 16, Nat.mod_lt _ (by decide)⟩ := funext fun a => Fin.ext (by
    match a with
    | 0 =>
      show k2_off2 L (BitVec.ofNat 32 (32 * c.val)) 0 + 1 * (x 0).val = k2_off72 L (BitVec.ofNat 32 (32 * c.val)) 0 + 1 * (x 0).val
      exact congrArg (· + 1 * (x 0).val) (ew.trans eo.symm)
    | 1 =>
      show k2_off2 L (BitVec.ofNat 32 (32 * c.val)) 1 + 1 * ((x 1).val % 16) = ((oRect L c).emb x 1).val % 16
      rw [h1, ew']; show 0 + 1 * ((x 1).val % 16) = (x 1).val % 16; omega)
  show FloatOps.addf (FloatOps.mulf (E0 _) (Y (ix2 (rowNo (P0 _)) _))) (FloatOps.mulf (E1 _) (Y (ix2 (rowNo (P1 _)) _))) = _
  rw [hw, hl, hx1]
  rfl

theorem trips_fetch : k2_t1_loop.trips = 8 := by decide +kernel
theorem trips_row : k2_t3_loop.trips = 32 := by decide +kernel

/-- All eight windows fetched: the rows the list names. -/
theorem fetched_all (b : Memref sig .scVector .vmem S32x1024 .f32) (G : S32x1024.Idx → Elt F .f32) (f : b.view.ty.Contents (Elt F))
    (h : Fetched b G (128 * k2_t1_loop.trips) f) : b.view.read (Elt F) f = G :=
  funext fun x => h x (by have : (x 1).val < 1024 := (x 1).isLt; rw [trips_fetch]; omega)

/-- The rows before trip `n` done. -/
def rowInv (P Q : S32x16.Idx → Elt F .f32) (A B : S32x1024.Idx → Elt F .f32) (n : ℕ) : sProp 𝕄 :=
  iprop(aPts d L (stage A (comb P Q A B) (1024 * n)) ∗ bPts d L B ∗ pPts d L P ∗ qPts d L Q)

omit [FloatOps F] in
/-- A whole view written at what it would read off `G` is `G` there. -/
theorem landed {sp : Space} {s : Shape} {e : EltTy} (v : View sig .scVector sp s e) (f G : v.ty.Contents (Elt F)) (w : s.Idx → Elt F e)
    (hw : ∀ x, w x = v.read (Elt F) G x) : ∀ i ∈ v.set, v.writes (Elt F) f [⟨Rect.whole s, w⟩] i = G i := by
  intro i hi
  obtain ⟨x, _, hx⟩ := Finset.mem_map.mp hi
  have h := View.read_writes_cons_emb v f (Rect.whole s) w [] x
  rw [Rect.emb_whole_apply] at h
  have h' := h.trans (hw x)
  rw [View.read_apply, View.read_apply] at h'
  rw [← hx]
  exact cast_inj _ |>.mp h'

/-- What a tile reads and works in, but for the copies' cells and its rows of the result. -/
def kit (q : PosShare TreeShare) (Y : S5888x1024.Idx → Elt F .f32) (P0 P1 : S2048.Idx → BitVec 32) (E0 E1 : S2048x16.Idx → Elt F .f32)
    (O : CellTallies nD τ sig (HIx 1)) (W : Waits sig (HIx 1)) : sProp 𝕄 :=
  iprop(Transfers.MayWaits (tV d L) (none : HIx 1) O
    ∗ ((yM).view.loc (tV d L) ↦{q} Y) ∗ ((p0M).view.loc (tV d L) ↦{q} P0) ∗ ((p1M).view.loc (tV d L) ↦{q} P1)
    ∗ ((e0M).view.loc (tV d L) ↦{q} E0) ∗ ((e1M).view.loc (tV d L) ↦{q} E1)
    ∗ (∃ f, (l0M).view.loc (tV d L) ↦{fullShare} f) ∗ (∃ f, (l1M).view.loc (tV d L) ↦{fullShare} f)
    ∗ (∃ f, (pM).view.loc (tV d L) ↦{fullShare} f) ∗ (∃ f, (qM).view.loc (tV d L) ↦{fullShare} f)
    ∗ (∃ f, (aM).view.loc (tV d L) ↦{fullShare} f) ∗ (∃ f, (bM).view.loc (tV d L) ↦{fullShare} f)
    ∗ semVal (tV d L, SemLoc.dma cc2_scratch6.sem) 0
    ∗ ∃ W', ⌜∀ p ∈ W', p ∈ W ∨ p.2 = none⌝ ∗ owes (tV d L) O W')

/-- Five copies' cells at zero. -/
def five (s0 s1 s2 s3 s4 : DmaSems sig S_) : sProp 𝕄 :=
  iprop(semVal (tV d L, SemLoc.dma s0.sem) 0 ∗ semVal (tV d L, SemLoc.dma s1.sem) 0 ∗ semVal (tV d L, SemLoc.dma s2.sem) 0
    ∗ semVal (tV d L, SemLoc.dma s3.sem) 0 ∗ semVal (tV d L, SemLoc.dma s4.sem) 0)

/-- The half's rows of the result. -/
abbrev oPart (c : Fin 2) (f : S2048x1024.Idx → Elt F .f32) : sProp 𝕄 := (oBlk L c).view.loc (tV d L) ↦[(oBlk L c).view.set]{fullShare} f

set_option maxRecDepth 100000 in
set_option maxHeartbeats 4000000 in
theorem half_wp (c : Fin 2) (s0 s1 s2 s3 s4 : DmaSems sig S_) (q : PosShare TreeShare) (Y : S5888x1024.Idx → Elt F .f32)
    (P0 P1 : S2048.Idx → BitVec 32) (E0 E1 : S2048x16.Idx → Elt F .f32)
    (h0 : ∀ x, (P0 x).toNat < 5888) (h1 : ∀ x, (P1 x).toNat < 5888)
    (O : CellTallies nD τ sig (HIx 1)) (W : Waits sig (HIx 1)) :
    iprop(kit d L q Y P0 P1 E0 E1 O W ∗ five d L s0 s1 s2 s3 s4 ∗ ∃ f, oPart d L c f)
      ⊢ wp frame (wpE (defs₀ (F := F)) 𝒱₀ (tV d L) none) Set.univ
          (half L c yM (Memref.isWhole_whole _) p0M (Memref.isWhole_whole _) p1M (Memref.isWhole_whole _) e0M (Memref.isWhole_whole _)
            e1M (Memref.isWhole_whole _) oM (Memref.isWhole_whole _) l0M (Memref.isWhole_whole _) l1M (Memref.isWhole_whole _)
            pM (Memref.isWhole_whole _) qM (Memref.isWhole_whole _) aM (Memref.isWhole_whole _) bM (Memref.isWhole_whole _)
            cc2_scratch6 s0 s1 s2 s3 s4)
          fun _ => iprop(kit d L q Y P0 P1 E0 E1 O W ∗ five d L s0 s1 s2 s3 s4 ∗ oPart d L c (outV Y P0 P1 E0 E1)) := by
  unfold half kit five
  iintro ⟨⟨Hmw, Hy, Hp0, Hp1, He0, He1, ⟨%fl0, Hl0⟩, ⟨%fl1, Hl1⟩, ⟨%fp, Hp⟩, ⟨%fq, Hq⟩, ⟨%fa, Ha⟩, ⟨%fb, Hb⟩, Hs, %W', %hW', HO⟩, ⟨Hs0, Hs1, Hs2, Hs3, Hs4⟩, %fo, Ho⟩
  sl_exec
  ihave Hl0' := (Entails.of_eq (congrArg (fun f => ((l0M).view.loc (tV d L) ↦{fullShare} f : sProp 𝕄))
    (View.write_whole_univ (cc2_scratch0 : Ref sig .scVector) fl0 (half_wp.sl.dma0 L c P0)))) $$ Hl0
  ihave Hl1' := (Entails.of_eq (congrArg (fun f => ((l1M).view.loc (tV d L) ↦{fullShare} f : sProp 𝕄))
    (View.write_whole_univ (cc2_scratch1 : Ref sig .scVector) fl1 (half_wp.sl.dma0_1 L c P1)))) $$ Hl1
  ihave Hp' := (Entails.of_eq (congrArg (fun f => ((pM).view.loc (tV d L) ↦{fullShare} f : sProp 𝕄))
    (View.write_whole_univ (cc2_scratch2 : Ref sig .scVector) fp (half_wp.sl.dma0_2 L c E0)))) $$ Hp
  ihave Hq' := (Entails.of_eq (congrArg (fun f => ((qM).view.loc (tV d L) ↦{fullShare} f : sProp 𝕄))
    (View.write_whole_univ (cc2_scratch3 : Ref sig .scVector) fq (half_wp.sl.dma0_3 L c E1)))) $$ Hq
  have hl0 : half_wp.sl.dma0 (F := F) L c P0 = lPart L c P0 := rfl
  have hl1 : half_wp.sl.dma0_1 (F := F) L c P1 = lPart L c P1 := rfl
  have hp : half_wp.sl.dma0_2 L c E0 = wPart L c E0 := rfl
  have hq : half_wp.sl.dma0_3 L c E1 = wPart L c E1 := rfl
  rw [hl0, hl1, hp, hq]
  sl_for (fun n _ => fetchInv d L l0M aM q Y (lPart L c P0) O W n) $$ [Hmw Hy Hl0' Ha Hs HO]
  case region =>
    intro k _
    exact fetch_wp d L l0M (Memref.isWhole_whole _) aM (Memref.isWhole_whole _) k q Y (lPart L c P0) (fun x => h0 _) O W
  · unfold fetchInv
    isplitl [Hmw]; · iexact Hmw
    isplitl [Hy]; · iexact Hy
    isplitl [Hl0']; · iexact Hl0'
    isplitl [Ha]
    · iexists fa; isplitr
      · ipureintro; intro x hx; omega
      · iexact Ha
    isplitl [Hs]; · iexact Hs
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  iintro %_ HI
  unfold fetchInv
  icases HI with ⟨Hmw, Hy, Hl0, ⟨%ga, %hga, Ha⟩, Hs, %W1, %hW1, HO⟩
  sl_exec
  sl_for (fun n _ => fetchInv d L l1M bM q Y (lPart L c P1) O W n) $$ [Hmw Hy Hl1' Hb Hs HO]
  case region =>
    intro k _
    exact fetch_wp d L l1M (Memref.isWhole_whole _) bM (Memref.isWhole_whole _) k q Y (lPart L c P1) (fun x => h1 _) O W
  · unfold fetchInv
    isplitl [Hmw]; · iexact Hmw
    isplitl [Hy]; · iexact Hy
    isplitl [Hl1']; · iexact Hl1'
    isplitl [Hb]
    · iexists fb; isplitr
      · ipureintro; intro x hx; omega
      · iexact Hb
    isplitl [Hs]; · iexact Hs
    iexists W1; isplitr
    · ipureintro; exact hW1
    · iexact HO
  iintro %_ HI
  unfold fetchInv
  icases HI with ⟨Hmw, Hy, Hl1, ⟨%gb, %hgb, Hb⟩, Hs, %W2, %hW2, HO⟩
  have ea : ga = named Y (lPart L c P0) := fetched_all aM _ ga hga
  have eb : gb = named Y (lPart L c P1) := fetched_all bM _ gb hgb
  subst ea eb
  sl_exec
  sl_for (fun n _ => rowInv d L (wPart L c E0) (wPart L c E1) (named Y (lPart L c P0)) (named Y (lPart L c P1)) n) $$ [Ha Hb Hp' Hq']
  case region =>
    intro k _
    exact row_wp d L k (wPart L c E0) (wPart L c E1) (named Y (lPart L c P0)) (named Y (lPart L c P1))
  · unfold rowInv
    rw [Nat.mul_zero, stage_zero]
    isplitl [Ha]; · iexact Ha
    isplitl [Hb]; · iexact Hb
    isplitl [Hp'] <;> iassumption
  iintro %_ HI
  unfold rowInv
  icases HI with ⟨Ha, Hb, Hp, Hq⟩
  ihave Ha := (Entails.of_eq (congrArg (fun n => aPts d L (stage (named Y (lPart L c P0)) (comb (wPart L c E0) (wPart L c E1) (named Y (lPart L c P0)) (named Y (lPart L c P1))) (1024 * n))) trips_row)) $$ Ha
  rw [stage_all]
  sl_exec
  sl_step
  isplitr [Hs0 Hs1 Hs2 Hs3 Hs4 Ho]
  · isplitl [Hmw]; · iexact Hmw
    isplitl [Hy]; · iexact Hy
    isplitl [Hp0]; · iexact Hp0
    isplitl [Hp1]; · iexact Hp1
    isplitl [He0]; · iexact He0
    isplitl [He1]; · iexact He1
    isplitl [Hl0]; · iexists _; iexact Hl0
    isplitl [Hl1]; · iexists _; iexact Hl1
    isplitl [Hp]; · iexists _; iexact Hp
    isplitl [Hq]; · iexists _; iexact Hq
    isplitl [Ha]; · iexists _; iexact Ha
    isplitl [Hb]; · iexists _; iexact Hb
    isplitl [Hs]; · iexact Hs
    iexists _; isplitr
    swap; · iexact HO
    ipureintro; intro p hp
    rcases Finset.mem_insert.mp hp with hp | hp; · exact .inr (hp ▸ rfl)
    exact hW2 p hp
  isplitr [Ho]
  · isplitl [Hs0]; · iexact Hs0
    isplitl [Hs1]; · iexact Hs1
    isplitl [Hs2]; · iexact Hs2
    isplitl [Hs3] <;> iassumption
  iapply (Entails.of_eq (pointsTo_congr (landed (oBlk L c).view fo (outV Y P0 P1 E0 E1) (half_wp.sl.dma0_4 L c Y P0 P1 E0 E1) fun x => part_eq L c Y P0 P1 E0 E1 x)))
  iexact Ho

end Run

end Cert.Proof.Moe

end
-- ==== Proof.Tile.lean ====
/-
  A tile's whole task: its two halves, run from what the launch hands the tile.
-/
module

public import proofs.«01_k».proof.Proof.Half
public import Idealize.ShloMosaic.Lib.ShareLeaves

@[expose] public section

noncomputable section

namespace Cert.Proof.Moe

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "yM" => (Memref.whole Cert.KernelIdeal.main_v1_scv : Memref Cert.KernelIdeal.sig Kind.scVector Space.hbm Cert.KernelIdeal.S5888x1024 EltTy.f32)
local notation "p0M" => (Memref.whole Cert.KernelIdeal.main_arg12_scv : Memref Cert.KernelIdeal.sig Kind.scVector Space.hbm Cert.KernelIdeal.S2048 EltTy.i32)
local notation "p1M" => (Memref.whole Cert.KernelIdeal.main_arg13_scv : Memref Cert.KernelIdeal.sig Kind.scVector Space.hbm Cert.KernelIdeal.S2048 EltTy.i32)
local notation "e0M" => (Memref.whole Cert.KernelIdeal.main_v0_3_scv : Memref Cert.KernelIdeal.sig Kind.scVector Space.hbm Cert.KernelIdeal.S2048x16 EltTy.f32)
local notation "e1M" => (Memref.whole Cert.KernelIdeal.main_v0_4_scv : Memref Cert.KernelIdeal.sig Kind.scVector Space.hbm Cert.KernelIdeal.S2048x16 EltTy.f32)
local notation "oM" => (Memref.whole Cert.KernelIdeal.main_v2_scv : Memref Cert.KernelIdeal.sig Kind.scVector Space.hbm Cert.KernelIdeal.S2048x1024 EltTy.f32)
local notation "l0M" => (Memref.whole Cert.KernelIdeal.cc2_scratch0 : Memref Cert.KernelIdeal.sig Kind.scVector Space.vmem Cert.KernelIdeal.S32 EltTy.i32)
local notation "l1M" => (Memref.whole Cert.KernelIdeal.cc2_scratch1 : Memref Cert.KernelIdeal.sig Kind.scVector Space.vmem Cert.KernelIdeal.S32 EltTy.i32)
local notation "pM" => (Memref.whole Cert.KernelIdeal.cc2_scratch2 : Memref Cert.KernelIdeal.sig Kind.scVector Space.vmem Cert.KernelIdeal.S32x16 EltTy.f32)
local notation "qM" => (Memref.whole Cert.KernelIdeal.cc2_scratch3 : Memref Cert.KernelIdeal.sig Kind.scVector Space.vmem Cert.KernelIdeal.S32x16 EltTy.f32)
local notation "aM" => (Memref.whole Cert.KernelIdeal.cc2_scratch4 : Memref Cert.KernelIdeal.sig Kind.scVector Space.vmem Cert.KernelIdeal.S32x1024 EltTy.f32)
local notation "bM" => (Memref.whole Cert.KernelIdeal.cc2_scratch5 : Memref Cert.KernelIdeal.sig Kind.scVector Space.vmem Cert.KernelIdeal.S32x1024 EltTy.f32)

/-- The tile of core `c`, subcore `s`. -/
def at2 (c : Fin 2) (s : Fin 16) : grid2.Coords :=
  fun | 0 => c | 1 => s | ⟨_ + 2, h⟩ => absurd h (Nat.not_lt.2 (Nat.le_add_left _ _))

/-- A tile's number, and its share of what all tiles read. -/
def tileNo (L : grid2.Coords) : Fin (2 ^ 5) := Fin.cast (by decide) (finProdFinEquiv (m := 2) (n := 16) (L 0, L 1))
abbrev tq (L : grid2.Coords) : PosShare TreeShare := ShareLeaves.leaf 5 fullShare (tileNo L)

section Tile

variable (d : Dev nD) (L : grid2.Coords)

/-- What a tile reads: a share of each of the five arrays. -/
abbrev reads (Y : S5888x1024.Idx → Elt F .f32) (P0 P1 : S2048.Idx → BitVec 32) (E0 E1 : S2048x16.Idx → Elt F .f32) : sProp 𝕄 :=
  iprop((yLoc d ↦{tq L} Y) ∗ (p0Loc d ↦{tq L} P0) ∗ (p1Loc d ↦{tq L} P1) ∗ (e0Loc d ↦{tq L} E0) ∗ (e1Loc d ↦{tq L} E1))

/-- A tile's rows of the result, half `c`. -/
abbrev outRows (c : Fin 2) (f : S2048x1024.Idx → Elt F .f32) : sProp 𝕄 := oLoc d ↦[(oBlk L c).view.set]{fullShare} f

/-- The copies' cells and the gather's. -/
def cells : Finset (SemLoc sig) :=
  {.dma cc2_scratch6.sem, .dma cc2_scoped0.sem, .dma cc2_scoped1.sem, .dma cc2_scoped2.sem, .dma cc2_scoped3.sem, .dma cc2_scoped4.sem,
    .dma cc2_scoped5.sem, .dma cc2_scoped6.sem, .dma cc2_scoped7.sem, .dma cc2_scoped8.sem, .dma cc2_scoped9.sem}

/-- The tile's own buffers. -/
def bufs : Finset (Ref sig .scVector) := {cc2_scratch0, cc2_scratch1, cc2_scratch2, cc2_scratch3, cc2_scratch4, cc2_scratch5}

/-- The cells in use are among the tile's own. -/
theorem ownSems0_eq :
    (ownSems0 (tV d L) : sProp 𝕄)
      = iprop((semVal (tV d L, SemLoc.dma cc2_scratch6.sem) 0 ∗ semVal (tV d L, SemLoc.dma cc2_scoped0.sem) 0 ∗ semVal (tV d L, SemLoc.dma cc2_scoped1.sem) 0 ∗ semVal (tV d L, SemLoc.dma cc2_scoped2.sem) 0
           ∗ semVal (tV d L, SemLoc.dma cc2_scoped3.sem) 0 ∗ semVal (tV d L, SemLoc.dma cc2_scoped4.sem) 0 ∗ semVal (tV d L, SemLoc.dma cc2_scoped5.sem) 0 ∗ semVal (tV d L, SemLoc.dma cc2_scoped6.sem) 0
           ∗ semVal (tV d L, SemLoc.dma cc2_scoped7.sem) 0 ∗ semVal (tV d L, SemLoc.dma cc2_scoped8.sem) 0 ∗ semVal (tV d L, SemLoc.dma cc2_scoped9.sem) 0)
          ∗ bigSep (ownCells (tV d L) \ cells.image fun s => (tV d L, s)) fun g => semVal g 0) := by
  unfold SparseCore.Cfg.ownSems0
  rw [SparseCore.bigSep_sdiff_split' (t := cells.image fun s => (tV d L, s)) fun g hg => by
      obtain ⟨s, hs, rfl⟩ := Finset.mem_image.mp hg
      refine mem_ownCells.mpr ⟨rfl, ?_⟩
      unfold cells at hs; simp only [Finset.mem_insert, Finset.mem_singleton] at hs
      rcases hs with rfl | rfl | rfl | rfl | rfl | rfl | rfl | rfl | rfl | rfl | rfl <;> rfl,
    SparseCore.bigSep_image_of_injOn (fun _ _ _ _ h => congrArg Prod.snd h)]
  congr 1
  unfold cells
  repeat rw [SparseCore.bigSep_insert' (by decide)]
  rw [bigSep_singleton]

set_option maxHeartbeats 1000000 in
/-- The buffers in use are among the tile's own. -/
theorem ownBufs_eq :
    (ownBufs (tV d L) : sProp 𝕄)
      = iprop(((∃ f, (l0M).view.loc (tV d L) ↦{fullShare} f) ∗ (∃ f, (l1M).view.loc (tV d L) ↦{fullShare} f)
          ∗ (∃ f, (pM).view.loc (tV d L) ↦{fullShare} f) ∗ (∃ f, (qM).view.loc (tV d L) ↦{fullShare} f)
          ∗ (∃ f, (aM).view.loc (tV d L) ↦{fullShare} f) ∗ (∃ f, (bM).view.loc (tV d L) ↦{fullShare} f))
          ∗ bigSep (ownRefs (tV d L).2 \ bufs.image fun b => (tV d L).2.devRef b) fun b => iprop(∃ f, ((d, b) : Loc nD τ sig) ↦{fullShare} f)) := by
  unfold SparseCore.Cfg.ownBufs
  rw [SparseCore.bigSep_sdiff_split' (t := bufs.image fun b => (tV d L).2.devRef b) fun r hr => by
      obtain ⟨b, hb, rfl⟩ := Finset.mem_image.mp hr
      unfold bufs at hb; simp only [Finset.mem_insert, Finset.mem_singleton] at hb
      rcases hb with rfl | rfl | rfl | rfl | rfl | rfl <;> exact SparseCore.Cfg.mem_ownRefs_of_owner rfl,
    SparseCore.bigSep_image_of_injOn (fun _ _ _ _ h => Proc.devRef_injective _ h)]
  congr 1
  show bigSep bufs (fun b : Ref sig .scVector => iprop(∃ f, (tV d L).loc b ↦{fullShare} f)) = _
  unfold bufs
  repeat rw [SparseCore.bigSep_insert' (by decide)]
  rw [bigSep_singleton]

theorem tile_body (hF : (K (F := F)).Facts) (Y : S5888x1024.Idx → Elt F .f32) (P0 P1 : S2048.Idx → BitVec 32) (E0 E1 : S2048x16.Idx → Elt F .f32)
    (h0 : ∀ x, (P0 x).toNat < 5888) (h1 : ∀ x, (P1 x).toNat < 5888) (G : S2048x1024.Idx → Elt F .f32)
    (O : CellTallies nD τ sig (HIx 1)) (W : Waits sig (HIx 1)) (hO : ∀ g, O g none = 0) :
    iprop(levAts (K (F := F)).L (K (F := F)).lev ∗ emp
        ∗ (reads d L Y P0 P1 E0 E1 ∗ outRows d L 0 G ∗ outRows d L 1 G)
        ∗ scopedBufs (tV d L) ∗ scopedSems0 (tV d L) ∗ owes (tV d L) O W)
      ⊢ wp frame (wpE (defs₀ (F := F)) 𝒱₀ (tV d L) none) Set.univ
          (cc2_combine L yM (Memref.isWhole_whole _) p0M (Memref.isWhole_whole _) p1M (Memref.isWhole_whole _) e0M (Memref.isWhole_whole _)
            e1M (Memref.isWhole_whole _) oM (Memref.isWhole_whole _) l0M (Memref.isWhole_whole _) l1M (Memref.isWhole_whole _)
            pM (Memref.isWhole_whole _) qM (Memref.isWhole_whole _) aM (Memref.isWhole_whole _) bM (Memref.isWhole_whole _)
            cc2_scratch6 cc2_scoped0 cc2_scoped1 cc2_scoped2 cc2_scoped3 cc2_scoped4 cc2_scoped5 cc2_scoped6 cc2_scoped7 cc2_scoped8 cc2_scoped9)
          fun _ => iprop((reads d L Y P0 P1 E0 E1 ∗ outRows d L 0 (outV Y P0 P1 E0 E1) ∗ outRows d L 1 (outV Y P0 P1 E0 E1))
            ∗ scopedBufs (tV d L) ∗ scopedSems0 (tV d L)
            ∗ ∃ W', ⌜∀ p ∈ W', p ∈ W ∨ p.2 = none⌝ ∗ owes (tV d L) O W') := by
  rw [combine_eq, wp_bind, (K (F := F)).scopedBufs_V hF d (cV L) (jV L), SparseCore.Cfg.scopedSems0_V (Val := Elt F) d (cV L) (jV L), ownSems0_eq, ownBufs_eq]
  iintro ⟨#Hlv, -, ⟨⟨Hy, Hp0, Hp1, He0, He1⟩, Ho0, Ho1⟩, ⟨⟨Hl0, Hl1, Hp, Hq, Ha, Hb⟩, Hbufs⟩, ⟨⟨Hs, Hf0, Hf1, Hf2, Hf3, Hf4, Hf5, Hf6, Hf7, Hf8, Hf9⟩, Hsems⟩, HO⟩
  ihave Hmw := (show levAts (K (F := F)).L (K (F := F)).lev ⊢ Transfers.MayWaits (tV d L) (none : HIx 1) O from
    (K (F := F)).mayWaits_none (thr := tV d L) hO) $$ Hlv
  ihave Hwp := (half_wp d L 0 cc2_scoped0 cc2_scoped1 cc2_scoped2 cc2_scoped3 cc2_scoped4 (tq L) Y P0 P1 E0 E1 h0 h1 O W)
    $$ [Hmw Hy Hp0 Hp1 He0 He1 Hl0 Hl1 Hp Hq Ha Hb Hs HO Hf0 Hf1 Hf2 Hf3 Hf4 Ho0]
  · unfold kit five
    iframe Hmw Hy Hp0 Hp1 He0 He1 Hl0 Hl1 Hp Hq Ha Hb Hs Hf0 Hf1 Hf2 Hf3 Hf4
    isplitl [HO]
    · iexists W
      iframe HO
      ipureintro; exact fun p hp => .inl hp
    · iexists G
      iexact Ho0
  iapply wp_wand $$ Hwp
  iintro %_ ⟨Hk, Hf, Ho0⟩
  ihave Hwp := (half_wp d L 1 cc2_scoped5 cc2_scoped6 cc2_scoped7 cc2_scoped8 cc2_scoped9 (tq L) Y P0 P1 E0 E1 h0 h1 O W) $$ [Hk Hf5 Hf6 Hf7 Hf8 Hf9 Ho1]
  · unfold five
    iframe Hk Hf5 Hf6 Hf7 Hf8 Hf9
    iexists G
    iexact Ho1
  iapply wp_wand $$ Hwp
  iintro %_ ⟨Hk, Hg, Ho1⟩
  unfold kit five
  icases Hf with ⟨Hf0, Hf1, Hf2, Hf3, Hf4⟩
  icases Hg with ⟨Hf5, Hf6, Hf7, Hf8, Hf9⟩
  icases Hk with ⟨-, Hy, Hp0, Hp1, He0, He1, Hl0, Hl1, Hp, Hq, Ha, Hb, Hs, HO⟩
  iframe Hy Hp0 Hp1 He0 He1 Hl0 Hl1 Hp Hq Ha Hb Hbufs Hs Hf0 Hf1 Hf2 Hf3 Hf4 Hf5 Hf6 Hf7 Hf8 Hf9 Hsems HO
  isplitl [Ho0]
  · iexact Ho0
  · iexact Ho1

end Tile

end Cert.Proof.Moe

end
-- ==== Proof.Router.lean ====
/-
  The router's body: from the tokens and the router's matrix, the logits and the two routing weights it leaves in its windows.
-/
module

public import proofs.«01_k».proof.Proof.Base
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.Pipeline.Value
public import Idealize.ShloMosaic.Lib.Exec

@[expose] public section

set_option maxRecDepth 16384

noncomputable section

namespace Cert.Proof.Moe

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What the body reads and writes: whole windows -/

abbrev rX : Rect S2048x1024 := Rect.unit (s := S2048x1024) ![0, 0] S2048x1024.size inb_S2048x1024_S2048x1024_0_0
abbrev rG : Rect S1024x8 := Rect.unit (s := S1024x8) ![0, 0] S1024x8.size inb_S1024x8_S1024x8_0_0
abbrev rL : Rect S2048x8 := Rect.unit (s := S2048x8) ![0, 0] S2048x8.size inb_S2048x8_S2048x8_0_0
abbrev rW : Rect S2048x16 := Rect.unit (s := S2048x16) ![0, 0] S2048x16.size inb_S2048x16_S2048x16_0_0

theorem zeros2 : (![0, 0] : Fin 2 → ℕ) = fun _ => 0 := by funext a; fin_cases a <;> rfl

/-- A whole window read is its contents, -/
theorem ld_x (x : Vec F S2048x1024 .f32) : View.ld x rX = x := View.ld_unit_zero zeros2 _ x
theorem ld_g (g : Vec F S1024x8 .f32) : View.ld g rG = g := View.ld_unit_zero zeros2 _ g

/-- The logits, -/
def lgOf (x : Vec F S2048x1024 .f32) (g : Vec F S1024x8 .f32) : Vec F S2048x8 .f32 := k0_pay5 x g
/-- the larger of the two largest softmax values as a share of their sum, over sixteen lanes, -/
def w0Of (x : Vec F S2048x1024 .f32) (g : Vec F S1024x8 .f32) : Vec F S2048x16 .f32 := k0_pay13 x g
/-- and the smaller. -/
def w1Of (x : Vec F S2048x1024 .f32) (g : Vec F S1024x8 .f32) : Vec F S2048x16 .f32 := k0_pay15 (k0_pay14 x g)

set_option maxHeartbeats 3000000 in
theorem router_body (c : Dev nD) (a0 : Memref sig .tc .vmem S2048x1024 .f32) (h0 : a0.IsWhole) (a1 : Memref sig .tc .vmem S1024x8 .f32) (h1 : a1.IsWhole) (a2 : Memref sig .tc .vmem S2048x8 .f32) (h2 : a2.IsWhole) (a3 : Memref sig .tc .vmem S2048x1 .i32) (h3 : a3.IsWhole) (a4 : Memref sig .tc .vmem S2048x1 .i32) (h4 : a4.IsWhole) (a5 : Memref sig .tc .vmem S2048x16 .f32) (h5 : a5.IsWhole) (a6 : Memref sig .tc .vmem S2048x16 .f32) (h6 : a6.IsWhole) (a7 : Memref sig .tc .vmem S23x1 .i32) (h7 : a7.IsWhole) (a8 : Memref sig .tc .vmem S23x1 .i32) (h8 : a8.IsWhole) (a9 : Memref sig .tc .vmem S23x1 .i32) (h9 : a9.IsWhole) (a10 : Memref sig .tc .vmem S23x1 .i32) (h10 : a10.IsWhole) (a11 : Memref sig .tc .vmem S23x1 .i32) (h11 : a11.IsWhole) (a12 : Memref sig .tc .vmem S23x1 .i32) (h12 : a12.IsWhole)
    (x : Vec F S2048x1024 .f32) (g : Vec F S1024x8 .f32) (k : PUnit → sProp 𝕄) :
    iprop(owns (c : Thread nD τ) a0 fullShare x ∗ owns (c : Thread nD τ) a1 fullShare g
        ∗ (∃ d, owns (c : Thread nD τ) a2 fullShare d) ∗ (∃ d, owns (c : Thread nD τ) a3 fullShare d) ∗ (∃ d, owns (c : Thread nD τ) a4 fullShare d) ∗ (∃ d, owns (c : Thread nD τ) a5 fullShare d) ∗ (∃ d, owns (c : Thread nD τ) a6 fullShare d) ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d)
        ∗ (iprop(owns (c : Thread nD τ) a0 fullShare x ∗ owns (c : Thread nD τ) a1 fullShare g ∗ owns (c : Thread nD τ) a2 fullShare (lgOf x g) ∗ (∃ d, owns (c : Thread nD τ) a3 fullShare d) ∗ (∃ d, owns (c : Thread nD τ) a4 fullShare d) ∗ owns (c : Thread nD τ) a5 fullShare (w0Of x g) ∗ owns (c : Thread nD τ) a6 fullShare (w1Of x g) ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d)) -∗ k ⟨⟩))
      ⊢ wp frame (wpE (defs₀ (F := F)) 𝒱₀ c none) Set.univ (cc0__router_body a0 h0 a1 h1 a2 h2 a3 h3 a4 h4 a5 h5 a6 h6 a7 h7 a8 h8 a9 h9 a10 h10 a11 h11 a12 h12) k := by
  simp only [cc0__router_body_eq_skeleton]; unfold cc0__router_body_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ fun y => View.cover_of_tiled [⟨rL, _⟩] S2048x8.size (by rfl) y).trans ((View.canon_unit_zero zeros2 _ _).trans ?_)
    show k0_pay5 (View.ld (a0.view.read (Elt F) f0) rX) (View.ld (a1.view.read (Elt F) f1) rG) = _
    rw [ld_x, ld_g]; rfl
  isplitl [H3]
  · iexists _; iexists _; isplitr
    swap; · iexact H3
    ipureintro; rfl
  isplitl [H4]
  · iexists _; iexists _; isplitr
    swap; · iexact H4
    ipureintro; rfl
  isplitl [H5]
  · iexists _; isplitr
    swap; · iexact H5
    ipureintro
    refine (View.read_writes_eq_canon _ _ _ fun y => View.cover_of_tiled [⟨rW, _⟩] S2048x16.size (by rfl) y).trans ((View.canon_unit_zero zeros2 _ _).trans ?_)
    show k0_pay13 (View.ld (a0.view.read (Elt F) f0) rX) (View.ld (a1.view.read (Elt F) f1) rG) = _
    rw [ld_x, ld_g]; rfl
  isplitl [H6]
  · iexists _; isplitr
    swap; · iexact H6
    ipureintro
    refine (View.read_writes_eq_canon _ _ _ fun y => View.cover_of_tiled [⟨rW, _⟩] S2048x16.size (by rfl) y).trans ((View.canon_unit_zero zeros2 _ _).trans ?_)
    show k0_pay15 (k0_pay14 (View.ld (a0.view.read (Elt F) f0) rX) (View.ld (a1.view.read (Elt F) f1) rG)) = _
    rw [ld_x, ld_g]; rfl
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  iexists _; iexists _; isplitr
  swap; · iexact H12
  ipureintro; rfl

end Cert.Proof.Moe

end
-- ==== Proof.Ffn.lean ====
/-
  The experts' body at one block of rows.
-/
module

public import proofs.«01_k».proof.Proof.Base
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.Pipeline.Value
public import Idealize.ShloMosaic.Lib.Exec
public import Idealize.ShloMosaic.Lib.Batch
public import Idealize.ShloMosaic.Lib.ValueIdx

@[expose] public section

set_option maxRecDepth 16384

noncomputable section

namespace Cert.Proof.Moe.Ffn

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The slots' pieces and the experts' -/

/-- A slot word is 0 or 1, an expert word one of eight. -/
abbrev Slot (s : BitVec 32) : Prop := s.toNat < 2
abbrev Exp (e : BitVec 32) : Prop := e.toNat < 8

theorem slot_off (s : BitVec 32) (hs : Slot s) (o : ℕ) (ho : o + 512 ≤ 1024) : ∀ a, (![s.toNat, o, 0] : Fin 3 → ℕ) a + S1x512x2048.size a ≤ S2x1024x2048.size a := by
  intro a; fin_cases a
  · show s.toNat + 1 ≤ 2; have : s.toNat < 2 := hs; omega
  · exact ho
  · show 0 + 2048 ≤ 2048; omega
theorem slot_offD (s : BitVec 32) (hs : Slot s) (o : ℕ) (ho : o + 1024 ≤ 2048) : ∀ a, (![s.toNat, o, 0] : Fin 3 → ℕ) a + S1x1024x1024.size a ≤ S2x2048x1024.size a := by
  intro a; fin_cases a
  · show s.toNat + 1 ≤ 2; have : s.toNat < 2 := hs; omega
  · exact ho
  · show 0 + 1024 ≤ 1024; omega
theorem exp_off (e : BitVec 32) (he : Exp e) (o : ℕ) (ho : o + 512 ≤ 1024) : ∀ a, (![e.toNat, o, 0] : Fin 3 → ℕ) a + S1x512x2048.size a ≤ S8x1024x2048.size a := by
  intro a; fin_cases a
  · show e.toNat + 1 ≤ 8; have : e.toNat < 8 := he; omega
  · exact ho
  · show 0 + 2048 ≤ 2048; omega
theorem exp_offD (e : BitVec 32) (he : Exp e) (o : ℕ) (ho : o + 1024 ≤ 2048) : ∀ a, (![e.toNat, o, 0] : Fin 3 → ℕ) a + S1x1024x1024.size a ≤ S8x2048x1024.size a := by
  intro a; fin_cases a
  · show e.toNat + 1 ≤ 8; have : e.toNat < 8 := he; omega
  · exact ho
  · show 0 + 1024 ≤ 1024; omega
theorem sem_off (s : BitVec 32) (hs : Slot s) : ∀ a, (![s.toNat] : Fin 1 → ℕ) a + S1.size a ≤ S2.size a := by
  intro a; fin_cases a
  show s.toNat + 1 ≤ 2; have : s.toNat < 2 := hs; omega

/-- The halves of slot `s`. -/
abbrev u0 (s : BitVec 32) (hs : Slot s) : Memref sig .tc .vmem S512x2048 .f32 := ((Memref.whole cc1_scratch0).slice (Rect.unit (s := S2x1024x2048) (k1_off3 s) S1x512x2048.size (slot_off s hs 0 (by omega))) (fun _ => rfl)).squeeze S512x2048 squeezes_S1x512x2048_S512x2048
abbrev u1 (s : BitVec 32) (hs : Slot s) : Memref sig .tc .vmem S512x2048 .f32 := ((Memref.whole cc1_scratch0).slice (Rect.unit (s := S2x1024x2048) (k1_off6 s) S1x512x2048.size (slot_off s hs 512 (by omega))) (fun _ => rfl)).squeeze S512x2048 squeezes_S1x512x2048_S512x2048
abbrev g0 (s : BitVec 32) (hs : Slot s) : Memref sig .tc .vmem S512x2048 .f32 := ((Memref.whole cc1_scratch1).slice (Rect.unit (s := S2x1024x2048) (k1_off8 s) S1x512x2048.size (slot_off s hs 0 (by omega))) (fun _ => rfl)).squeeze S512x2048 squeezes_S1x512x2048_S512x2048
abbrev g1 (s : BitVec 32) (hs : Slot s) : Memref sig .tc .vmem S512x2048 .f32 := ((Memref.whole cc1_scratch1).slice (Rect.unit (s := S2x1024x2048) (k1_off6 s) S1x512x2048.size (slot_off s hs 512 (by omega))) (fun _ => rfl)).squeeze S512x2048 squeezes_S1x512x2048_S512x2048
abbrev d0 (s : BitVec 32) (hs : Slot s) : Memref sig .tc .vmem S1024x1024 .f32 := ((Memref.whole cc1_scratch2).slice (Rect.unit (s := S2x2048x1024) (k1_off9 s) S1x1024x1024.size (slot_offD s hs 0 (by omega))) (fun _ => rfl)).squeeze S1024x1024 squeezes_S1x1024x1024_S1024x1024
abbrev d1 (s : BitVec 32) (hs : Slot s) : Memref sig .tc .vmem S1024x1024 .f32 := ((Memref.whole cc1_scratch2).slice (Rect.unit (s := S2x2048x1024) (k1_off11 s) S1x1024x1024.size (slot_offD s hs 1024 (by omega))) (fun _ => rfl)).squeeze S1024x1024 squeezes_S1x1024x1024_S1024x1024
/-- Half `o` of expert `e`'s weights. -/
abbrev eu0 (e : BitVec 32) (he : Exp e) : Memref sig .tc .hbm S512x2048 .f32 := ((Memref.whole main_arg3).slice (Rect.unit (s := S8x1024x2048) (k1_off4 e) S1x512x2048.size (exp_off e he 0 (by omega))) (fun _ => rfl)).squeeze S512x2048 squeezes_S1x512x2048_S512x2048
abbrev eu1 (e : BitVec 32) (he : Exp e) : Memref sig .tc .hbm S512x2048 .f32 := ((Memref.whole main_arg3).slice (Rect.unit (s := S8x1024x2048) (k1_off7 e) S1x512x2048.size (exp_off e he 512 (by omega))) (fun _ => rfl)).squeeze S512x2048 squeezes_S1x512x2048_S512x2048
abbrev eg0 (e : BitVec 32) (he : Exp e) : Memref sig .tc .hbm S512x2048 .f32 := ((Memref.whole main_arg4).slice (Rect.unit (s := S8x1024x2048) (k1_off4 e) S1x512x2048.size (exp_off e he 0 (by omega))) (fun _ => rfl)).squeeze S512x2048 squeezes_S1x512x2048_S512x2048
abbrev eg1 (e : BitVec 32) (he : Exp e) : Memref sig .tc .hbm S512x2048 .f32 := ((Memref.whole main_arg4).slice (Rect.unit (s := S8x1024x2048) (k1_off7 e) S1x512x2048.size (exp_off e he 512 (by omega))) (fun _ => rfl)).squeeze S512x2048 squeezes_S1x512x2048_S512x2048
abbrev ed0 (e : BitVec 32) (he : Exp e) : Memref sig .tc .hbm S1024x1024 .f32 := ((Memref.whole main_arg5).slice (Rect.unit (s := S8x2048x1024) (k1_off10 e) S1x1024x1024.size (exp_offD e he 0 (by omega))) (fun _ => rfl)).squeeze S1024x1024 squeezes_S1x1024x1024_S1024x1024
abbrev ed1 (e : BitVec 32) (he : Exp e) : Memref sig .tc .hbm S1024x1024 .f32 := ((Memref.whole main_arg5).slice (Rect.unit (s := S8x2048x1024) (k1_off12 e) S1x1024x1024.size (exp_offD e he 1024 (by omega))) (fun _ => rfl)).squeeze S1024x1024 squeezes_S1x1024x1024_S1024x1024
/-- The cell of slot `s`. -/
abbrev cellS (s : BitVec 32) (hs : Slot s) : DmaSem sig := ((cc1_scratch3.slice (Rect.unit (s := S2) (k1_off5 s) S1.size (sem_off s hs))).squeeze S_ squeezes_S1_S_).sem

abbrev own (c : Dev nD) {S : Shape} {sp : Space} (M : Memref sig .tc sp S .f32) (q : PosShare TreeShare) (f : Buf (Elt F) (M.view.loc (c : Thread nD τ))) : sProp 𝕄 :=
  M.view.loc (c : Thread nD τ) ↦[M.view.set]{q} f

/-- A half landed. -/
abbrev landed {S : Shape} (c : Dev nD) (dst : Memref sig .tc .vmem S .f32) (src : Memref sig .tc .hbm S .f32)
    (fd : Buf (Elt F) (dst.view.loc (c : Thread nD τ))) (fs : Buf (Elt F) (src.view.loc (c : Thread nD τ))) : Buf (Elt F) (dst.view.loc (c : Thread nD τ)) :=
  dst.view.writes (Elt F) fd [⟨Rect.whole S, ReadAs.same.apply (src.view.read (Elt F) fs)⟩]

abbrev delivery {S : Shape} (c : Dev nD) (q : PosShare TreeShare) (dst : Memref sig .tc .vmem S .f32) (src : Memref sig .tc .hbm S .f32)
    (fd : Buf (Elt F) (dst.view.loc (c : Thread nD τ))) (fs : Buf (Elt F) (src.view.loc (c : Thread nD τ))) : sProp 𝕄 :=
  iprop(own c dst fullShare (landed c dst src fd fs) ∗ own c src q fs)

/-- The weights. -/
structure Wts (F : FTy → Type) where
  up : S8x1024x2048.Idx → Elt F .f32
  gp : S8x1024x2048.Idx → Elt F .f32
  dn : S8x2048x1024.Idx → Elt F .f32
/-- What a slot's six pieces held. -/
structure Old (F : FTy → Type) where
  u0 : S2x1024x2048.Idx → Elt F .f32
  u1 : S2x1024x2048.Idx → Elt F .f32
  g0 : S2x1024x2048.Idx → Elt F .f32
  g1 : S2x1024x2048.Idx → Elt F .f32
  d0 : S2x2048x1024.Idx → Elt F .f32
  d1 : S2x2048x1024.Idx → Elt F .f32

/-- The six halves of expert `e` on their way to slot `s`. -/
abbrev deliv (c : Dev nD) (q : PosShare TreeShare) (W : Wts F) (s : BitVec 32) (hs : Slot s) (e : BitVec 32) (he : Exp e) (o : Old F) (t : Fin 6) : sProp 𝕄 :=
  match t with
  | 0 => delivery c q (u0 s hs) (eu0 e he) o.u0 W.up
  | 1 => delivery c q (u1 s hs) (eu1 e he) o.u1 W.up
  | 2 => delivery c q (g0 s hs) (eg0 e he) o.g0 W.gp
  | 3 => delivery c q (g1 s hs) (eg1 e he) o.g1 W.gp
  | 4 => delivery c q (d0 s hs) (ed0 e he) o.d0 W.dn
  | 5 => delivery c q (d1 s hs) (ed1 e he) o.d1 W.dn

instance (c : Dev nD) (q : PosShare TreeShare) (W : Wts F) (s : BitVec 32) (hs : Slot s) (e : BitVec 32) (he : Exp e) (o : Old F) (t : Fin 6) :
    Storable (upEmb : UEmb _ 𝕄) (deliv c q W s hs e he o t) := by
  fin_cases t <;> exact inferInstanceAs (Storable (upEmb : UEmb _ 𝕄) (delivery c q _ _ _ _))

abbrev units (s : BitVec 32) (hs : Slot s) : ℕ := (u0 s hs).view.amount (SemLoc.dma (sig := sig) (cellS s hs))

abbrev flight (c : Dev nD) (q : PosShare TreeShare) (W : Wts F) (s : BitVec 32) (hs : Slot s) (e : BitVec 32) (he : Exp e) (o : Old F) (j : ℕ) : sProp 𝕄 :=
  Transfers.Batch (countersEmb (U := UU)) (c : Thread nD τ) (.dma (cellS s hs)) none (units s hs) (deliv c q W s hs e he o) j 0

/-- The number a prefetched table holds for point `i`. -/
abbrev word (t : S23.Idx → BitVec 32) (i : grid1.Coords) : BitVec 32 := t (ValueIdx.ix1 (i 0))

abbrev table (c : Dev nD) (b : Ref sig .tc) (f : Buf (Elt F) ((c : Thread nD τ).loc b)) : sProp 𝕄 := (Memref.whole b).view.loc (c : Thread nD τ) ↦{fullShare} f

theorem smem_wp (c : Dev nD) (M : Memref sig .tc .smem S23 .i32) (f : Buf (Elt F) (M.view.loc (c : Thread nD τ))) (r : Rect S23) (h1 : r.shape.numel = 1) (hp : (EltTy.i32).packing = 1)
    (w : BitVec 32) (hw : (M.access r).read (Elt F) f (Shape.Idx.first (h1.symm ▸ Nat.one_pos)) = w)
    {α : Type} (k : BitVec 32 → Prog (TpuEff nD τ sig (Elt F) Λ₀ .tc) α) (Q : α → sProp 𝕄) :
    iprop((M.view.loc (c : Thread nD τ) ↦{fullShare} f) ∗ ((M.view.loc (c : Thread nD τ) ↦{fullShare} f) -∗ wp frame (wpE (defs₀ (F := F)) 𝒱₀ c none) Set.univ (k w) Q))
      ⊢ wp frame (wpE (defs₀ (F := F)) 𝒱₀ c none) Set.univ (smemLoad M r h1 hp >>= k) Q := by
  subst hw
  show _ ⊢ wp _ _ _ (.op (.load M r.toLoadRect (View.loadsAt_rect (View.loads_smem_one hp h1))) fun f => k (f (Shape.Idx.first (h1.symm ▸ Nat.one_pos)))) Q
  iintro ⟨H, Hk⟩
  sl_step
  iapply Hk
  iexact H

theorem assume_wp (c : Dev nD) (P : Prop) (dp : Decidable P) (hP : P)
    {α : Type} (k : PLift P → Prog (TpuEff nD τ sig (Elt F) Λ₀ .tc) α) (Q : α → sProp 𝕄) :
    iprop(wp frame (wpE (defs₀ (F := F)) 𝒱₀ c none) Set.univ (k ⟨hP⟩) Q)
      ⊢ wp frame (wpE (defs₀ (F := F)) 𝒱₀ c none) Set.univ (Prog.lift (TpuEff.assume P dp) >>= k) Q := by
  show _ ⊢ wp _ _ _ (.op (.assume P dp) k) Q
  iintro H
  iapply (wp_assume _ _ _ _ hP)
  iexact H

/-! ## The body in stages -/

abbrev TcProg (F : FTy → Type) [FloatOps F] : Type → Type 1 := Prog (TpuEff nD τ sig (Elt F) Λ₀ .tc)

section Stages

variable (i : grid1.Coords) (a7 : Memref sig .tc .vmem S256x1024 .f32) (h7 : a7.IsWhole) (a11 : Memref sig .tc .vmem S256x1024 .f32) (h11 : a11.IsWhole)

/-- The first expert's six copies started, -/
def first (v1 : BitVec 32) (hw2 : k1_chk2 i v1) (v3 : BitVec 32) (hw1 : k1_chk1 i v3) (h1 : k1_cond1 i = 1#1) : TcProg F PUnit := do
  k1_part1 i (Memref.whole main_arg6) (Memref.isWhole_whole _) (Memref.whole main_arg7) (Memref.isWhole_whole _) (Memref.whole main_arg8) (Memref.isWhole_whole _) (Memref.whole main_arg9) (Memref.isWhole_whole _) (Memref.whole main_arg10) (Memref.isWhole_whole _) (Memref.whole main_arg11) (Memref.isWhole_whole _) a7 h7 (Memref.whole main_arg3) (Memref.isWhole_whole _) (Memref.whole main_arg4) (Memref.isWhole_whole _) (Memref.whole main_arg5) (Memref.isWhole_whole _) a11 h11 (Memref.whole cc1_scratch0) (Memref.isWhole_whole _) (Memref.whole cc1_scratch1) (Memref.isWhole_whole _) (Memref.whole cc1_scratch2) (Memref.isWhole_whole _) cc1_scratch3 v1 hw2 v3 hw1 h1
  Prog.lift (.enqueueDma (((Memref.whole main_arg5).slice (Rect.unit (s := S8x2048x1024) (k1_off12 v1) S1x1024x1024.size (k1_off12_inb i v1 hw2 h1)) (fun _ => rfl)).squeeze S1024x1024 squeezes_S1x1024x1024_S1024x1024)
    (.here (((Memref.whole cc1_scratch2).slice (Rect.unit (s := S2x2048x1024) (k1_off11 v3) S1x1024x1024.size (k1_off11_inb i v3 hw1 h1)) (fun _ => rfl)).squeeze S1024x1024 squeezes_S1x1024x1024_S1024x1024))
    (.dma ((cc1_scratch3.slice (Rect.unit (s := S2) (k1_off5 v3) S1.size (k1_off5_inb i v3 hw1 h1))).squeeze S_ squeezes_S1_S_).sem)
    ((View.wordExact_bits rfl).reshape _ _) ((View.wordExact_bits rfl).reshape _ _) ⟨Or.inl rfl, trivial⟩)

/-- an expert's six copies waited for, -/
def drain (v1 v3 v8 : BitVec 32) (hw3 : k1_chk3 v1 v3 v8) (h2 : k1_cond2 v8 = 1#1) : TcProg F PUnit := do
  k1_part2 i (Memref.whole main_arg6) (Memref.isWhole_whole _) (Memref.whole main_arg7) (Memref.isWhole_whole _) (Memref.whole main_arg8) (Memref.isWhole_whole _) (Memref.whole main_arg9) (Memref.isWhole_whole _) (Memref.whole main_arg10) (Memref.isWhole_whole _) (Memref.whole main_arg11) (Memref.isWhole_whole _) a7 h7 (Memref.whole main_arg3) (Memref.isWhole_whole _) (Memref.whole main_arg4) (Memref.isWhole_whole _) (Memref.whole main_arg5) (Memref.isWhole_whole _) a11 h11 (Memref.whole cc1_scratch0) (Memref.isWhole_whole _) (Memref.whole cc1_scratch1) (Memref.isWhole_whole _) (Memref.whole cc1_scratch2) (Memref.isWhole_whole _) cc1_scratch3 v1 v3 v8 hw3 h2
  Prog.lift (.waitDma2 ((cc1_scratch3.slice (Rect.unit (s := S2) (k1_off14 v3) S1.size (k1_off14_inb v1 v3 v8 hw3 h2))).squeeze S_ squeezes_S1_S_).sem
    (((Memref.whole main_arg5).slice (Rect.unit (s := S8x2048x1024) (k1_off22 v1) S1x1024x1024.size (k1_off22_inb v1 v3 v8 hw3 h2)) (fun _ => rfl)).squeeze S1024x1024 squeezes_S1x1024x1024_S1024x1024)
    (((Memref.whole cc1_scratch2).slice (Rect.unit (s := S2x2048x1024) (k1_off21 v3) S1x1024x1024.size (k1_off21_inb v1 v3 v8 hw3 h2)) (fun _ => rfl)).squeeze S1024x1024 squeezes_S1x1024x1024_S1024x1024)
    ((View.wordExact_bits rfl).reshape _ _) ((View.wordExact_bits rfl).reshape _ _))

/-- the next expert's six copies started, -/
def next (v3 v13 : BitVec 32) (hw4 : k1_chk4 v3 v13) (h3 : k1_cond3 v13 = 1#1) : TcProg F PUnit := do
  let ⟨v32, hw5⟩ : Σ' (v32 : Elt F .i32), k1_chk5 v13 v32 ← k1_part3 i (Memref.whole main_arg6) (Memref.isWhole_whole _) (Memref.whole main_arg7) (Memref.isWhole_whole _) (Memref.whole main_arg8) (Memref.isWhole_whole _) (Memref.whole main_arg9) (Memref.isWhole_whole _) (Memref.whole main_arg10) (Memref.isWhole_whole _) (Memref.whole main_arg11) (Memref.isWhole_whole _) a7 h7 (Memref.whole main_arg3) (Memref.isWhole_whole _) (Memref.whole main_arg4) (Memref.isWhole_whole _) (Memref.whole main_arg5) (Memref.isWhole_whole _) a11 h11 (Memref.whole cc1_scratch0) (Memref.isWhole_whole _) (Memref.whole cc1_scratch1) (Memref.isWhole_whole _) (Memref.whole cc1_scratch2) (Memref.isWhole_whole _) cc1_scratch3 (BitVec.ofNat 32 (i 0).val) v3 v13 hw4 h3
  Prog.lift (.enqueueDma (((Memref.whole main_arg5).slice (Rect.unit (s := S8x2048x1024) (k1_off35 v32) S1x1024x1024.size (k1_off35_inb v13 v32 hw5 h3)) (fun _ => rfl)).squeeze S1024x1024 squeezes_S1x1024x1024_S1024x1024)
    (.here (((Memref.whole cc1_scratch2).slice (Rect.unit (s := S2x2048x1024) (k1_off34 v3) S1x1024x1024.size (k1_off34_inb v3 v13 hw4 h3)) (fun _ => rfl)).squeeze S1024x1024 squeezes_S1x1024x1024_S1024x1024))
    (.dma ((cc1_scratch3.slice (Rect.unit (s := S2) (k1_off28 v3) S1.size (k1_off28_inb v3 v13 hw4 h3))).squeeze S_ squeezes_S1_S_).sem)
    ((View.wordExact_bits rfl).reshape _ _) ((View.wordExact_bits rfl).reshape _ _) ⟨Or.inl rfl, trivial⟩)

/-- and the block's rows computed from slot 0, -/
def compute0 : TcProg F PUnit := do
  let x : Vec F S256x1024 .f32 ← Prog.lift (.load a7 (Rect.unit (s := S256x1024) ![0, 0] S256x1024.size inb_S256x1024_S256x1024_0_0).toLoadRect (View.loadsAt_vmem h_S256x1024))
  let u : Vec F S1x1024x2048 .f32 ← Prog.lift (.load (Memref.whole cc1_scratch0) (Rect.unit (s := S2x1024x2048) ![0, 0, 0] S1x1024x2048.size inb_S2x1024x2048_S1x1024x2048_0_0_0).toLoadRect (View.loadsAt_vmem h_S1x1024x2048))
  let g : Vec F S1x1024x2048 .f32 ← Prog.lift (.load (Memref.whole cc1_scratch1) (Rect.unit (s := S2x1024x2048) ![0, 0, 0] S1x1024x2048.size inb_S2x1024x2048_S1x1024x2048_0_0_0).toLoadRect (View.loadsAt_vmem h_S1x1024x2048))
  let e : Vec F S1x2048x1024 .f32 ← Prog.lift (.load (Memref.whole cc1_scratch2) (Rect.unit (s := S2x2048x1024) ![0, 0, 0] S1x2048x1024.size inb_S2x2048x1024_S1x2048x1024_0_0_0).toLoadRect (View.loadsAt_vmem h_S1x2048x1024))
  let _ : Vec F S256x1024 .f32 ← Prog.lift (.load a11 (Rect.unit (s := S256x1024) ![0, 0] S256x1024.size inb_S256x1024_S256x1024_0_0).toLoadRect (View.loadsAt_vmem h_S256x1024))
  Prog.lift (.store a11 (Rect.unit (s := S256x1024) ![0, 0] S256x1024.size inb_S256x1024_S256x1024_0_0) (k1_pay1 x u g e) Finset.univ (View.stores_vmem_bits_univ h_S256x1024 rfl) (.inl rfl))

/-- or from slot 1. -/
def compute1 : TcProg F PUnit := do
  let x : Vec F S256x1024 .f32 ← Prog.lift (.load a7 (Rect.unit (s := S256x1024) ![0, 0] S256x1024.size inb_S256x1024_S256x1024_0_0).toLoadRect (View.loadsAt_vmem h_S256x1024))
  let u : Vec F S1x1024x2048 .f32 ← Prog.lift (.load (Memref.whole cc1_scratch0) (Rect.unit (s := S2x1024x2048) ![1, 0, 0] S1x1024x2048.size inb_S2x1024x2048_S1x1024x2048_1_0_0).toLoadRect (View.loadsAt_vmem h_S1x1024x2048))
  let g : Vec F S1x1024x2048 .f32 ← Prog.lift (.load (Memref.whole cc1_scratch1) (Rect.unit (s := S2x1024x2048) ![1, 0, 0] S1x1024x2048.size inb_S2x1024x2048_S1x1024x2048_1_0_0).toLoadRect (View.loadsAt_vmem h_S1x1024x2048))
  let e : Vec F S1x2048x1024 .f32 ← Prog.lift (.load (Memref.whole cc1_scratch2) (Rect.unit (s := S2x2048x1024) ![1, 0, 0] S1x2048x1024.size inb_S2x2048x1024_S1x2048x1024_1_0_0).toLoadRect (View.loadsAt_vmem h_S1x2048x1024))
  let _ : Vec F S256x1024 .f32 ← Prog.lift (.load a11 (Rect.unit (s := S256x1024) ![0, 0] S256x1024.size inb_S256x1024_S256x1024_0_0).toLoadRect (View.loadsAt_vmem h_S256x1024))
  Prog.lift (.store a11 (Rect.unit (s := S256x1024) ![0, 0] S256x1024.size inb_S256x1024_S256x1024_0_0) (k1_pay2 x u g e) Finset.univ (View.stores_vmem_bits_univ h_S256x1024 rfl) (.inl rfl))

/-- The last two stages, -/
def tail4 (v3 : BitVec 32) : TcProg F PUnit := do
  let v18 : Elt F .i32 ← smemLoad (Memref.whole main_arg7) (Rect.unit (s := S23) (k1_off36 i) S1.size (k1_off36_inb i)) numel1_S1 rfl
  if k1_cond4 v3 v18 = 1#1 then compute0 a7 a11 else pure ⟨⟩
  let v25 : Elt F .i32 ← smemLoad (Memref.whole main_arg7) (Rect.unit (s := S23) (k1_off37 i) S1.size (k1_off37_inb i)) numel1_S1 rfl
  if k1_cond5 v3 v25 = 1#1 then compute1 a7 a11 else pure ⟨⟩

/-- the last three, -/
def tail3 (v3 : BitVec 32) : TcProg F PUnit := do
  let v13 : Elt F .i32 ← smemLoad (Memref.whole main_arg9) (Rect.unit (s := S23) (k1_off23 i) S1.size (k1_off23_inb i)) numel1_S1 rfl
  have hw4 : k1_chk4 v3 v13 := (← Prog.lift (TpuEff.assume (k1_chk4 v3 v13) (k1_chk4.dec v3 v13))).down
  if h3 : k1_cond3 v13 = 1#1 then next i a7 h7 a11 h11 v3 v13 hw4 h3 else pure ⟨⟩
  tail4 (F := F) i a7 a11 v3

/-- the last four, -/
def tail2 (v1 v3 : BitVec 32) : TcProg F PUnit := do
  let v8 : Elt F .i32 ← smemLoad (Memref.whole main_arg8) (Rect.unit (s := S23) (k1_off13 i) S1.size (k1_off13_inb i)) numel1_S1 rfl
  have hw3 : k1_chk3 v1 v3 v8 := (← Prog.lift (TpuEff.assume (k1_chk3 v1 v3 v8) (k1_chk3.dec v1 v3 v8))).down
  if h2 : k1_cond2 v8 = 1#1 then drain i a7 h7 a11 h11 v1 v3 v8 hw3 h2 else pure ⟨⟩
  tail3 (F := F) i a7 h7 a11 h11 v3

/-- and all. -/
def staged : TcProg F PUnit := do
  let v1 : Elt F .i32 ← smemLoad (Memref.whole main_arg6) (Rect.unit (s := S23) (k1_off1 i) S1.size (k1_off1_inb i)) numel1_S1 rfl
  have hw2 : k1_chk2 i v1 := (← Prog.lift (TpuEff.assume (k1_chk2 i v1) (k1_chk2.dec i v1))).down
  let v3 : Elt F .i32 ← smemLoad (Memref.whole main_arg11) (Rect.unit (s := S23) (k1_off1 i) S1.size (k1_off1_inb i)) numel1_S1 rfl
  have hw1 : k1_chk1 i v3 := (← Prog.lift (TpuEff.assume (k1_chk1 i v3) (k1_chk1.dec i v3))).down
  if h1 : k1_cond1 i = 1#1 then first i a7 h7 a11 h11 v1 hw2 v3 hw1 h1 else pure ⟨⟩
  tail2 (F := F) i a7 h7 a11 h11 v1 v3

set_option maxRecDepth 65536 in
set_option maxHeartbeats 4000000 in
theorem body_staged : cc1__ffn_body i (Memref.whole main_arg6) (Memref.isWhole_whole _) (Memref.whole main_arg7) (Memref.isWhole_whole _) (Memref.whole main_arg8) (Memref.isWhole_whole _) (Memref.whole main_arg9) (Memref.isWhole_whole _) (Memref.whole main_arg10) (Memref.isWhole_whole _) (Memref.whole main_arg11) (Memref.isWhole_whole _) a7 h7 (Memref.whole main_arg3) (Memref.isWhole_whole _) (Memref.whole main_arg4) (Memref.isWhole_whole _) (Memref.whole main_arg5) (Memref.isWhole_whole _) a11 h11 (Memref.whole cc1_scratch0) (Memref.isWhole_whole _) (Memref.whole cc1_scratch1) (Memref.isWhole_whole _) (Memref.whole cc1_scratch2) (Memref.isWhole_whole _) cc1_scratch3 = staged (F := F) i a7 h7 a11 h11 := by
  rw [cc1__ffn_body_eq_skeleton]
  unfold cc1__ffn_body_skel staged tail2 tail3 tail4
  simp only [bind_assoc, pure_bind]
  rfl

end Stages

/-! ## What each stage does -/

/-- An expert's six halves of the weights, -/
abbrev srcs (c : Dev nD) (q : PosShare TreeShare) (W : Wts F) (e : BitVec 32) (he : Exp e) : sProp 𝕄 :=
  iprop(own c (eu0 e he) q W.up ∗ own c (eu1 e he) q W.up ∗ own c (eg0 e he) q W.gp ∗ own c (eg1 e he) q W.gp ∗ own c (ed0 e he) q W.dn ∗ own c (ed1 e he) q W.dn)

/-- a slot's six halves at prior contents, -/
abbrev dsts (c : Dev nD) (s : BitVec 32) (hs : Slot s) (o : Old F) : sProp 𝕄 :=
  iprop(own c (u0 s hs) fullShare o.u0 ∗ own c (u1 s hs) fullShare o.u1 ∗ own c (g0 s hs) fullShare o.g0 ∗ own c (g1 s hs) fullShare o.g1 ∗ own c (d0 s hs) fullShare o.d0 ∗ own c (d1 s hs) fullShare o.d1)

/-- and landed. -/
abbrev lands (c : Dev nD) (W : Wts F) (s : BitVec 32) (hs : Slot s) (e : BitVec 32) (he : Exp e) (o : Old F) : sProp 𝕄 :=
  iprop(own c (u0 s hs) fullShare (landed c (u0 s hs) (eu0 e he) o.u0 W.up) ∗ own c (u1 s hs) fullShare (landed c (u1 s hs) (eu1 e he) o.u1 W.up)
    ∗ own c (g0 s hs) fullShare (landed c (g0 s hs) (eg0 e he) o.g0 W.gp) ∗ own c (g1 s hs) fullShare (landed c (g1 s hs) (eg1 e he) o.g1 W.gp)
    ∗ own c (d0 s hs) fullShare (landed c (d0 s hs) (ed0 e he) o.d0 W.dn) ∗ own c (d1 s hs) fullShare (landed c (d1 s hs) (ed1 e he) o.d1 W.dn))

/-- The cell of slot `s` at rest. -/
abbrev rest (c : Dev nD) (s : BitVec 32) (hs : Slot s) : sProp 𝕄 := semVal ((c : Thread nD τ), (.dma (cellS s hs) : SemLoc sig)) 0

section Wp

variable (i : grid1.Coords) (a7 : Memref sig .tc .vmem S256x1024 .f32) (h7 : a7.IsWhole) (a11 : Memref sig .tc .vmem S256x1024 .f32) (h11 : a11.IsWhole)
variable (c : Dev nD) (q : PosShare TreeShare) (W : Wts F)

set_option maxHeartbeats 4000000 in
theorem first_wp (s : BitVec 32) (hs : Slot s) (e : BitVec 32) (he : Exp e) (o : Old F) (hw2 : k1_chk2 i e) (hw1 : k1_chk1 i s) (h1 : k1_cond1 i = 1#1) :
    iprop(srcs c q W e he ∗ dsts c s hs o ∗ rest c s hs)
      ⊢ wp frame (wpE (defs₀ (F := F)) 𝒱₀ c none) Set.univ (first (F := F) i a7 h7 a11 h11 e hw2 s hw1 h1) fun _ => flight c q W s hs e he o 6 := by
  iintro ⟨⟨Hu0, Hu1, Hg0, Hg1, Hd0, Hd1⟩, ⟨Iu0, Iu1, Ig0, Ig1, Id0, Id1⟩, Hs⟩
  imod (Transfers.batch_alloc' (countersEmb (U := UU)) (c : Thread nD τ) none (units s hs) (deliv c q W s hs e he o) (sm := .dma (cellS s hs)) (E := Set.univ)) $$ Hs with HB
  unfold first
  simp only [k1_part1_eq_skeleton]
  sl_exec
  sl_step
  iexact HB

set_option maxHeartbeats 4000000 in
theorem drain_wp (s : BitVec 32) (hs : Slot s) (e : BitVec 32) (he : Exp e) (r : BitVec 32) (o : Old F) (hw3 : k1_chk3 e s r) (h2 : k1_cond2 r = 1#1)
    (O : CellTallies nD τ sig (HIx 1)) (Ws : Waits sig (HIx 1)) :
    iprop(flight c q W s hs e he o 6 ∗ Transfers.MayWaits (c : Thread nD τ) (none : HIx 1) O ∗ owes (c : Thread nD τ) O Ws)
      ⊢ wp frame (wpE (defs₀ (F := F)) 𝒱₀ c none) Set.univ (drain (F := F) i a7 h7 a11 h11 e s r hw3 h2)
        fun _ => iprop(srcs c q W e he ∗ lands c W s hs e he o ∗ rest c s hs ∗ owes (c : Thread nD τ) O (insert (.dma (cellS s hs), none) Ws)) := by
  iintro ⟨HB, Hm, HO⟩
  unfold drain
  simp only [k1_part2_eq_skeleton]
  sl_exec
  sl_step
  rw [Finset.insert_idem, Finset.insert_idem, Finset.insert_idem, Finset.insert_idem, Finset.insert_idem]
  isplitl [HB_src0 HB_src1 HB_src2 HB_src3 HB_src4 HB_src5]
  · isplitl [HB_src0]; · iexact HB_src0
    isplitl [HB_src1]; · iexact HB_src1
    isplitl [HB_src2]; · iexact HB_src2
    isplitl [HB_src3]; · iexact HB_src3
    isplitl [HB_src4]; · iexact HB_src4
    iexact HB_src5
  isplitl [HB_dst0 HB_dst1 HB_dst2 HB_dst3 HB_dst4 HB_dst5]
  · isplitl [HB_dst0]; · iexact HB_dst0
    isplitl [HB_dst1]; · iexact HB_dst1
    isplitl [HB_dst2]; · iexact HB_dst2
    isplitl [HB_dst3]; · iexact HB_dst3
    isplitl [HB_dst4]; · iexact HB_dst4
    iexact HB_dst5
  isplitl [HB]; · iexact HB
  iexact HO

/-- The other slot's word. -/
abbrev other (s : BitVec 32) : BitVec 32 := Scalar.subi 1#32 s

theorem word_off (off : Fin 1 → ℕ) (h : ∀ a, off a + S1.size a ≤ S23.size a) (ho : off 0 = (BitVec.ofNat 32 (i 0).val).toNat) (t : S23.Idx → BitVec 32) (y : S1.Idx) :
    t ((Rect.unit (s := S23) off S1.size h).emb y) = word t i := by
  refine congrArg t (funext fun a => Fin.ext ?_)
  match a with
  | 0 =>
    show off 0 + 1 * (y 0).val = (i 0).val
    have h1 : (y 0).val < 1 := (y 0).isLt
    have h2 : (i 0).val < 23 := (i 0).isLt
    rw [ho, BitVec.toNat_ofNat, Nat.mod_eq_of_lt (by omega)]; omega

set_option maxHeartbeats 4000000 in
theorem next_wp (s : BitVec 32) (hs : Slot (other s)) (te : S23.Idx → BitVec 32) (he : Exp (word te i)) (f : BitVec 32) (o : Old F)
    (hw4 : k1_chk4 s f) (hw5 : k1_chk5 f (word te i)) (h3 : k1_cond3 f = 1#1) :
    iprop(srcs c q W (word te i) he ∗ dsts c (other s) hs o ∗ rest c (other s) hs ∗ table (F := F) c main_arg10 te)
      ⊢ wp frame (wpE (defs₀ (F := F)) 𝒱₀ c none) Set.univ (next (F := F) i a7 h7 a11 h11 s f hw4 h3)
        fun _ => iprop(flight c q W (other s) hs (word te i) he o 6 ∗ table (F := F) c main_arg10 te) := by
  iintro ⟨⟨Hu0, Hu1, Hg0, Hg1, Hd0, Hd1⟩, ⟨Iu0, Iu1, Ig0, Ig1, Id0, Id1⟩, Hs, Ht⟩
  imod (Transfers.batch_alloc' (countersEmb (U := UU)) (c : Thread nD τ) none (units (other s) hs) (deliv c q W (other s) hs (word te i) he o) (sm := .dma (cellS (other s) hs)) (E := Set.univ)) $$ Hs with HB
  unfold next
  simp only [k1_part3_eq_skeleton]
  unfold k1_part3_skel
  simp only [bind_assoc]
  iapply (smem_wp (F := F) c (Memref.whole main_arg10) te (Rect.unit (s := S23) (k1_off24 i) S1.size (k1_off24_inb i)) _ _ (word te i) (word_off i (k1_off24 i) (k1_off24_inb i) rfl te _))
  isplitl [Ht]; · iexact Ht
  iintro Ht
  iapply (assume_wp c _ _ hw5)
  sl_exec
  sl_step
  isplitl [HB]; · iexact HB
  iexact Ht

/-- A slot of a buffer whole. -/
abbrev su (n : ℕ) (h : ∀ a, (![n, 0, 0] : Fin 3 → ℕ) a + S1x1024x2048.size a ≤ S2x1024x2048.size a) : Memref sig .tc .vmem S1x1024x2048 .f32 := (Memref.whole cc1_scratch0).slice (Rect.unit (s := S2x1024x2048) ![n, 0, 0] S1x1024x2048.size h) (fun _ => rfl)
abbrev sg (n : ℕ) (h : ∀ a, (![n, 0, 0] : Fin 3 → ℕ) a + S1x1024x2048.size a ≤ S2x1024x2048.size a) : Memref sig .tc .vmem S1x1024x2048 .f32 := (Memref.whole cc1_scratch1).slice (Rect.unit (s := S2x1024x2048) ![n, 0, 0] S1x1024x2048.size h) (fun _ => rfl)
abbrev sd (n : ℕ) (h : ∀ a, (![n, 0, 0] : Fin 3 → ℕ) a + S1x2048x1024.size a ≤ S2x2048x1024.size a) : Memref sig .tc .vmem S1x2048x1024 .f32 := (Memref.whole cc1_scratch2).slice (Rect.unit (s := S2x2048x1024) ![n, 0, 0] S1x2048x1024.size h) (fun _ => rfl)

/-- A slot holding expert `e`'s weights, -/
abbrev fillU (W : Wts F) (e : Fin 8) : S2x1024x2048.Idx → Elt F .f32 := fun z => W.up (ValueIdx.ix3 e (z 1) (z 2))
abbrev fillG (W : Wts F) (e : Fin 8) : S2x1024x2048.Idx → Elt F .f32 := fun z => W.gp (ValueIdx.ix3 e (z 1) (z 2))
abbrev fillD (W : Wts F) (e : Fin 8) : S2x2048x1024.Idx → Elt F .f32 := fun z => W.dn (ValueIdx.ix3 e (z 1) (z 2))
abbrev held (n : ℕ) (h : ∀ a, (![n, 0, 0] : Fin 3 → ℕ) a + S1x1024x2048.size a ≤ S2x1024x2048.size a) (h' : ∀ a, (![n, 0, 0] : Fin 3 → ℕ) a + S1x2048x1024.size a ≤ S2x2048x1024.size a) (e : Fin 8) : sProp 𝕄 :=
  iprop(own c (su n h) fullShare (fillU W e) ∗ own c (sg n h) fullShare (fillG W e) ∗ own c (sd n h') fullShare (fillD W e))

/-- and what a block of rows becomes by them. -/
def blkOf (W : Wts F) (x : S256x1024.Idx → Elt F .f32) (e : Fin 8) : S256x1024.Idx → Elt F .f32 :=
  k1_pay1 x (fun z => W.up (ValueIdx.ix3 e (z 1) (z 2))) (fun z => W.gp (ValueIdx.ix3 e (z 1) (z 2))) (fun z => W.dn (ValueIdx.ix3 e (z 1) (z 2)))

theorem pay2_eq : @k1_pay2 F _ = @k1_pay1 F _ := rfl

omit [FloatOps F] in
/-- A slot read is the expert's slab. -/
theorem read_slab {n0 m0 n1 n2 n : ℕ} (v : (⟨3, ![m0, n1, n2]⟩ : Shape).Idx → Elt F .f32) (e : Fin m0)
    (h : ∀ a, (![n, 0, 0] : Fin 3 → ℕ) a + (⟨3, ![1, n1, n2]⟩ : Shape).size a ≤ (⟨3, ![n0, n1, n2]⟩ : Shape).size a) (z : (⟨3, ![1, n1, n2]⟩ : Shape).Idx) :
    (fun z : (⟨3, ![n0, n1, n2]⟩ : Shape).Idx => v (ValueIdx.ix3 e (z 1) (z 2))) ((Rect.unit (s := ⟨3, ![n0, n1, n2]⟩) ![n, 0, 0] (⟨3, ![1, n1, n2]⟩ : Shape).size h).emb z) = v (ValueIdx.ix3 e (z 1) (z 2)) := by
  refine congrArg v (funext fun a => Fin.ext ?_)
  match a with
  | 0 => rfl
  | 1 => show 0 + 1 * (z 1).val = (z 1).val; omega
  | 2 => show 0 + 1 * (z 2).val = (z 2).val; omega

theorem zeros2 : (![0, 0] : Fin 2 → ℕ) = fun _ => 0 := by funext a; fin_cases a <;> rfl

/-- The block written. -/
theorem blk_read (x y : S256x1024.Idx → Elt F .f32) (u g : S1x1024x2048.Idx → Elt F .f32) (d : S1x2048x1024.Idx → Elt F .f32) (fx : a7.view.ty.Contents (Elt F)) (fy : a11.view.ty.Contents (Elt F)) (e : Fin 8)
    (hx : a7.view.read (Elt F) fx = x) (hu : ∀ z, u z = W.up (ValueIdx.ix3 e (z 1) (z 2))) (hg : ∀ z, g z = W.gp (ValueIdx.ix3 e (z 1) (z 2))) (hd : ∀ z, d z = W.dn (ValueIdx.ix3 e (z 1) (z 2))) :
    a11.view.read (Elt F) (a11.view.writes (Elt F) fy [⟨Rect.unit ![0, 0] S256x1024.size inb_S256x1024_S256x1024_0_0,
      k1_pay1 (View.readAt (Elt F) a7.view (Rect.unit ![0, 0] S256x1024.size inb_S256x1024_S256x1024_0_0).toLoadRect fx) u g d⟩]) = blkOf W x e := by
  subst hx
  refine (View.read_writes_eq_canon _ _ _ fun y => View.cover_of_tiled [⟨Rect.unit ![0, 0] S256x1024.size inb_S256x1024_S256x1024_0_0, _⟩] S256x1024.size (by rfl) y).trans ((View.canon_unit_zero zeros2 _ _).trans ?_)
  have h := View.ld_unit_zero zeros2 inb_S256x1024_S256x1024_0_0 (a7.view.read (Elt F) fx)
  rw [show u = _ from funext hu, show g = _ from funext hg, show d = _ from funext hd]
  exact congrArg (fun x => k1_pay1 x _ _ _) h

set_option maxHeartbeats 4000000 in
theorem compute0_wp (x y : S256x1024.Idx → Elt F .f32) (e : Fin 8) :
    iprop(owns (c : Thread nD τ) a7 fullShare x ∗ owns (c : Thread nD τ) a11 fullShare y ∗ held c W 0 inb_S2x1024x2048_S1x1024x2048_0_0_0 inb_S2x2048x1024_S1x2048x1024_0_0_0 e)
      ⊢ wp frame (wpE (defs₀ (F := F)) 𝒱₀ c none) Set.univ (compute0 (F := F) a7 a11) fun _ =>
        iprop(owns (c : Thread nD τ) a7 fullShare x ∗ owns (c : Thread nD τ) a11 fullShare (blkOf W x e) ∗ held c W 0 inb_S2x1024x2048_S1x1024x2048_0_0_0 inb_S2x2048x1024_S1x2048x1024_0_0_0 e) := by
  unfold owns
  iintro ⟨⟨%fx, %hx, Hx⟩, ⟨%fy, -, Hy⟩, Hu, Hg, Hd⟩
  unfold compute0
  sl_exec
  sl_step
  isplitl [Hx]
  · iexists fx; isplitr
    · ipureintro; exact hx
    iexact Hx
  isplitl [Hy]
  · iexists _; isplitr
    swap; · iexact Hy
    ipureintro
    exact blk_read a7 a11 W x y _ _ _ fx fy e hx (read_slab W.up e _) (read_slab W.gp e _) (read_slab W.dn e _)
  isplitl [Hu]; · iexact Hu
  isplitl [Hg]; · iexact Hg
  iexact Hd

set_option maxHeartbeats 4000000 in
theorem compute1_wp (x y : S256x1024.Idx → Elt F .f32) (e : Fin 8) :
    iprop(owns (c : Thread nD τ) a7 fullShare x ∗ owns (c : Thread nD τ) a11 fullShare y ∗ held c W 1 inb_S2x1024x2048_S1x1024x2048_1_0_0 inb_S2x2048x1024_S1x2048x1024_1_0_0 e)
      ⊢ wp frame (wpE (defs₀ (F := F)) 𝒱₀ c none) Set.univ (compute1 (F := F) a7 a11) fun _ =>
        iprop(owns (c : Thread nD τ) a7 fullShare x ∗ owns (c : Thread nD τ) a11 fullShare (blkOf W x e) ∗ held c W 1 inb_S2x1024x2048_S1x1024x2048_1_0_0 inb_S2x2048x1024_S1x2048x1024_1_0_0 e) := by
  unfold owns
  iintro ⟨⟨%fx, %hx, Hx⟩, ⟨%fy, -, Hy⟩, Hu, Hg, Hd⟩
  unfold compute1
  rw [pay2_eq]
  sl_exec
  sl_step
  isplitl [Hx]
  · iexists fx; isplitr
    · ipureintro; exact hx
    iexact Hx
  isplitl [Hy]
  · iexists _; isplitr
    swap; · iexact Hy
    ipureintro
    exact blk_read a7 a11 W x y _ _ _ fx fy e hx (read_slab W.up e _) (read_slab W.gp e _) (read_slab W.dn e _)
  isplitl [Hu]; · iexact Hu
  isplitl [Hg]; · iexact Hg
  iexact Hd

end Wp

end Cert.Proof.Moe.Ffn

end
-- ==== Proof.Slots.lean ====
/-
  The experts' slots: their halves joined, their states, one point of the experts' loop.
-/
module

public import proofs.«01_k».proof.Proof.Base
public import proofs.«01_k».proof.Proof.Ffn
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.Pipeline.Value
public import Idealize.ShloMosaic.Lib.Exec
public import Idealize.ShloMosaic.Lib.Batch
public import Idealize.ShloMosaic.Lib.ValueIdx

@[expose] public section

set_option maxRecDepth 16384

noncomputable section

namespace Cert.Proof.Moe.Ffn

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Boxes of a three-axis buffer -/

/-- The elements at `s` of the first axis and `o … o + L - 1` of the second. -/
def box (n0 n1 n2 s o L : ℕ) : Finset (⟨3, ![n0, n1, n2]⟩ : Shape).Idx :=
  Finset.univ.filter fun z => (z 0).val = s ∧ o ≤ (z 1).val ∧ (z 1).val < o + L

theorem box_unit {n0 n1 n2 s o L : ℕ} (h : ∀ a, (![s, o, 0] : Fin 3 → ℕ) a + (⟨3, ![1, L, n2]⟩ : Shape).size a ≤ (⟨3, ![n0, n1, n2]⟩ : Shape).size a) :
    (Rect.unit (s := ⟨3, ![n0, n1, n2]⟩) ![s, o, 0] (⟨3, ![1, L, n2]⟩ : Shape).size h).set = box n0 n1 n2 s o L := by
  ext z
  rw [Rect.mem_set_unit, box, Finset.mem_filter]
  constructor
  · intro hz
    have h0 : s ≤ (z 0).val ∧ (z 0).val < s + 1 := hz 0
    have h1 : o ≤ (z 1).val ∧ (z 1).val < o + L := hz 1
    exact ⟨Finset.mem_univ _, by omega, h1.1, h1.2⟩
  · rintro ⟨-, h0, h1, h2⟩ a
    match a with
    | 0 => exact (show s ≤ (z 0).val ∧ (z 0).val < s + 1 by omega)
    | 1 => exact ⟨h1, h2⟩
    | 2 => exact ⟨Nat.zero_le _, (show (z 2).val < 0 + n2 by have : (z 2).val < n2 := (z 2).isLt; omega)⟩

theorem box_halves (n0 n1 n2 s L : ℕ) : box n0 n1 n2 s 0 (2 * L) = box n0 n1 n2 s 0 L ∪ box n0 n1 n2 s L L := by
  ext z; simp only [box, Finset.mem_union, Finset.mem_filter, Finset.mem_univ, true_and]; omega
theorem box_halves_disjoint (n0 n1 n2 s L : ℕ) : Disjoint (box n0 n1 n2 s 0 L) (box n0 n1 n2 s L L) := by
  rw [Finset.disjoint_left]; intro z; simp only [box, Finset.mem_filter, Finset.mem_univ, true_and]; omega
theorem halvesU (s : ℕ) : box 2 1024 2048 s 0 1024 = box 2 1024 2048 s 0 512 ∪ box 2 1024 2048 s 512 512 := box_halves 2 1024 2048 s 512
theorem halvesD (s : ℕ) : box 2 2048 1024 s 0 2048 = box 2 2048 1024 s 0 1024 ∪ box 2 2048 1024 s 1024 1024 := box_halves 2 2048 1024 s 1024
theorem box_all (n0 n1 n2 : ℕ) : (Finset.univ : Finset (⟨3, ![n0, n1, n2]⟩ : Shape).Idx) = (Finset.univ : Finset (Fin n0)).biUnion fun s => box n0 n1 n2 s.val 0 n1 := by
  ext z
  simp only [box, Finset.mem_univ, Finset.mem_biUnion, Finset.mem_filter, true_and, true_iff]
  exact ⟨z 0, rfl, Nat.zero_le _, by have : (z 1).val < n1 := (z 1).isLt; omega⟩
theorem box_disjoint (n0 n1 n2 : ℕ) {s s' : ℕ} (h : s ≠ s') : Disjoint (box n0 n1 n2 s 0 n1) (box n0 n1 n2 s' 0 n1) := by
  rw [Finset.disjoint_left]; intro z; simp only [box, Finset.mem_filter, Finset.mem_univ, true_and]; omega

/-! ## Halves joined -/

variable (c : Dev nD) (q : PosShare TreeShare) (W : Wts F)

theorem inbU (s : BitVec 32) (hs : Slot s) : ∀ a, (![s.toNat, 0, 0] : Fin 3 → ℕ) a + S1x1024x2048.size a ≤ S2x1024x2048.size a := by
  intro a; fin_cases a
  · show s.toNat + 1 ≤ 2; have : s.toNat < 2 := hs; omega
  · exact Nat.le_refl _
  · exact Nat.le_refl _
theorem inbD (s : BitVec 32) (hs : Slot s) : ∀ a, (![s.toNat, 0, 0] : Fin 3 → ℕ) a + S1x2048x1024.size a ≤ S2x2048x1024.size a := by
  intro a; fin_cases a
  · show s.toNat + 1 ≤ 2; have : s.toNat < 2 := hs; omega
  · exact Nat.le_refl _
  · exact Nat.le_refl _

omit [FloatOps F] in
theorem join {ℓ : Loc nD τ sig} {A B C A' B' C' : Finset (Idx ℓ)} (ha : A = A') (hb : B = B') (hc : C = C') (hA : A' = B' ∪ C') (hd : Disjoint B' C') (f : Buf (Elt F) ℓ) :
    (iprop((ℓ ↦[B]{q} f) ∗ ℓ ↦[C]{q} f) : sProp 𝕄) ⊣⊢ (ℓ ↦[A]{q} f) := by
  subst ha hb hc hA; exact ⟨(pointsTo_union hd).2, (pointsTo_union hd).1⟩

section

variable (s : BitVec 32) (hs : Slot s)

theorem set_u0 : (u0 s hs).view.set = box 2 1024 2048 s.toNat 0 512 := ((View.set_reshape _ _).trans (View.set_slice_whole _ _)).trans (box_unit _)
theorem set_u1 : (u1 s hs).view.set = box 2 1024 2048 s.toNat 512 512 := ((View.set_reshape _ _).trans (View.set_slice_whole _ _)).trans (box_unit _)
theorem set_su : (su s.toNat (inbU s hs)).view.set = box 2 1024 2048 s.toNat 0 1024 := (View.set_slice_whole _ _).trans (box_unit _)
theorem set_g0 : (g0 s hs).view.set = box 2 1024 2048 s.toNat 0 512 := ((View.set_reshape _ _).trans (View.set_slice_whole _ _)).trans (box_unit _)
theorem set_g1 : (g1 s hs).view.set = box 2 1024 2048 s.toNat 512 512 := ((View.set_reshape _ _).trans (View.set_slice_whole _ _)).trans (box_unit _)
theorem set_sg : (sg s.toNat (inbU s hs)).view.set = box 2 1024 2048 s.toNat 0 1024 := (View.set_slice_whole _ _).trans (box_unit _)
theorem set_d0 : (d0 s hs).view.set = box 2 2048 1024 s.toNat 0 1024 := ((View.set_reshape _ _).trans (View.set_slice_whole _ _)).trans (box_unit _)
theorem set_d1 : (d1 s hs).view.set = box 2 2048 1024 s.toNat 1024 1024 := ((View.set_reshape _ _).trans (View.set_slice_whole _ _)).trans (box_unit _)
theorem set_sd : (sd s.toNat (inbD s hs)).view.set = box 2 2048 1024 s.toNat 0 2048 := (View.set_slice_whole _ _).trans (box_unit _)

theorem join_u (f : S2x1024x2048.Idx → Elt F .f32) : (iprop(own c (u0 s hs) fullShare f ∗ own c (u1 s hs) fullShare f) : sProp 𝕄) ⊣⊢ own c (su s.toNat (inbU s hs)) fullShare f :=
  join (ℓ := (u0 s hs).view.loc (c : Thread nD τ)) fullShare (set_su s hs) (set_u0 s hs) (set_u1 s hs) (halvesU s.toNat) (box_halves_disjoint _ _ _ _ _) f
theorem join_g (f : S2x1024x2048.Idx → Elt F .f32) : (iprop(own c (g0 s hs) fullShare f ∗ own c (g1 s hs) fullShare f) : sProp 𝕄) ⊣⊢ own c (sg s.toNat (inbU s hs)) fullShare f :=
  join (ℓ := (g0 s hs).view.loc (c : Thread nD τ)) fullShare (set_sg s hs) (set_g0 s hs) (set_g1 s hs) (halvesU s.toNat) (box_halves_disjoint _ _ _ _ _) f
theorem join_d (f : S2x2048x1024.Idx → Elt F .f32) : (iprop(own c (d0 s hs) fullShare f ∗ own c (d1 s hs) fullShare f) : sProp 𝕄) ⊣⊢ own c (sd s.toNat (inbD s hs)) fullShare f :=
  join (ℓ := (d0 s hs).view.loc (c : Thread nD τ)) fullShare (set_sd s hs) (set_d0 s hs) (set_d1 s hs) (halvesD s.toNat) (box_halves_disjoint _ _ _ _ _) f

omit [FloatOps F] in
/-- A whole view written at what it would read off `G` is `G` there. -/
theorem written {sp : Space} {s : Shape} {e : EltTy} (v : View sig .tc sp s e) (f G : v.ty.Contents (Elt F)) (w : s.Idx → Elt F e)
    (hw : ∀ x, w x = v.read (Elt F) G x) : ∀ i ∈ v.set, v.writes (Elt F) f [⟨Rect.whole s, w⟩] i = G i := by
  intro i hi
  obtain ⟨x, _, hx⟩ := Finset.mem_map.mp hi
  have h := View.read_writes_cons_emb v f (Rect.whole s) w [] x
  rw [Rect.emb_whole_apply] at h
  have h' := h.trans (hw x)
  rw [View.read_apply, View.read_apply] at h'
  rw [← hx]
  exact cast_inj _ |>.mp h'

omit [FloatOps F] in
/-- The part `o … o + L - 1` of slab `e` of an array is that of a slot filled with the slab. -/
theorem half_eq {n0 m0 n1 n2 L s o : ℕ} (v : (⟨3, ![m0, n1, n2]⟩ : Shape).Idx → Elt F .f32) (e : Fin m0)
    (hs : ∀ a, (![e.val, o, 0] : Fin 3 → ℕ) a + (⟨3, ![1, L, n2]⟩ : Shape).size a ≤ (⟨3, ![m0, n1, n2]⟩ : Shape).size a)
    (hd : ∀ a, (![s, o, 0] : Fin 3 → ℕ) a + (⟨3, ![1, L, n2]⟩ : Shape).size a ≤ (⟨3, ![n0, n1, n2]⟩ : Shape).size a) (z : (⟨3, ![1, L, n2]⟩ : Shape).Idx) :
    v ((Rect.unit (s := ⟨3, ![m0, n1, n2]⟩) ![e.val, o, 0] (⟨3, ![1, L, n2]⟩ : Shape).size hs).emb z)
      = (fun z : (⟨3, ![n0, n1, n2]⟩ : Shape).Idx => v (ValueIdx.ix3 e (z 1) (z 2))) ((Rect.unit (s := ⟨3, ![n0, n1, n2]⟩) ![s, o, 0] (⟨3, ![1, L, n2]⟩ : Shape).size hd).emb z) := by
  refine congrArg v (funext fun a => Fin.ext ?_)
  match a with
  | 0 => show e.val + 1 * (z 0).val = e.val; have : (z 0).val < 1 := (z 0).isLt; omega
  | 1 => rfl
  | 2 => rfl

variable (e : BitVec 32) (he : Exp e)

/-- Six halves landed are a slot holding the expert's weights, -/
theorem lands_held (o : Old F) : lands c W s hs e he o ⊢ held c W s.toNat (inbU s hs) (inbD s hs) ⟨e.toNat, he⟩ := by
  iintro ⟨H0, H1, H2, H3, H4, H5⟩
  isplitl [H0 H1]
  · iapply (join_u c s hs _).1
    isplitl [H0]
    · iapply (Entails.of_eq (pointsTo_congr (written (u0 s hs).view o.u0 (fillU W ⟨e.toNat, he⟩) _ fun x => half_eq W.up ⟨e.toNat, he⟩ _ _ _)))
      iexact H0
    iapply (Entails.of_eq (pointsTo_congr (written (u1 s hs).view o.u1 (fillU W ⟨e.toNat, he⟩) _ fun x => half_eq W.up ⟨e.toNat, he⟩ _ _ _)))
    iexact H1
  isplitl [H2 H3]
  · iapply (join_g c s hs _).1
    isplitl [H2]
    · iapply (Entails.of_eq (pointsTo_congr (written (g0 s hs).view o.g0 (fillG W ⟨e.toNat, he⟩) _ fun x => half_eq W.gp ⟨e.toNat, he⟩ _ _ _)))
      iexact H2
    iapply (Entails.of_eq (pointsTo_congr (written (g1 s hs).view o.g1 (fillG W ⟨e.toNat, he⟩) _ fun x => half_eq W.gp ⟨e.toNat, he⟩ _ _ _)))
    iexact H3
  iapply (join_d c s hs _).1
  isplitl [H4]
  · iapply (Entails.of_eq (pointsTo_congr (written (d0 s hs).view o.d0 (fillD W ⟨e.toNat, he⟩) _ fun x => half_eq W.dn ⟨e.toNat, he⟩ _ _ _)))
    iexact H4
  iapply (Entails.of_eq (pointsTo_congr (written (d1 s hs).view o.d1 (fillD W ⟨e.toNat, he⟩) _ fun x => half_eq W.dn ⟨e.toNat, he⟩ _ _ _)))
  iexact H5

/-- A slot whole at any contents, -/
abbrev slot (s : BitVec 32) (hs : Slot s) : sProp 𝕄 :=
  iprop((∃ f, own (F := F) c (su s.toNat (inbU s hs)) fullShare f) ∗ (∃ f, own (F := F) c (sg s.toNat (inbU s hs)) fullShare f) ∗ ∃ f, own (F := F) c (sd s.toNat (inbD s hs)) fullShare f)

/-- is its six halves. -/
theorem slot_dsts : slot (F := F) c s hs ⊢ iprop(∃ o, dsts c s hs o) := by
  iintro ⟨⟨%fu, Hu⟩, ⟨%fg, Hg⟩, %fd, Hd⟩
  ihave Hu := (join_u c s hs fu).2 $$ Hu
  icases Hu with ⟨H0, H1⟩
  ihave Hg := (join_g c s hs fg).2 $$ Hg
  icases Hg with ⟨H2, H3⟩
  ihave Hd := (join_d c s hs fd).2 $$ Hd
  icases Hd with ⟨H4, H5⟩
  iexists ⟨fu, fu, fg, fg, fd, fd⟩
  isplitl [H0]; · iexact H0
  isplitl [H1]; · iexact H1
  isplitl [H2]; · iexact H2
  isplitl [H3]; · iexact H3
  isplitl [H4]; · iexact H4
  iexact H5

end

end Cert.Proof.Moe.Ffn

end
-- ==== Proof.Point.lean ====
/-
  One point of the experts' loop.
-/
module

public import proofs.«01_k».proof.Proof.Base
public import proofs.«01_k».proof.Proof.Slots
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.Pipeline.Value
public import Idealize.ShloMosaic.Lib.Exec
public import Idealize.ShloMosaic.Lib.Batch
public import Idealize.ShloMosaic.Lib.ValueIdx

@[expose] public section

set_option maxRecDepth 16384

noncomputable section

namespace Cert.Proof.Moe.Ffn

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The slots' states -/

/-- The words of the two slots and of the eight experts. -/
abbrev sw (b : Bool) : BitVec 32 := bif b then 1#32 else 0#32
abbrev wd (e : Fin 8) : BitVec 32 := BitVec.ofNat 32 e.val

theorem slot_sw (b : Bool) : Slot (sw b) := by cases b <;> decide
theorem exp_wd (e : Fin 8) : Exp (wd e) := by revert e; decide
theorem other_sw (b : Bool) : other (sw b) = sw (!b) := by cases b <;> decide
theorem wd_toNat (e : Fin 8) : (⟨(wd e).toNat, exp_wd e⟩ : Fin 8) = e := by revert e; decide

variable (c : Dev nD) (W : Wts F)

/-- A slot at rest, empty or holding an expert; -/
def still (b : Bool) : Option (Fin 8) → sProp 𝕄
  | none => iprop(slot (F := F) c (sw b) (slot_sw b) ∗ rest c (sw b) (slot_sw b))
  | some e => iprop(held c W (sw b).toNat (inbU _ (slot_sw b)) (inbD _ (slot_sw b)) e ∗ rest c (sw b) (slot_sw b))

/-- a slot an expert may be on its way to; -/
def coming (b : Bool) : Option (Fin 8) → sProp 𝕄
  | none => iprop(slot (F := F) c (sw b) (slot_sw b) ∗ rest c (sw b) (slot_sw b))
  | some e => iprop(∃ o, flight c fullShare W (sw b) (slot_sw b) (wd e) (exp_wd e) o 6)

/-- the experts' weights, but for those on their way. -/
abbrev src (e : Fin 8) : sProp 𝕄 := srcs c fullShare W (wd e) (exp_wd e)
def store : Option (Fin 8) → sProp 𝕄
  | none => bigSep Finset.univ (src c W)
  | some e => bigSep (Finset.univ.erase e) (src c W)

/-- The slot in use, what it holds, what comes to the other. -/
structure St where
  s : Bool
  h : Option (Fin 8)
  f : Option (Fin 8)

def St.res (p : St) : sProp 𝕄 := iprop(still c W p.s p.h ∗ coming c W (!p.s) p.f ∗ store c W p.f)

theorem still_free (b : Bool) (h : Option (Fin 8)) : still c W b h ⊢ iprop(slot (F := F) c (sw b) (slot_sw b) ∗ rest c (sw b) (slot_sw b)) := by
  cases h with
  | none => exact .rfl
  | some e =>
    unfold still
    iintro ⟨⟨H0, H1, H2⟩, Hr⟩
    isplitr [Hr]
    swap; · iexact Hr
    isplitl [H0]; · iexists _; iexact H0
    isplitl [H1]; · iexists _; iexact H1
    iexists _; iexact H2

theorem store_take (e : Fin 8) : store c W none ⊢ iprop(src c W e ∗ store c W (some e)) :=
  Entails.of_eq (by unfold store; exact bigSep_erase (Finset.mem_univ e))
theorem store_put (e : Fin 8) : iprop(src c W e ∗ store c W (some e)) ⊢ store c W none :=
  Entails.of_eq (by unfold store; exact (bigSep_erase (Finset.mem_univ e)).symm)

/-! ## The conditions -/

theorem chk1 (i : grid1.Coords) (b : Bool) : k1_chk1 i (sw b) :=
  ⟨fun _ => sem_off _ (slot_sw b), fun _ => slot_off _ (slot_sw b) 0 (by omega), fun _ => sem_off _ (slot_sw b), fun _ => slot_off _ (slot_sw b) 512 (by omega),
    fun _ => slot_off _ (slot_sw b) 0 (by omega), fun _ => slot_offD _ (slot_sw b) 0 (by omega), fun _ => slot_offD _ (slot_sw b) 1024 (by omega)⟩
theorem chk2 (i : grid1.Coords) (e : Fin 8) : k1_chk2 i (wd e) :=
  ⟨fun _ => exp_off _ (exp_wd e) 0 (by omega), fun _ => exp_off _ (exp_wd e) 512 (by omega), fun _ => exp_offD _ (exp_wd e) 0 (by omega), fun _ => exp_offD _ (exp_wd e) 1024 (by omega)⟩
theorem chk3 (e : Fin 8) (b : Bool) (r : BitVec 32) : k1_chk3 (wd e) (sw b) r :=
  ⟨fun _ => sem_off _ (slot_sw b), fun _ => slot_off _ (slot_sw b) 0 (by omega), fun _ => exp_off _ (exp_wd e) 0 (by omega), fun _ => slot_off _ (slot_sw b) 512 (by omega),
    fun _ => exp_off _ (exp_wd e) 512 (by omega), fun _ => slot_offD _ (slot_sw b) 0 (by omega), fun _ => exp_offD _ (exp_wd e) 0 (by omega), fun _ => slot_offD _ (slot_sw b) 1024 (by omega), fun _ => exp_offD _ (exp_wd e) 1024 (by omega)⟩
theorem slot_other (b : Bool) : Slot (other (sw b)) := by rw [other_sw]; exact slot_sw _
theorem chk4 (b : Bool) (f : BitVec 32) : k1_chk4 (sw b) f :=
  ⟨fun _ => sem_off _ (slot_other b), fun _ => slot_off _ (slot_other b) 0 (by omega), fun _ => sem_off _ (slot_other b), fun _ => slot_off _ (slot_other b) 512 (by omega),
    fun _ => slot_off _ (slot_other b) 0 (by omega), fun _ => slot_offD _ (slot_other b) 0 (by omega), fun _ => slot_offD _ (slot_other b) 1024 (by omega)⟩
theorem chk5 (f : BitVec 32) (e : Fin 8) : k1_chk5 f (wd e) :=
  ⟨fun _ => exp_off _ (exp_wd e) 0 (by omega), fun _ => exp_off _ (exp_wd e) 512 (by omega), fun _ => exp_offD _ (exp_wd e) 0 (by omega), fun _ => exp_offD _ (exp_wd e) 1024 (by omega)⟩

theorem ofBool_eq (b : Bool) : BitVec.ofBool b = 1#1 ↔ b = true := by cases b <;> decide
theorem cond1_iff (i : grid1.Coords) : k1_cond1 i = 1#1 ↔ (i 0).val = 0 := by
  have h : ∀ n : Fin 23, (Scalar.cmpi .ne (Scalar.extui (Scalar.cmpi .eq (BitVec.ofNat 32 n.val) 0#32)) 0#32 : BitVec 1) = 1#1 ↔ n.val = 0 := by decide +kernel
  exact h (i 0)
theorem bit_iff (b : BitVec 1) : (Scalar.cmpi .ne (Scalar.extui b : BitVec 32) 0#32 : BitVec 1) = 1#1 ↔ b = 1#1 := by revert b; decide
theorem cmp_iff (v w : BitVec 32) : (Scalar.cmpi .eq v w : BitVec 1) = 1#1 ↔ v = w := by
  show BitVec.ofBool (v == w) = 1#1 ↔ _
  rw [ofBool_eq, beq_iff_eq]
theorem cond2_iff (v : BitVec 32) : k1_cond2 v = 1#1 ↔ v = 1#32 := (bit_iff _).trans (cmp_iff _ _)
theorem cond3_iff (v : BitVec 32) : k1_cond3 v = 1#1 ↔ v = 1#32 := (bit_iff _).trans (cmp_iff _ _)
theorem and_iff (a b : BitVec 1) : (Scalar.andi a b : BitVec 1) = 1#1 ↔ a = 1#1 ∧ b = 1#1 := by revert a b; decide
theorem cond4_iff (b : Bool) (v : BitVec 32) : k1_cond4 (sw b) v = 1#1 ↔ v = 1#32 ∧ b = false :=
  (bit_iff _).trans ((and_iff _ _).trans (and_congr (cmp_iff _ _) ((cmp_iff _ _).trans (by cases b <;> decide))))
theorem cond5_iff (b : Bool) (v : BitVec 32) : k1_cond5 (sw b) v = 1#1 ↔ v = 1#32 ∧ b = true :=
  (bit_iff _).trans ((and_iff _ _).trans (and_congr (cmp_iff _ _) ((cmp_iff _ _).trans (by cases b <;> decide))))

/-! ## One point -/

/-- The six tables. -/
structure Tabs where
  be : S23.Idx → BitVec 32
  va : S23.Idx → BitVec 32
  rs : S23.Idx → BitVec 32
  ff : S23.Idx → BitVec 32
  fe : S23.Idx → BitVec 32
  cu : S23.Idx → BitVec 32

/-- What the tables ask at point `i`: the state before and the state after. -/
structure Step (t : Tabs) (i : grid1.Coords) (p p' : St) : Prop where
  e : ∃ e : Fin 8, word t.be i = wd e
  s : ∃ b : Bool, word t.cu i = sw b
  start : (i 0).val = 0 → word t.rs i = 1#32 ∧ p.f = none
  turn : word t.rs i = 1#32 → (word t.be i = wd (p'.h.getD 0) ∧ p'.h ≠ none) ∧ word t.cu i = sw p'.s
    ∧ ((i 0).val ≠ 0 → p.f = p'.h ∧ p'.s = !p.s)
    ∧ (word t.ff i = 1#32 → p'.f ≠ none ∧ word t.fe i = wd (p'.f.getD 0)) ∧ (word t.ff i ≠ 1#32 → p'.f = none)
  stay : word t.rs i ≠ 1#32 → word t.ff i ≠ 1#32 ∧ p' = p ∧ (word t.va i = 1#32 → word t.cu i = sw p.s ∧ ∃ e, p.h = some e ∧ word t.be i = wd e)

section Point

variable (i : grid1.Coords) (a7 : Memref sig .tc .vmem S256x1024 .f32) (h7 : a7.IsWhole) (a11 : Memref sig .tc .vmem S256x1024 .f32) (h11 : a11.IsWhole)

/-- The window of rows as left. -/
abbrev rowsLeft (v : BitVec 32) (x : S256x1024.Idx → Elt F .f32) (h : Option (Fin 8)) : sProp 𝕄 :=
  iprop(owns (c : Thread nD τ) a7 fullShare x ∗ ∃ y, ⌜v = 1#32 → ∀ e, h = some e → y = blkOf W x e⌝ ∗ owns (c : Thread nD τ) a11 fullShare y)

/-- The block computed, if the table says so, from the slot in use. -/
theorem tail4_wp (tv : S23.Idx → BitVec 32) (b b' : Bool) (h : Option (Fin 8)) (hv : word tv i = 1#32 → b' = b ∧ h ≠ none) (x y : S256x1024.Idx → Elt F .f32) :
    iprop(still c W b h ∗ table (F := F) c main_arg7 tv ∗ owns (c : Thread nD τ) a7 fullShare x ∗ owns (c : Thread nD τ) a11 fullShare y)
      ⊢ wp frame (wpE (defs₀ (F := F)) 𝒱₀ c none) Set.univ (tail4 (F := F) i a7 a11 (sw b')) fun _ =>
        iprop(still c W b h ∗ table (F := F) c main_arg7 tv ∗ rowsLeft c W a7 a11 (word tv i) x h) := by
  unfold tail4
  iintro ⟨Hs, Ht, Hx, Hy⟩
  iapply (smem_wp (F := F) c (Memref.whole main_arg7) tv (Rect.unit (s := S23) (k1_off36 i) S1.size (k1_off36_inb i)) _ _ (word tv i) (word_off i (k1_off36 i) (k1_off36_inb i) rfl tv _))
  isplitl [Ht]; · iexact Ht
  iintro Ht
  by_cases hv1 : word tv i = 1#32
  · obtain ⟨rfl, hn⟩ := hv hv1
    obtain ⟨e, rfl⟩ := Option.ne_none_iff_exists'.mp hn
    cases b' with
    | false =>
      rw [if_pos ((cond4_iff false _).mpr ⟨hv1, rfl⟩), wp_bind]
      unfold still
      icases Hs with ⟨Hh, Hr⟩
      ihave Hwp := (compute0_wp a7 a11 c W x y e) $$ [Hx Hy Hh]
      · isplitl [Hx]; · iexact Hx
        isplitl [Hy]; · iexact Hy
        iexact Hh
      iapply wp_wand $$ Hwp
      iintro %_ ⟨Hx, Hy, Hh⟩
      iapply (smem_wp (F := F) c (Memref.whole main_arg7) tv (Rect.unit (s := S23) (k1_off37 i) S1.size (k1_off37_inb i)) _ _ (word tv i) (word_off i (k1_off37 i) (k1_off37_inb i) rfl tv _))
      isplitl [Ht]; · iexact Ht
      iintro Ht
      rw [if_neg (fun h => by simpa using ((cond5_iff false _).mp h).2)]
      sl_step
      isplitl [Hh Hr]
      · isplitl [Hh]; · iexact Hh
        iexact Hr
      isplitl [Ht]; · iexact Ht
      isplitl [Hx]; · iexact Hx
      iexists _; isplitr
      swap; · iexact Hy
      ipureintro; rintro - e' he'; rw [Option.some.inj he']
    | true =>
      rw [if_neg (fun h => by simpa using ((cond4_iff true _).mp h).2)]
      simp only [pure_bind]
      unfold still
      icases Hs with ⟨Hh, Hr⟩
      iapply (smem_wp (F := F) c (Memref.whole main_arg7) tv (Rect.unit (s := S23) (k1_off37 i) S1.size (k1_off37_inb i)) _ _ (word tv i) (word_off i (k1_off37 i) (k1_off37_inb i) rfl tv _))
      isplitl [Ht]; · iexact Ht
      iintro Ht
      rw [if_pos ((cond5_iff true _).mpr ⟨hv1, rfl⟩)]
      ihave Hwp := (compute1_wp a7 a11 c W x y e) $$ [Hx Hy Hh]
      · isplitl [Hx]; · iexact Hx
        isplitl [Hy]; · iexact Hy
        iexact Hh
      iapply wp_wand $$ Hwp
      iintro %_ ⟨Hx, Hy, Hh⟩
      isplitl [Hh Hr]
      · isplitl [Hh]; · iexact Hh
        iexact Hr
      isplitl [Ht]; · iexact Ht
      isplitl [Hx]; · iexact Hx
      iexists _; isplitr
      swap; · iexact Hy
      ipureintro; rintro - e' he'; rw [Option.some.inj he']
  · rw [if_neg (fun h => hv1 ((cond4_iff b' _).mp h).1)]
    simp only [pure_bind]
    iapply (smem_wp (F := F) c (Memref.whole main_arg7) tv (Rect.unit (s := S23) (k1_off37 i) S1.size (k1_off37_inb i)) _ _ (word tv i) (word_off i (k1_off37 i) (k1_off37_inb i) rfl tv _))
    isplitl [Ht]; · iexact Ht
    iintro Ht
    rw [if_neg (fun h => hv1 ((cond5_iff b' _).mp h).1)]
    sl_step
    isplitl [Hs]; · iexact Hs
    isplitl [Ht]; · iexact Ht
    isplitl [Hx]; · iexact Hx
    iexists _; isplitr
    swap; · iexact Hy
    ipureintro; exact fun h => absurd h hv1

/-- The next expert's copies started, if the table says so, into the other slot. -/
theorem next_step (te : S23.Idx → BitVec 32) (b : Bool) (e : Fin 8) (he : word te i = wd e) (f : BitVec 32) (h3 : k1_cond3 f = 1#1) :
    iprop(coming c W (!b) none ∗ store c W none ∗ table (F := F) c main_arg10 te)
      ⊢ wp frame (wpE (defs₀ (F := F)) 𝒱₀ c none) Set.univ (next (F := F) i a7 h7 a11 h11 (sw b) f (chk4 b f) h3)
        fun _ => iprop(coming c W (!b) (some e) ∗ store c W (some e) ∗ table (F := F) c main_arg10 te) := by
  have hne := next_wp (F := F) i a7 h7 a11 h11 c fullShare W (sw b) (slot_other b) te (he ▸ exp_wd e) f
  unfold coming
  iintro ⟨⟨Hs, Hr⟩, Hw, Ht⟩
  ihave Hw := (store_take c W e) $$ Hw
  icases Hw with ⟨He, Hw⟩
  ihave Hs := (slot_dsts c (sw (!b)) (slot_sw (!b))) $$ Hs
  icases Hs with ⟨%o, Hs⟩
  have hsp := hne o (chk4 b f) (he ▸ chk5 f e) h3
  revert hsp
  generalize_proofs p1 p2 p3 p4
  revert p1 p2 p3
  rw [he, other_sw]
  intro p1 p2 p3 hsp
  ihave Hwp := hsp $$ [He Hs Hr Ht]
  · isplitl [He]; · iexact He
    isplitl [Hs]; · iexact Hs
    isplitl [Hr]; · iexact Hr
    iexact Ht
  iapply wp_wand $$ Hwp
  iintro %_ ⟨Hf, Ht⟩
  isplitl [Hf]; · iexists o; iexact Hf
  isplitl [Hw]; · iexact Hw
  iexact Ht

/-- The last three stages: the slot in use keeps what it holds, the other may get a next expert. -/
theorem tail3_wp (tv tf te : S23.Idx → BitVec 32) (b b' : Bool) (h f0 f : Option (Fin 8)) (hv : word tv i = 1#32 → b' = b ∧ h ≠ none)
    (h1 : word tf i = 1#32 → b' = b ∧ f0 = none ∧ ∃ e, word te i = wd e ∧ f = some e) (h0 : word tf i ≠ 1#32 → f = f0) (x y : S256x1024.Idx → Elt F .f32) :
    iprop((still c W b h ∗ coming c W (!b) f0 ∗ store c W f0) ∗ (table (F := F) c main_arg7 tv ∗ table (F := F) c main_arg9 tf ∗ table (F := F) c main_arg10 te)
        ∗ owns (c : Thread nD τ) a7 fullShare x ∗ owns (c : Thread nD τ) a11 fullShare y)
      ⊢ wp frame (wpE (defs₀ (F := F)) 𝒱₀ c none) Set.univ (tail3 (F := F) i a7 h7 a11 h11 (sw b')) fun _ =>
        iprop((still c W b h ∗ coming c W (!b) f ∗ store c W f) ∗ (table (F := F) c main_arg7 tv ∗ table (F := F) c main_arg9 tf ∗ table (F := F) c main_arg10 te)
        ∗ rowsLeft c W a7 a11 (word tv i) x h) := by
  unfold tail3
  iintro ⟨⟨Hs, Hc, Hw⟩, ⟨Htv, Htf, Hte⟩, Hx, Hy⟩
  iapply (smem_wp (F := F) c (Memref.whole main_arg9) tf (Rect.unit (s := S23) (k1_off23 i) S1.size (k1_off23_inb i)) _ _ (word tf i) (word_off i (k1_off23 i) (k1_off23_inb i) rfl tf _))
  isplitl [Htf]; · iexact Htf
  iintro Htf
  iapply (assume_wp c _ _ (chk4 b' (word tf i)))
  by_cases hf : word tf i = 1#32
  · obtain ⟨rfl, rfl, e, he, rfl⟩ := h1 hf
    rw [dif_pos ((cond3_iff _).mpr hf), wp_bind]
    ihave Hwp := (next_step c W i a7 h7 a11 h11 te b' e he (word tf i) ((cond3_iff _).mpr hf)) $$ [Hc Hw Hte]
    · isplitl [Hc]; · iexact Hc
      isplitl [Hw]; · iexact Hw
      iexact Hte
    iapply wp_wand $$ Hwp
    iintro %_ ⟨Hc, Hw, Hte⟩
    ihave Hwp := (tail4_wp c W i a7 a11 tv b' b' h hv x y) $$ [Hs Htv Hx Hy]
    · isplitl [Hs]; · iexact Hs
      isplitl [Htv]; · iexact Htv
      isplitl [Hx]; · iexact Hx
      iexact Hy
    iapply wp_wand $$ Hwp
    iintro %_ ⟨Hs, Htv, Hxy⟩
    iframe Hs Hc Hw Htv Htf Hte Hxy
  · obtain rfl := h0 hf
    rw [dif_neg (fun h => hf ((cond3_iff _).mp h))]
    simp only [pure_bind]
    ihave Hwp := (tail4_wp c W i a7 a11 tv b b' h hv x y) $$ [Hs Htv Hx Hy]
    · isplitl [Hs]; · iexact Hs
      isplitl [Htv]; · iexact Htv
      isplitl [Hx]; · iexact Hx
      iexact Hy
    iapply wp_wand $$ Hwp
    iintro %_ ⟨Hs, Htv, Hxy⟩
    iframe Hs Hc Hw Htv Htf Hte Hxy

variable (O : CellTallies nD τ sig (HIx 1)) (Ws : Waits sig (HIx 1))

/-- The core's debts, waits recorded beyond `Ws` at no index. -/
abbrev owing : sProp 𝕄 := iprop(∃ W', ⌜∀ p ∈ W', p ∈ Ws ∨ p.2 = none⌝ ∗ owes (c : Thread nD τ) O W')

/-- The last four stages where the turn is another expert's: its copies are waited for. -/
theorem tail2_turn (tr tv tf te : S23.Idx → BitVec 32) (b : Bool) (h f : Option (Fin 8)) (e : Fin 8) (hr : word tr i = 1#32)
    (h1 : word tf i = 1#32 → ∃ e, word te i = wd e ∧ f = some e) (h0 : word tf i ≠ 1#32 → f = none) (x y : S256x1024.Idx → Elt F .f32) :
    iprop((still c W (!b) h ∗ coming c W b (some e) ∗ store c W (some e)) ∗ (table (F := F) c main_arg8 tr ∗ table (F := F) c main_arg7 tv ∗ table (F := F) c main_arg9 tf ∗ table (F := F) c main_arg10 te)
        ∗ (Transfers.MayWaits (c : Thread nD τ) (none : HIx 1) O ∗ owes (c : Thread nD τ) O Ws)
        ∗ owns (c : Thread nD τ) a7 fullShare x ∗ owns (c : Thread nD τ) a11 fullShare y)
      ⊢ wp frame (wpE (defs₀ (F := F)) 𝒱₀ c none) Set.univ (tail2 (F := F) i a7 h7 a11 h11 (wd e) (sw b)) fun _ =>
        iprop((still c W b (some e) ∗ coming c W (!b) f ∗ store c W f) ∗ (table (F := F) c main_arg8 tr ∗ table (F := F) c main_arg7 tv ∗ table (F := F) c main_arg9 tf ∗ table (F := F) c main_arg10 te)
        ∗ owing c O Ws ∗ rowsLeft c W a7 a11 (word tv i) x (some e)) := by
  unfold tail2
  iintro ⟨⟨Hs, Hc, Hw⟩, ⟨Htr, Ht⟩, ⟨Hm, HO⟩, Hx, Hy⟩
  iapply (smem_wp (F := F) c (Memref.whole main_arg8) tr (Rect.unit (s := S23) (k1_off13 i) S1.size (k1_off13_inb i)) _ _ (word tr i) (word_off i (k1_off13 i) (k1_off13_inb i) rfl tr _))
  isplitl [Htr]; · iexact Htr
  iintro Htr
  iapply (assume_wp c _ _ (chk3 e b (word tr i)))
  rw [dif_pos ((cond2_iff _).mpr hr), wp_bind]
  unfold coming
  icases Hc with ⟨%o, Hc⟩
  ihave Hwp := (drain_wp (F := F) i a7 h7 a11 h11 c fullShare W (sw b) (slot_sw b) (wd e) (exp_wd e) (word tr i) o (chk3 e b _) ((cond2_iff _).mpr hr) O Ws) $$ [Hc Hm HO]
  · isplitl [Hc]; · iexact Hc
    isplitl [Hm]; · iexact Hm
    iexact HO
  iapply wp_wand $$ Hwp
  iintro %_ ⟨He, Hl, Hr, HO⟩
  ihave Hl := (lands_held c W (sw b) (slot_sw b) (wd e) (exp_wd e) o) $$ Hl
  rw [wd_toNat]
  ihave Hw := (store_put c W e) $$ [He Hw]
  · isplitl [He]; · iexact He
    iexact Hw
  ihave Hs := (still_free c W (!b) h) $$ Hs
  ihave Hwp := (tail3_wp c W i a7 h7 a11 h11 tv tf te b b (some e) none f (fun _ => ⟨rfl, by simp⟩) (fun hf => ⟨rfl, rfl, h1 hf⟩) h0 x y) $$ [Hl Hr Hs Hw Ht Hx Hy]
  · isplitl [Hl Hr Hs Hw]
    · isplitl [Hl Hr]
      · unfold still
        isplitl [Hl]; · iexact Hl
        iexact Hr
      isplitl [Hs]
      · unfold coming
        iexact Hs
      iexact Hw
    isplitl [Ht]; · iexact Ht
    isplitl [Hx]; · iexact Hx
    iexact Hy
  iapply wp_wand $$ Hwp
  iintro %_ ⟨H1, Ht, Hxy⟩
  isplitl [H1]; · iexact H1
  isplitl [Htr Ht]
  · isplitl [Htr]; · iexact Htr
    iexact Ht
  isplitl [HO]
  · iexists _; isplitr
    swap; · iexact HO
    ipureintro; intro p hp
    rcases Finset.mem_insert.mp hp with rfl | h
    · exact .inr rfl
    · exact .inl h
  iexact Hxy

/-- The last four stages where it is not. -/
theorem tail2_stay (tr tv tf te : S23.Idx → BitVec 32) (b b' : Bool) (h f : Option (Fin 8)) (e : Fin 8) (hr : word tr i ≠ 1#32)
    (hv : word tv i = 1#32 → b' = b ∧ h ≠ none) (hf : word tf i ≠ 1#32) (x y : S256x1024.Idx → Elt F .f32) :
    iprop((still c W b h ∗ coming c W (!b) f ∗ store c W f) ∗ (table (F := F) c main_arg8 tr ∗ table (F := F) c main_arg7 tv ∗ table (F := F) c main_arg9 tf ∗ table (F := F) c main_arg10 te)
        ∗ owes (c : Thread nD τ) O Ws
        ∗ owns (c : Thread nD τ) a7 fullShare x ∗ owns (c : Thread nD τ) a11 fullShare y)
      ⊢ wp frame (wpE (defs₀ (F := F)) 𝒱₀ c none) Set.univ (tail2 (F := F) i a7 h7 a11 h11 (wd e) (sw b')) fun _ =>
        iprop((still c W b h ∗ coming c W (!b) f ∗ store c W f) ∗ (table (F := F) c main_arg8 tr ∗ table (F := F) c main_arg7 tv ∗ table (F := F) c main_arg9 tf ∗ table (F := F) c main_arg10 te)
        ∗ owing c O Ws ∗ rowsLeft c W a7 a11 (word tv i) x h) := by
  unfold tail2
  iintro ⟨Hs, ⟨Htr, Ht⟩, HO, Hx, Hy⟩
  iapply (smem_wp (F := F) c (Memref.whole main_arg8) tr (Rect.unit (s := S23) (k1_off13 i) S1.size (k1_off13_inb i)) _ _ (word tr i) (word_off i (k1_off13 i) (k1_off13_inb i) rfl tr _))
  isplitl [Htr]; · iexact Htr
  iintro Htr
  iapply (assume_wp c _ _ (chk3 e b' (word tr i)))
  rw [dif_neg (fun h => hr ((cond2_iff _).mp h))]
  simp only [pure_bind]
  ihave Hwp := (tail3_wp c W i a7 h7 a11 h11 tv tf te b b' h f f hv (fun h => absurd h hf) (fun _ => rfl) x y) $$ [Hs Ht Hx Hy]
  · iframe Hs Ht Hx Hy
  iapply wp_wand $$ Hwp
  iintro %_ ⟨H1, Ht, Hxy⟩
  isplitl [H1]; · iexact H1
  isplitl [Htr Ht]
  · isplitl [Htr]; · iexact Htr
    iexact Ht
  isplitl [HO]
  · iexists _; isplitr
    swap; · iexact HO
    ipureintro; exact fun p hp => .inl hp
  iexact Hxy

/-- The first expert's copies started into slot `b`. -/
theorem first_step (b : Bool) (e : Fin 8) (h1 : k1_cond1 i = 1#1) :
    iprop(coming c W b none ∗ store c W none)
      ⊢ wp frame (wpE (defs₀ (F := F)) 𝒱₀ c none) Set.univ (first (F := F) i a7 h7 a11 h11 (wd e) (chk2 i e) (sw b) (chk1 i b) h1)
        fun _ => iprop(coming c W b (some e) ∗ store c W (some e)) := by
  unfold coming
  iintro ⟨⟨Hs, Hr⟩, Hw⟩
  ihave Hw := (store_take c W e) $$ Hw
  icases Hw with ⟨He, Hw⟩
  ihave Hs := (slot_dsts c (sw b) (slot_sw b)) $$ Hs
  icases Hs with ⟨%o, Hs⟩
  ihave Hwp := (first_wp (F := F) i a7 h7 a11 h11 c fullShare W (sw b) (slot_sw b) (wd e) (exp_wd e) o (chk2 i e) (chk1 i b) h1) $$ [He Hs Hr]
  · isplitl [He]; · iexact He
    isplitl [Hs]; · iexact Hs
    iexact Hr
  iapply wp_wand $$ Hwp
  iintro %_ Hf
  isplitl [Hf]; · iexists o; iexact Hf
  iexact Hw

/-- The tables as held. -/
abbrev tabs (t : Tabs) : sProp 𝕄 :=
  iprop(table (F := F) c main_arg6 t.be ∗ table (F := F) c main_arg7 t.va ∗ table (F := F) c main_arg8 t.rs ∗ table (F := F) c main_arg9 t.ff ∗ table (F := F) c main_arg10 t.fe ∗ table (F := F) c main_arg11 t.cu)

/-- Two slots with nothing on its way, either the one in use. -/
theorem swap_free (s b : Bool) (h : Option (Fin 8)) : iprop(still c W s h ∗ coming c W (!s) none) ⊢ iprop(∃ h', still c W (!b) h' ∗ coming c W b none) := by
  by_cases hb : b = s
  · subst hb
    iintro ⟨Hs, Hc⟩
    ihave Hs := (still_free c W b h) $$ Hs
    iexists none
    isplitl [Hc]
    · unfold still coming
      iexact Hc
    unfold coming
    iexact Hs
  · obtain rfl : s = !b := by cases s <;> cases b <;> simp_all
    rw [Bool.not_not]
    iintro ⟨Hs, Hc⟩
    iexists h
    isplitl [Hs]; · iexact Hs
    iexact Hc

/-- One point: from the state before to the state after, the block computed by its expert if the table says so. -/
theorem point_wp (t : Tabs) (p p' : St) (hp : Step t i p p') (x y : S256x1024.Idx → Elt F .f32) :
    iprop(p.res c W ∗ tabs c t ∗ (Transfers.MayWaits (c : Thread nD τ) (none : HIx 1) O ∗ owes (c : Thread nD τ) O Ws)
        ∗ owns (c : Thread nD τ) a7 fullShare x ∗ owns (c : Thread nD τ) a11 fullShare y)
      ⊢ wp frame (wpE (defs₀ (F := F)) 𝒱₀ c none) Set.univ (staged (F := F) i a7 h7 a11 h11) fun _ =>
        iprop(p'.res c W ∗ tabs c t ∗ owing c O Ws ∗ rowsLeft c W a7 a11 (word t.va i) x p'.h) := by
  obtain ⟨e, he⟩ := hp.e
  obtain ⟨b, hb⟩ := hp.s
  unfold staged
  iintro ⟨Hp, ⟨H4, H5, H6, H7, H8, H9⟩, ⟨Hm, HO⟩, Hx, Hy⟩
  iapply (smem_wp (F := F) c (Memref.whole main_arg6) t.be (Rect.unit (s := S23) (k1_off1 i) S1.size (k1_off1_inb i)) _ _ (wd e) ((word_off i (k1_off1 i) (k1_off1_inb i) rfl t.be _).trans he))
  isplitl [H4]; · iexact H4
  iintro H4
  iapply (assume_wp c _ _ (chk2 i e))
  iapply (smem_wp (F := F) c (Memref.whole main_arg11) t.cu (Rect.unit (s := S23) (k1_off1 i) S1.size (k1_off1_inb i)) _ _ (sw b) ((word_off i (k1_off1 i) (k1_off1_inb i) rfl t.cu _).trans hb))
  isplitl [H9]; · iexact H9
  iintro H9
  iapply (assume_wp c _ _ (chk1 i b))
  unfold St.res
  icases Hp with ⟨Hs, Hc, Hw⟩
  by_cases hr : word t.rs i = 1#32
  · obtain ⟨⟨hbe, hn⟩, hcu, h2, h3, h4⟩ := hp.turn hr
    obtain ⟨e', he'⟩ := Option.ne_none_iff_exists'.mp hn
    have hsw : ∀ b b' : Bool, sw b = sw b' → b = b' := by decide
    have hwd : ∀ e e' : Fin 8, wd e = wd e' → e = e' := by decide
    have hee : e = e' := hwd _ _ (he.symm.trans (by rw [hbe, he']; rfl))
    have hbb : b = p'.s := hsw _ _ (hb.symm.trans hcu)
    subst hee hbb
    rw [he']
    have h1 : word t.ff i = 1#32 → ∃ e, word t.fe i = wd e ∧ p'.f = some e := fun h => by
      obtain ⟨e, he⟩ := Option.ne_none_iff_exists'.mp (h3 h).1
      exact ⟨e, by rw [(h3 h).2, he]; rfl, he⟩
    by_cases h0 : (i 0).val = 0
    · rw [dif_pos ((cond1_iff i).mpr h0), wp_bind, (hp.start h0).2]
      ihave Hsc := (swap_free c W p.s p'.s p.h) $$ [Hs Hc]
      · isplitl [Hs]; · iexact Hs
        iexact Hc
      icases Hsc with ⟨%h', Hs, Hc⟩
      ihave Hwp := (first_step c W i a7 h7 a11 h11 p'.s e ((cond1_iff i).mpr h0)) $$ [Hc Hw]
      · isplitl [Hc]; · iexact Hc
        iexact Hw
      iapply wp_wand $$ Hwp
      iintro %_ ⟨Hc, Hw⟩
      ihave Hwp := (tail2_turn c W i a7 h7 a11 h11 O Ws t.rs t.va t.ff t.fe p'.s h' p'.f e hr h1 h4 x y) $$ [Hs Hc Hw H5 H6 H7 H8 Hm HO Hx Hy]
      · iframe Hs Hc Hw H5 H6 H7 H8 Hm HO Hx Hy
      iapply wp_wand $$ Hwp
      iintro %_ ⟨Hs, ⟨H6, H5, H7, H8⟩, HO, Hxy⟩
      iframe Hs H4 H5 H6 H7 H8 H9 HO Hxy
    · rw [dif_neg (fun h => h0 ((cond1_iff i).mp h)), (h2 h0).1, he', show (!p.s) = p'.s from (h2 h0).2.symm, show p.s = !p'.s by rw [(h2 h0).2, Bool.not_not]]
      simp only [pure_bind]
      ihave Hwp := (tail2_turn c W i a7 h7 a11 h11 O Ws t.rs t.va t.ff t.fe p'.s p.h p'.f e hr h1 h4 x y) $$ [Hs Hc Hw H5 H6 H7 H8 Hm HO Hx Hy]
      · iframe Hs Hc Hw H5 H6 H7 H8 Hm HO Hx Hy
      iapply wp_wand $$ Hwp
      iintro %_ ⟨Hs, ⟨H6, H5, H7, H8⟩, HO, Hxy⟩
      iframe Hs H4 H5 H6 H7 H8 H9 HO Hxy
  · obtain ⟨hf, rfl, hv⟩ := hp.stay hr
    have h0 : (i 0).val ≠ 0 := fun h => hr (hp.start h).1
    have hsw : ∀ b b' : Bool, sw b = sw b' → b = b' := by decide
    rw [dif_neg (fun h => h0 ((cond1_iff i).mp h))]
    simp only [pure_bind]
    ihave Hwp := (tail2_stay c W i a7 h7 a11 h11 O Ws t.rs t.va t.ff t.fe p'.s b p'.h p'.f e hr
      (fun h => ⟨hsw _ _ (hb.symm.trans (hv h).1), by obtain ⟨e, he, -⟩ := (hv h).2; rw [he]; simp⟩) hf x y) $$ [Hs Hc Hw H5 H6 H7 H8 HO Hx Hy]
    · iframe Hs Hc Hw H5 H6 H7 H8 HO Hx Hy
    iapply wp_wand $$ Hwp
    iintro %_ ⟨Hs, ⟨H6, H5, H7, H8⟩, HO, Hxy⟩
    iframe Hs H4 H5 H6 H7 H8 H9 HO Hxy

end Point

end Cert.Proof.Moe.Ffn

end
-- ==== Proof.Loop.lean ====
/-
  The experts' loop: what each point finds and leaves.
-/
module

public import proofs.«01_k».proof.Proof.Point

@[expose] public section

set_option maxRecDepth 16384

noncomputable section

namespace Cert.Proof.Moe.Ffn

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The loop's data -/

/-- The slots' states along the 23 points, as the tables ask for them. -/
structure Sched (t : Tabs) (st : ℕ → St) : Prop where
  first : (st 0).h = none ∧ (st 0).f = none
  last : (st 23).f = none
  step : ∀ i : grid1.Coords, Step t i (st (i 0).val) (st ((i 0).val + 1))

theorem coords_val : ∀ u : Fin grid1.N, (grid1.coords u 0).val = u.val := by decide +kernel

/-- The tables as the call's prefetched ones. -/
def tabsC (t : Tabs) : pre1.Contents (Elt F)
  | 0 => t.be
  | 1 => t.va
  | 2 => t.rs
  | 3 => t.ff
  | 4 => t.fe
  | 5 => t.cu
  | ⟨_ + 6, h⟩ => absurd h (Nat.not_lt.2 (Nat.le_add_left _ _))

abbrev adm1 (t : Tabs) : (pcfg1 (F := F)).Adm := ⟨tabsC t, trivial⟩

/-- Block `u` of the rows. -/
def xblk (xs : S5888x1024.Idx → Elt F .f32) (u : ℕ) : S256x1024.Idx → Elt F .f32 := fun z =>
  if h : 256 * u + (z 0).val < 5888 then xs (ValueIdx.ix2 ⟨256 * u + (z 0).val, h⟩ (z 1)) else xs (ValueIdx.ix2 0 (z 1))

/-- The pairs the core has waited at before its first SparseCore call, as the launch bounds them. -/
def waited (d : Dev nD) : Set (SemLoc sig × HIx 1) := {p | (K (F := F)).lev (T d, p.1) p.2 ≤ 8 * SparseCore.Cfg.Blocks.fst (Q := 1) (N := 1) 0}

/-- The router's staging buffers, unused here. -/
abbrev unused (d : Dev nD) : sProp 𝕄 :=
  iprop((∃ f, ((d : Thread nD τ).loc cc0_stg0_0) ↦{fullShare} f) ∗ (∃ f, ((d : Thread nD τ).loc cc0_stg1_0) ↦{fullShare} f) ∗ (∃ f, ((d : Thread nD τ).loc cc0_stg2_0) ↦{fullShare} f)
    ∗ (∃ f, ((d : Thread nD τ).loc cc0_stg3_0) ↦{fullShare} f) ∗ (∃ f, ((d : Thread nD τ).loc cc0_stg4_0) ↦{fullShare} f) ∗ (∃ f, ((d : Thread nD τ).loc cc0_stg5_0) ↦{fullShare} f)
    ∗ (∃ f, ((d : Thread nD τ).loc cc0_stg6_0) ↦{fullShare} f) ∗ (∃ f, ((d : Thread nD τ).loc cc0_stg7_0) ↦{fullShare} f) ∗ (∃ f, ((d : Thread nD τ).loc cc0_stg8_0) ↦{fullShare} f)
    ∗ (∃ f, ((d : Thread nD τ).loc cc0_stg9_0) ↦{fullShare} f) ∗ (∃ f, ((d : Thread nD τ).loc cc0_stg10_0) ↦{fullShare} f) ∗ (∃ f, ((d : Thread nD τ).loc cc0_stg11_0) ↦{fullShare} f)
    ∗ (∃ f, ((d : Thread nD τ).loc cc0_stg12_0) ↦{fullShare} f))

variable (W : Wts F) (t : Tabs) (st : ℕ → St) (xs y0 : S5888x1024.Idx → Elt F .f32)

/-- The rows' window keeps its contents; the result's is left at the block's expert's rows, where the table says so. -/
def rdat (d : Dev nD) : Pipeline.RDat τ (Elt F) (HIx 1) ℕ UU ℕ (cfg1 (F := F) (adm1 t)) d where
  A := fun (w : Fin 2) => match w with
    | 0 => xs
    | 1 => y0
  after := fun (w : Fin 2) u => match w with
    | 0 => fun Y X => X = Y
    | 1 => fun _ X => word t.va (grid1.coords u) = 1#32 → ∀ e, (st (u.val + 1)).h = some e → X = blkOf W (xblk xs u.val) e
  Φ u := iprop((St.res d W (st u.val) ∗ tabs d t) ∗ levAts (K (F := F)).L (K (F := F)).lev ∗ unused d)
  q _ := fullShare
  owed _ := (K (F := F)).Otc d 0
  recorded _ := waited (F := F) d

theorem index_val : ∀ u : Fin grid1.N, cc1_transform_0 (grid1.coords u) = ![u.val, 0] ∧ cc1_transform_4 (grid1.coords u) = ![u.val, 0] := by decide +kernel

theorem fetch_x (u : Fin grid1.N) : ((cfg1 (F := F) (adm1 t)).win 0).fetch u = true := by
  show (true && (decide (u.val = 0) || decide (∃ h : 0 < u.val, cc1_transform_0 (grid1.coords u) ≠ cc1_transform_0 (grid1.coords ⟨u.val - 1, by omega⟩)))) = true
  rw [Bool.true_and, Bool.or_eq_true, decide_eq_true_iff, decide_eq_true_iff]
  rcases Nat.eq_zero_or_pos u.val with h | h
  · exact Or.inl h
  refine Or.inr ⟨h, fun he => ?_⟩
  rw [(index_val u).1, (index_val _).1] at he
  have : u.val = u.val - 1 := congrFun he 0
  omega
theorem flush_y (u : Fin grid1.N) : ((cfg1 (F := F) (adm1 t)).win 1).flush u = true := by
  show (true && (decide (u.val + 1 = grid1.N) || decide (∃ h : u.val + 1 < grid1.N, cc1_transform_4 (grid1.coords ⟨u.val + 1, h⟩) ≠ cc1_transform_4 (grid1.coords u)))) = true
  rw [Bool.true_and, Bool.or_eq_true, decide_eq_true_iff, decide_eq_true_iff]
  by_cases h : u.val + 1 < grid1.N
  swap; · exact Or.inl (by have := u.isLt; omega)
  refine Or.inr ⟨h, fun he => ?_⟩
  rw [(index_val u).2, (index_val _).2] at he
  have : u.val + 1 = u.val := congrFun he 0
  omega

theorem found_x (d : Dev nD) (u : Fin grid1.N) (Y) (h : (rdat W t st xs y0 d).Finds 0 u Y) : Y = xblk xs u.val := by
  obtain ⟨e, he⟩ := ((rdat W t st xs y0 d).finds_of_fetch (fetch_x t u) Y).mp h
  rw [he]
  refine funext fun (z : S256x1024.Idx) => ?_
  have hz : z = ((cfg1 (F := F) (adm1 t)).win 0).xinj (grid1.coords u) z := rfl
  rw [hz]
  refine (((cfg1 (F := F) (adm1 t)).win 0).fill_xinj (grid1.coords u) e _ z).trans ?_
  have h0 := congrFun (index_val u).1 0
  have h1 := congrFun (index_val u).1 1
  have hu : u.val < 23 := N_1 ▸ u.isLt
  have hb : 256 * u.val + (z 0).val < 5888 := by have : (z 0).val < 256 := (z 0).isLt; omega
  refine Eq.trans ?_ (dif_pos hb).symm
  show xs _ = xs _
  refine congrArg xs (funext fun (a : Fin 2) => Fin.ext ?_)
  match a with
  | 0 => show cc1_transform_0 (grid1.coords u) 0 * 256 + 1 * (z 0).val = 256 * u.val + (z 0).val; rw [h0]; show u.val * 256 + _ = _; omega
  | 1 => show cc1_transform_0 (grid1.coords u) 1 * 1024 + 1 * (z 1).val = (z 1).val; rw [h1]; show 0 * 1024 + _ = _; omega

theorem defs₀_experts (u : Fin grid1.N) : defs₀ (F := F) .tc (cfg1 (F := F) (adm1 t)).body ((cfg1 (F := F) (adm1 t)).bodyArgs u ((cfg1 (F := F) (adm1 t)).slots u))
    = staged (F := F) (grid1.coords u) (((cfg1 (F := F) (adm1 t)).win 0).stage ((cfg1 (F := F) (adm1 t)).slots u 0)) (hstage1_0 _) (((cfg1 (F := F) (adm1 t)).win 1).stage ((cfg1 (F := F) (adm1 t)).slots u 1)) (hstage1_1 _) :=
  body_staged _ _ _ _ _

theorem owed_none (d : Dev nD) (g : GSem nD τ sig) : (K (F := F)).Otc d 0 g none = 0 := by
  by_contra h
  have := SparseCore.Cfg.lev_of_Otc_pos (K := K (F := F)) (Nat.pos_of_ne_zero h)
  rw [SparseCore.Cfg.lev_none] at this; omega

theorem point_obl (hS : Sched t st) (d : Dev nD) : (rdat W t st xs y0 d).BodyObligation (defs₀ (F := F)) 𝒱₀ none Set.univ := fun u Y hY => by
  rw [bigSep_W1, bigSep_W1, defs₀_experts]
  have hx := found_x W t st xs y0 d u _ (hY 0)
  have hstep := hS.step (grid1.coords u)
  rw [coords_val u] at hstep
  show iprop(((St.res d W (st u.val) ∗ tabs d t) ∗ levAts (K (F := F)).L (K (F := F)).lev ∗ unused d) ∗ _ ∗ owns (d : Thread nD τ) _ fullShare (Y 0) ∗ owns (d : Thread nD τ) _ fullShare (Y 1)) ⊢ _
  iintro ⟨⟨⟨Hp, Ht⟩, #Hl, Hu⟩, ⟨%Ws, %hW, HO⟩, Hx, Hy⟩
  ihave Hwp := (point_wp d W (grid1.coords u) _ (hstage1_0 _) _ (hstage1_1 _) ((K (F := F)).Otc d 0) Ws t _ _ hstep (Y 0) (Y 1)) $$ [Hp Ht HO Hx Hy]
  · isplitl [Hp]; · iexact Hp
    isplitl [Ht]; · iexact Ht
    isplitl [HO]
    · isplitr
      · iapply ((K (F := F)).mayWaits_none (owed_none d)); iexact Hl
      iexact HO
    isplitl [Hx]; · iexact Hx
    iexact Hy
  iapply wp_wand $$ Hwp
  rw [show (rdat W t st xs y0 d).Φ u.succ = iprop((St.res d W (st (u.val + 1)) ∗ tabs d t) ∗ levAts (K (F := F)).L (K (F := F)).lev ∗ unused d) from rfl]
  iintro %_ ⟨Hp, Ht, ⟨%W', %hW', HO⟩, Hx, %y, %hy, Hy⟩
  isplitl [Hp Ht Hu]
  · isplitl [Hp Ht]
    · isplitl [Hp]; · iexact Hp
      iexact Ht
    isplitr; · iexact Hl
    iexact Hu
  isplitl [HO]
  · iexists W'; isplitr
    · ipureintro; intro p hp
      rcases hW' p hp with h | h
      · exact hW h
      · exact Or.inl (by show (K (F := F)).lev (T d, p.1) p.2 ≤ _; rw [h]; exact Nat.zero_le _)
    iexact HO
  isplitl [Hx]
  · iexists (Y 0); isplitr
    · ipureintro; exact rfl
    iexact Hx
  iexists y; isplitr
  · ipureintro; intro hv e he; rw [← hx]; exact hy hv e he
  iexact Hy

/-! ## The result's array -/

theorem index_row (u r : ℕ) (k : Fin 1024) (h : 256 * u + r < 5888) (z : S5888x1024.Idx) (h0 : (z 0).val = 256 * u + r) (h1 : (z 1).val = k.val) :
    z = ValueIdx.ix2 ⟨256 * u + r, h⟩ k := by
  funext a; refine Fin.ext ?_
  match a with
  | 0 => exact h0
  | 1 => exact h1

/-- After `n` points, the rows of the computed blocks among the first `n` are their experts'. -/
theorem arr_y (d : Dev nD) (n : ℕ) (hn : n ≤ 23) : ∀ G, (rdat W t st xs y0 d).ArrAt 1 n G → ∀ u : Fin grid1.N, u.val < n → word t.va (grid1.coords u) = 1#32 →
    ∀ e, (st (u.val + 1)).h = some e → ∀ z : S256x1024.Idx, ∀ y : S5888x1024.Idx, (y 0).val = 256 * u.val + (z 0).val → (y 1).val = (z 1).val →
      (G : S5888x1024.Idx → Elt F .f32) y = blkOf W (xblk xs u.val) e z := by
  induction n with
  | zero => intro G _ u hu; exact absurd hu (Nat.not_lt_zero _)
  | succ n ih =>
    intro G hG u hu hv e he z y hy0 hy1
    have hnN : n < grid1.N := by rw [N_1]; omega
    rw [show n + 1 = (⟨n, hnN⟩ : Fin grid1.N).val + 1 from rfl, (rdat W t st xs y0 d).ArrAt_succ 1 ⟨n, hnN⟩, if_pos (flush_y t _)] at hG
    obtain ⟨G0, X, hG0, ⟨Y, -, hX⟩, rfl⟩ := hG
    have h0 := congrFun (index_val ⟨n, hnN⟩).2 0
    have h1 := congrFun (index_val ⟨n, hnN⟩).2 1
    have hemb : ∀ x : S256x1024.Idx, ((((cfg1 (F := F) (adm1 t)).win 1).blk ⟨n, hnN⟩).view.emb x : S5888x1024.Idx) = ValueIdx.ix2 ⟨256 * n + (x 0).val, by have : (x 0).val < 256 := (x 0).isLt; omega⟩ (x 1) := fun x => by
      refine funext fun (a : Fin 2) => Fin.ext ?_
      match a with
      | 0 => show cc1_transform_4 (grid1.coords ⟨n, hnN⟩) 0 * 256 + 1 * (x 0).val = 256 * n + (x 0).val; rw [h0]; show n * 256 + _ = _; omega
      | 1 => show cc1_transform_4 (grid1.coords ⟨n, hnN⟩) 1 * 1024 + 1 * (x 1).val = (x 1).val; rw [h1]; show 0 * 1024 + _ = _; omega
    by_cases hun : u.val = n
    · have hX : word t.va (grid1.coords ⟨n, hnN⟩) = 1#32 → ∀ e, (st (n + 1)).h = some e → X = blkOf W (xblk xs n) e := hX
      have hu' : u = ⟨n, hnN⟩ := Fin.ext hun
      subst hu'
      have hyz : y = (((cfg1 (F := F) (adm1 t)).win 1).blk ⟨n, hnN⟩).view.emb z := by
        rw [hemb z]; refine funext fun (a : Fin 2) => Fin.ext ?_
        match a with
        | 0 => exact hy0
        | 1 => exact hy1
      rw [hyz]
      refine (View.write_emb_of_mem _ _ (Finset.mem_univ _)).trans ?_
      rw [hX hv e he]
      rfl
    · refine Eq.trans (View.write_of_not_mem _ _ _ fun hm => ?_) (ih (by omega) G0 hG0 u (by omega) hv e he z y hy0 hy1)
      obtain ⟨(x : S256x1024.Idx), -, hx⟩ := Finset.mem_map.mp hm
      have h := congrArg (fun z : S5888x1024.Idx => (z 0).val) ((hemb x).symm.trans hx)
      have h : 256 * n + (x 0).val = (y 0).val := h
      have hz : (z 0).val < 256 := (z 0).isLt
      have hx0 : (x 0).val < 256 := (x 0).isLt
      omega

end Cert.Proof.Moe.Ffn

end
-- ==== Proof.Region.lean ====
/-
  The router's call: what it finds in its windows and leaves in their arrays.
-/
module

public import proofs.«01_k».proof.Proof.Router
public import proofs.«01_k».proof.Proof.Loop

@[expose] public section

set_option maxRecDepth 16384

noncomputable section

namespace Cert.Proof.Moe

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev xLoc (d : Dev nD) : Loc nD τ sig := (SparseCore.T d).loc main_arg0
abbrev gLoc (d : Dev nD) : Loc nD τ sig := (SparseCore.T d).loc main_arg1
abbrev lLoc (d : Dev nD) : Loc nD τ sig := (SparseCore.T d).loc main_v0_0

/-! ## The proof data -/

variable (m : (ℓ : Loc nD τ sig) → Buf (Elt F) ℓ)

/-- The two inputs' windows keep their contents; the logits and the two weights are the named functions of the two inputs. -/
def rdat (d : Dev nD) : Pipeline.RDat τ (Elt F) (HIx 1) ℕ UU ℕ cfg0 d where
  A w := m (((cfg0.win w).arr.view.loc (d.tc : Thread nD τ)))
  after w _ Y X := match w with
    | 0 => X = Y
    | 1 => X = Y
    | 2 => X = lgOf (m (xLoc d)) (m (gLoc d))
    | 5 => X = w0Of (m (xLoc d)) (m (gLoc d))
    | 6 => X = w1Of (m (xLoc d)) (m (gLoc d))
    | _ => True
  Φ _ := Pipeline.scopedRest spec0 d
  q _ := fullShare
  owed _ := (K (F := F)).Otc d 0
  recorded _ := Ffn.waited (F := F) d

variable (st : ℕ → Ffn.St)

/-- The experts' tables, their weights, and the rows they work on, as the memory holds them. -/
def tabsOf : Ffn.Tabs where
  be := m ((SparseCore.T (0 : Dev nD)).loc main_arg6)
  va := m ((SparseCore.T (0 : Dev nD)).loc main_arg7)
  rs := m ((SparseCore.T (0 : Dev nD)).loc main_arg8)
  ff := m ((SparseCore.T (0 : Dev nD)).loc main_arg9)
  fe := m ((SparseCore.T (0 : Dev nD)).loc main_arg10)
  cu := m ((SparseCore.T (0 : Dev nD)).loc main_arg11)
def wtsOf (d : Dev nD) : Ffn.Wts F where
  up := m ((SparseCore.T d).loc main_arg3)
  gp := m ((SparseCore.T d).loc main_arg4)
  dn := m ((SparseCore.T d).loc main_arg5)
abbrev rLoc (d : Dev nD) : Loc nD τ sig := (SparseCore.T d).loc main_arg2

abbrev adm : (p : Fin 2) → (pcfgs (F := F) p).Adm := fun
  | 0 => cfg0.toPCfg_adm
  | 1 => Ffn.adm1 (tabsOf m)

abbrev rdats : (p : Fin 2) → (c : Dev nD) → Pipeline.RDat τ (Elt F) (HIx 1) ℕ UU ℕ (Pipeline.pin (pcfgs (F := F)) (adm m) p) c := fun
  | 0 => fun d => rdat m d
  | 1 => fun d => Ffn.rdat (wtsOf m d) (tabsOf m) st (m (rLoc d)) (m (yLoc d)) d

theorem read_x (f : main_arg0.ty.Contents (Elt F)) : (win0_0.blk t0_0).view.read (Elt F) f = f :=
  Memref.read_access_unit_zero (Elt F) main_arg0 (off := fun a => win0_0.index t0_0 a * main_arg0.ty.shape.size a)
    (by funext a; fin_cases a <;> decide) (by intro a; fin_cases a <;> decide) f
theorem found_x (d : Dev nD) (t : Fin cfg0.N) (Y) (h : (rdat m d).Finds 0 t Y) : Y = m (xLoc d) := by
  obtain ⟨e, he⟩ := ((rdat m d).finds_of_fetch (fetch0_0 t) Y).mp h
  rw [he, fin_N0 t]
  exact read_x (m (xLoc d))

theorem read_g (f : main_arg1.ty.Contents (Elt F)) : (win0_1.blk t0_0).view.read (Elt F) f = f :=
  Memref.read_access_unit_zero (Elt F) main_arg1 (off := fun a => win0_1.index t0_0 a * main_arg1.ty.shape.size a)
    (by funext a; fin_cases a <;> decide) (by intro a; fin_cases a <;> decide) f
theorem found_g (d : Dev nD) (t : Fin cfg0.N) (Y) (h : (rdat m d).Finds 1 t Y) : Y = m (gLoc d) := by
  obtain ⟨e, he⟩ := ((rdat m d).finds_of_fetch (fetch0_1 t) Y).mp h
  rw [he, fin_N0 t]
  exact read_g (m (gLoc d))

theorem arr_x (d : Dev nD) (f) (h : (rdat m d).ArrAt 0 cfg0.N f) : f = m (xLoc d) := by
  rw [(rdat m d).ArrAt_in 0 rfl] at h; exact h
theorem arr_g (d : Dev nD) (f) (h : (rdat m d).ArrAt 1 cfg0.N f) : f = m (gLoc d) := by
  rw [(rdat m d).ArrAt_in 1 rfl] at h; exact h
theorem arr_l (d : Dev nD) (f) (h : (rdat m d).ArrAt 2 cfg0.N f) : f = lgOf (m (xLoc d)) (m (gLoc d)) := by
  rw [show cfg0.N = t0_0.val + 1 from N_0, (rdat m d).ArrAt_succ 2 t0_0, if_pos (flush0_2 t0_0)] at h
  obtain ⟨G, X, -, ⟨Y, -, hX⟩, rfl⟩ := h
  have hX : X = lgOf (m (xLoc d)) (m (gLoc d)) := hX
  subst hX
  exact Memref.write_access_unit_zero_univ (Elt F) main_v0_0 (off := fun a => win0_2.index t0_0 a * main_v0_0.ty.shape.size a)
    (by funext a; fin_cases a <;> decide) (by intro a; fin_cases a <;> decide) G _
theorem arr_w0 (d : Dev nD) (f) (h : (rdat m d).ArrAt 5 cfg0.N f) : f = w0Of (m (xLoc d)) (m (gLoc d)) := by
  rw [show cfg0.N = t0_0.val + 1 from N_0, (rdat m d).ArrAt_succ 5 t0_0, if_pos (flush0_5 t0_0)] at h
  obtain ⟨G, X, -, ⟨Y, -, hX⟩, rfl⟩ := h
  have hX : X = w0Of (m (xLoc d)) (m (gLoc d)) := hX
  subst hX
  exact Memref.write_access_unit_zero_univ (Elt F) main_v0_3 (off := fun a => win0_5.index t0_0 a * main_v0_3.ty.shape.size a)
    (by funext a; fin_cases a <;> decide) (by intro a; fin_cases a <;> decide) G _
theorem arr_w1 (d : Dev nD) (f) (h : (rdat m d).ArrAt 6 cfg0.N f) : f = w1Of (m (xLoc d)) (m (gLoc d)) := by
  rw [show cfg0.N = t0_0.val + 1 from N_0, (rdat m d).ArrAt_succ 6 t0_0, if_pos (flush0_6 t0_0)] at h
  obtain ⟨G, X, -, ⟨Y, -, hX⟩, rfl⟩ := h
  have hX : X = w1Of (m (xLoc d)) (m (gLoc d)) := hX
  subst hX
  exact Memref.write_access_unit_zero_univ (Elt F) main_v0_4 (off := fun a => win0_6.index t0_0 a * main_v0_4.ty.shape.size a)
    (by funext a; fin_cases a <;> decide) (by intro a; fin_cases a <;> decide) G _

end Cert.Proof.Moe

end
-- ==== Proof.Obl.lean ====
/-
  The router's body meets what its call asks of it.
-/
module

public import proofs.«01_k».proof.Proof.Region

@[expose] public section

set_option maxRecDepth 16384

noncomputable section

namespace Cert.Proof.Moe

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-- The body's triple over contents that are found to be the named ones. -/
theorem router_found (c : Dev nD) (a0 : Memref sig .tc .vmem S2048x1024 .f32) (h0 : a0.IsWhole) (a1 : Memref sig .tc .vmem S1024x8 .f32) (h1 : a1.IsWhole) (a2 : Memref sig .tc .vmem S2048x8 .f32) (h2 : a2.IsWhole) (a3 : Memref sig .tc .vmem S2048x1 .i32) (h3 : a3.IsWhole) (a4 : Memref sig .tc .vmem S2048x1 .i32) (h4 : a4.IsWhole) (a5 : Memref sig .tc .vmem S2048x16 .f32) (h5 : a5.IsWhole) (a6 : Memref sig .tc .vmem S2048x16 .f32) (h6 : a6.IsWhole) (a7 : Memref sig .tc .vmem S23x1 .i32) (h7 : a7.IsWhole) (a8 : Memref sig .tc .vmem S23x1 .i32) (h8 : a8.IsWhole) (a9 : Memref sig .tc .vmem S23x1 .i32) (h9 : a9.IsWhole) (a10 : Memref sig .tc .vmem S23x1 .i32) (h10 : a10.IsWhole) (a11 : Memref sig .tc .vmem S23x1 .i32) (h11 : a11.IsWhole) (a12 : Memref sig .tc .vmem S23x1 .i32) (h12 : a12.IsWhole)
    (x : Vec F S2048x1024 .f32) (g : Vec F S1024x8 .f32) (y0 : Vec F S2048x1024 .f32) (y1 : Vec F S1024x8 .f32) (y2 : Vec F S2048x8 .f32) (y3 : Vec F S2048x1 .i32) (y4 : Vec F S2048x1 .i32) (y5 : Vec F S2048x16 .f32) (y6 : Vec F S2048x16 .f32) (y7 : Vec F S23x1 .i32) (y8 : Vec F S23x1 .i32) (y9 : Vec F S23x1 .i32) (y10 : Vec F S23x1 .i32) (y11 : Vec F S23x1 .i32) (y12 : Vec F S23x1 .i32) (hx : y0 = x) (hg : y1 = g) (R : sProp 𝕄) (O : sProp 𝕄) :
    iprop(R ∗ O ∗ owns (c : Thread nD τ) a0 fullShare y0 ∗ owns (c : Thread nD τ) a1 fullShare y1 ∗ owns (c : Thread nD τ) a2 fullShare y2 ∗ owns (c : Thread nD τ) a3 fullShare y3 ∗ owns (c : Thread nD τ) a4 fullShare y4 ∗ owns (c : Thread nD τ) a5 fullShare y5 ∗ owns (c : Thread nD τ) a6 fullShare y6 ∗ owns (c : Thread nD τ) a7 fullShare y7 ∗ owns (c : Thread nD τ) a8 fullShare y8 ∗ owns (c : Thread nD τ) a9 fullShare y9 ∗ owns (c : Thread nD τ) a10 fullShare y10 ∗ owns (c : Thread nD τ) a11 fullShare y11 ∗ owns (c : Thread nD τ) a12 fullShare y12)
      ⊢ wp frame (wpE (defs₀ (F := F)) 𝒱₀ c none) Set.univ (cc0__router_body a0 h0 a1 h1 a2 h2 a3 h3 a4 h4 a5 h5 a6 h6 a7 h7 a8 h8 a9 h9 a10 h10 a11 h11 a12 h12)
        fun _ => iprop(R ∗ O ∗ (∃ X, ⌜X = y0⌝ ∗ owns (c : Thread nD τ) a0 fullShare X) ∗ (∃ X, ⌜X = y1⌝ ∗ owns (c : Thread nD τ) a1 fullShare X) ∗ (∃ X, ⌜X = lgOf x g⌝ ∗ owns (c : Thread nD τ) a2 fullShare X) ∗ (∃ X, ⌜True⌝ ∗ owns (c : Thread nD τ) a3 fullShare X) ∗ (∃ X, ⌜True⌝ ∗ owns (c : Thread nD τ) a4 fullShare X) ∗ (∃ X, ⌜X = w0Of x g⌝ ∗ owns (c : Thread nD τ) a5 fullShare X) ∗ (∃ X, ⌜X = w1Of x g⌝ ∗ owns (c : Thread nD τ) a6 fullShare X) ∗ (∃ X, ⌜True⌝ ∗ owns (c : Thread nD τ) a7 fullShare X) ∗ (∃ X, ⌜True⌝ ∗ owns (c : Thread nD τ) a8 fullShare X) ∗ (∃ X, ⌜True⌝ ∗ owns (c : Thread nD τ) a9 fullShare X) ∗ (∃ X, ⌜True⌝ ∗ owns (c : Thread nD τ) a10 fullShare X) ∗ (∃ X, ⌜True⌝ ∗ owns (c : Thread nD τ) a11 fullShare X) ∗ (∃ X, ⌜True⌝ ∗ owns (c : Thread nD τ) a12 fullShare X)) := by
  subst hx hg
  iintro ⟨HR, HO, H0, H1, H2, H3, H4, H5, H6, H7, H8, H9, H10, H11, H12⟩
  iapply (router_body c a0 h0 a1 h1 a2 h2 a3 h3 a4 h4 a5 h5 a6 h6 a7 h7 a8 h8 a9 h9 a10 h10 a11 h11 a12 h12 y0 y1 _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  iintro ⟨H0, H1, H2, ⟨%e3, H3⟩, ⟨%e4, H4⟩, H5, H6, ⟨%e7, H7⟩, ⟨%e8, H8⟩, ⟨%e9, H9⟩, ⟨%e10, H10⟩, ⟨%e11, H11⟩, ⟨%e12, H12⟩⟩
  isplitl [HR]; · iexact HR
  isplitl [HO]; · iexact HO
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; trivial
  isplitl [H4]
  · iexists _; isplitr
    swap; · iexact H4
    ipureintro; trivial
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; trivial
  isplitl [H8]
  · iexists _; isplitr
    swap; · iexact H8
    ipureintro; trivial
  isplitl [H9]
  · iexists _; isplitr
    swap; · iexact H9
    ipureintro; trivial
  isplitl [H10]
  · iexists _; isplitr
    swap; · iexact H10
    ipureintro; trivial
  isplitl [H11]
  · iexists _; isplitr
    swap; · iexact H11
    ipureintro; trivial
  iexists _; isplitr
  swap; · iexact H12
  ipureintro; trivial

/-- The call runs the router's body on its windows. -/
theorem defs₀_router (t : Fin cfg0.N) : defs₀ (F := F) .tc cfg0.body (cfg0.bodyArgs t (cfg0.slots t)) = bodyAt0 t := by
  rfl

theorem router_obl (d : Dev nD) : (rdat m d).BodyObligation (defs₀ (F := F)) 𝒱₀ none Set.univ := fun t Y hY => by
  rw [bigSep_W0, bigSep_W0, defs₀_router]
  exact triple_restated (router_found d (st0_0 t) (hstage0_0 0) (st0_1 t) (hstage0_1 0) (st0_2 t) (hstage0_2 0) (st0_3 t) (hstage0_3 0) (st0_4 t) (hstage0_4 0) (st0_5 t) (hstage0_5 0) (st0_6 t) (hstage0_6 0) (st0_7 t) (hstage0_7 0) (st0_8 t) (hstage0_8 0) (st0_9 t) (hstage0_9 0) (st0_10 t) (hstage0_10 0) (st0_11 t) (hstage0_11 0) (st0_12 t) (hstage0_12 0) (m (xLoc d)) (m (gLoc d)) (Y 0) (Y 1) (Y 2) (Y 3) (Y 4) (Y 5) (Y 6) (Y 7) (Y 8) (Y 9) (Y 10) (Y 11) (Y 12)
    (found_x m d t _ (hY 0)) (found_g m d t _ (hY 1)) (Pipeline.scopedRest spec0 d) ((rdat m d).owesAt none t.castSucc)) rfl .rfl fun _ => .rfl

end Cert.Proof.Moe

end
-- ==== Proof.Call.lean ====
/-
  The triple of the router's call.
-/
module

public import proofs.«01_k».proof.Proof.Obl
public import Idealize.ShloMosaic.Lib.Pipeline.RegionArrays

@[expose] public section

set_option maxRecDepth 16384

noncomputable section

namespace Cert.Proof.Moe

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (st : ℕ → Ffn.St)

/-! ## The call -/

/-- The core's debts before its first call, its waits as the launch bounds them. -/
abbrev idle (d : Dev nD) : sProp 𝕄 :=
  iprop(∃ W, ⌜(K (F := F)).WBelow (T d : Thread nD τ) W (8 * SparseCore.Cfg.Blocks.fst (Q := 1) (N := 1) 0)⌝ ∗ owes (T d : Thread nD τ) ((K (F := F)).Otc d 0) W)

/-- The arrays the call passes over, one by one. -/
abbrev others (d : Dev nD) : sProp 𝕄 :=
  iprop((∃ f, (T d : Thread nD τ).loc main_v0_1 ↦{fullShare} f) ∗ (∃ f, (T d : Thread nD τ).loc main_v0_2 ↦{fullShare} f) ∗ (∃ f, (T d : Thread nD τ).loc main_v0_5 ↦{fullShare} f)
    ∗ (∃ f, (T d : Thread nD τ).loc main_v0_6 ↦{fullShare} f) ∗ (∃ f, (T d : Thread nD τ).loc main_v0_7 ↦{fullShare} f) ∗ (∃ f, (T d : Thread nD τ).loc main_v0_8 ↦{fullShare} f)
    ∗ (∃ f, (T d : Thread nD τ).loc main_v0_9 ↦{fullShare} f) ∗ (∃ f, (T d : Thread nD τ).loc main_v0_10 ↦{fullShare} f))

/-- The arrays the call works on, as launched. -/
abbrev atStart (d : Dev nD) : sProp 𝕄 :=
  bigSep Finset.univ fun w : Fin 13 => ((T d : Thread nD τ).loc (Pipeline.arrRef spec0 w)) ↦{fullShare} m ((T d : Thread nD τ).loc (Pipeline.arrRef spec0 w))

/-- The arrays after it. -/
abbrev routed (d : Dev nD) : sProp 𝕄 :=
  iprop((xLoc d ↦{fullShare} m (xLoc d)) ∗ (gLoc d ↦{fullShare} m (gLoc d)) ∗ (lLoc d ↦{fullShare} (lgOf (m (xLoc d)) (m (gLoc d)) : Buf (Elt F) (lLoc d)))
    ∗ (e0Loc d ↦{fullShare} (w0Of (m (xLoc d)) (m (gLoc d)) : Buf (Elt F) (e0Loc d))) ∗ (e1Loc d ↦{fullShare} (w1Of (m (xLoc d)) (m (gLoc d)) : Buf (Elt F) (e1Loc d)))
    ∗ others d)

theorem full (d : Dev nD) (w : Fin 13) : (rdat m d).share w = fullShare := by
  unfold Pipeline.RDat.share; split <;> rfl

theorem waits_obl (d : Dev nD) : (levAts (K (F := F)).L (K (F := F)).lev : sProp 𝕄) ⊢ Pipeline.RDat.cellsWaits (Pipeline.pin (pcfgs (F := F)) (adm m)) (rdats m st) none 0 d :=
  Pipeline.RDat.cellsWaits_intro _ _ _ _ _ fun _ _ _ => (K (F := F)).mayWait_none _ (Ffn.owed_none d)

include st

theorem enter (d : Dev nD) : iprop(idle d ∗ atStart m d) ⊢ iprop((rdat m d).arrays (rdat m d).A ∗ (rdat m d).owesAt none 0) := by
  rw [show (rdat m d).arrays (rdat m d).A = _ from Pipeline.RDat.arrays_eq (pcfgs (F := F)) (adm m) (rdats m st) 0 d arr_whole0 (full m d) (rdat m d).A]
  iintro ⟨⟨%W, %hW, HO⟩, H⟩
  isplitl [H]
  · iexact H
  iexists W; isplitr
  · ipureintro; exact fun p hp => Or.inl (hW p hp)
  iexact HO

theorem leave (d : Dev nD) : iprop((rdat m d).arraysAt cfg0.N ∗ (rdat m d).owesAt none (Fin.last cfg0.N)) ⊢ iprop(idle d ∗ routed m d) := by
  rw [show (rdat m d).arraysAt cfg0.N = _ from Pipeline.RDat.arraysAt_eq (pcfgs (F := F)) (adm m) (rdats m st) 0 d arr_whole0 (full m d) cfg0.N]
  rw [bigSep_W0]
  iintro ⟨⟨⟨%f0, %h0, H0⟩, ⟨%f1, %h1, H1⟩, ⟨%f2, %h2, H2⟩, ⟨%f3, -, H3⟩, ⟨%f4, -, H4⟩, ⟨%f5, %h5, H5⟩, ⟨%f6, %h6, H6⟩, ⟨%f7, -, H7⟩, ⟨%f8, -, H8⟩, ⟨%f9, -, H9⟩, ⟨%f10, -, H10⟩, ⟨%f11, -, H11⟩, ⟨%f12, -, H12⟩⟩, %W, %hW, HO⟩
  have h0 := arr_x m d _ h0
  have h1 := arr_g m d _ h1
  have h2 := arr_l m d _ h2
  have h5 := arr_w0 m d _ h5
  have h6 := arr_w1 m d _ h6
  subst h0 h1 h2 h5 h6
  isplitl [HO]
  · iexists W; isplitr
    · ipureintro; intro p hp
      rcases hW hp with h | ⟨w, s, h⟩
      · exact h
      · rw [h]; exact Nat.zero_le _
    iexact HO
  isplitl [H0]; · iexact H0
  isplitl [H1]; · iexact H1
  isplitl [H2]; · iexact H2
  isplitl [H5]; · iexact H5
  isplitl [H6]; · iexact H6
  isplitl [H3]; · iexists _; iexact H3
  isplitl [H4]; · iexists _; iexact H4
  isplitl [H7]; · iexists _; iexact H7
  isplitl [H8]; · iexists _; iexact H8
  isplitl [H9]; · iexists _; iexact H9
  isplitl [H10]; · iexists _; iexact H10
  isplitl [H11]; · iexists _; iexact H11
  iexists _; iexact H12

def region : Pipeline.RDat.RegionSeg (pcfgs (F := F)) (adm m) (rdats m st) none (defs₀ (F := F)) 𝒱₀ (K (F := F)).L (K (F := F)).lev 0 where
  win := winFacts0.to₀
  block_pos := block_pos0
  stage_whole := stage_whole0
  K := PEmpty
  osem k := k.elim
  ho := Pipeline.OwnSemFacts.none _
  hbody d := router_obl m d
  hwaits d := waits_obl m st d
  pre d := iprop(idle d ∗ atStart m d)
  post d := iprop(idle d ∗ routed m d)
  X _ := BI.emp
  Y _ := BI.emp
  Z _ := BI.emp
  hentry d := by
    rw [Pipeline.ownSems0_none, Pipeline.prefHeld_of_none _ rfl]
    iintro ⟨H, -, -⟩
    imodintro
    ihave H := (enter m st d) $$ H
    icases H with ⟨Ha, HO⟩
    isplitl [Ha]; · iexact Ha
    isplitr; · iempintro
    isplitl [HO]; · iexact HO
    isplitr <;> iempintro
  hin d := by
    show _ ⊢ Pipeline.scopedRest spec0 d
    iintro ⟨-, -, H⟩
    iexact H
  hout d := by
    show Pipeline.scopedRest spec0 d ⊢ iprop(BI.emp ∗ _ ∗ Pipeline.scopedRest spec0 d)
    rw [Pipeline.ownSems0_none]
    iintro H
    isplitr; · iempintro
    isplitr; · iempintro
    iexact H
  hexit d := by
    iintro ⟨Ha, HO, -, -⟩
    imodintro
    iapply (leave m st d)
    isplitl [Ha]; · iexact Ha
    iexact HO

theorem region_wp (d : Dev nD) {α : Type} (k : PUnit → Prog (TpuEff nD τ sig (Elt F) (ΛP (F := F)) .tc) α) (Q : α → sProp 𝕄) :
    iprop((iprop(boundary (T d : Thread nD τ) ∗ idle d ∗ routed m d) -∗ wp frame (wpE (D (F := F)) 𝒱 (T d : Thread nD τ) none) Set.univ (k ⟨⟩) Q)
        ∗ boundary (T d : Thread nD τ) ∗ (idle d ∗ atStart m d) ∗ levAts (K (F := F)).L (K (F := F)).lev
        ∗ Pipeline.cellsGhost (Pipeline.pin (pcfgs (F := F)) (adm m)) EP 0 d ∗ Pipeline.toksInit (Pipeline.pin (pcfgs (F := F)) (adm m)) EP 0 d)
      ⊢ wp frame (wpE (D (F := F)) 𝒱 (T d : Thread nD τ) none) Set.univ (.op (.customCall (Pipeline.entry 0) ()) k) Q :=
  Pipeline.RDat.RegionSeg.wp (pcfgs (F := F)) (adm m) (rdats m st) none (cellOf_inj _) EP (defs₀ (F := F)) 𝒱₀ (K (F := F)).L (K (F := F)).lev (region m st) d none (fun _ h => absurd h (Option.not_mem_none _)) k Q

end Cert.Proof.Moe

end
-- ==== Proof.Deal.lean ====
/-
  The weights dealt by expert, the buffers by slot.
-/
module

public import proofs.«01_k».proof.Proof.Point

@[expose] public section

set_option maxRecDepth 16384

noncomputable section

namespace Cert.Proof.Moe.Ffn

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (c : Dev nD) (W : Wts F)

/-! ## The weights dealt by expert -/

theorem set_eu0 (e : BitVec 32) (he : Exp e) : (eu0 e he).view.set = box 8 1024 2048 e.toNat 0 512 := ((View.set_reshape _ _).trans (View.set_slice_whole _ _)).trans (box_unit _)
theorem set_eu1 (e : BitVec 32) (he : Exp e) : (eu1 e he).view.set = box 8 1024 2048 e.toNat 512 512 := ((View.set_reshape _ _).trans (View.set_slice_whole _ _)).trans (box_unit _)
theorem set_eg0 (e : BitVec 32) (he : Exp e) : (eg0 e he).view.set = box 8 1024 2048 e.toNat 0 512 := ((View.set_reshape _ _).trans (View.set_slice_whole _ _)).trans (box_unit _)
theorem set_eg1 (e : BitVec 32) (he : Exp e) : (eg1 e he).view.set = box 8 1024 2048 e.toNat 512 512 := ((View.set_reshape _ _).trans (View.set_slice_whole _ _)).trans (box_unit _)
theorem set_ed0 (e : BitVec 32) (he : Exp e) : (ed0 e he).view.set = box 8 2048 1024 e.toNat 0 1024 := ((View.set_reshape _ _).trans (View.set_slice_whole _ _)).trans (box_unit _)
theorem set_ed1 (e : BitVec 32) (he : Exp e) : (ed1 e he).view.set = box 8 2048 1024 e.toNat 1024 1024 := ((View.set_reshape _ _).trans (View.set_slice_whole _ _)).trans (box_unit _)

theorem wd_val (e : Fin 8) : (wd e).toNat = e.val := congrArg Fin.val (wd_toNat e)

omit [FloatOps F] in
/-- A whole array is, expert by expert, two halves. -/
theorem deal {ℓ : Loc nD τ sig} (A B C B' C' : Fin 8 → Finset (Idx ℓ)) (hB : ∀ e, B e = B' e) (hC : ∀ e, C e = C' e) (hall : (Finset.univ : Finset (Idx ℓ)) = Finset.univ.biUnion A)
    (hd : ∀ e e', e ≠ e' → Disjoint (A e) (A e')) (hA : ∀ e, A e = B' e ∪ C' e) (hBC : ∀ e, Disjoint (B' e) (C' e)) (f : Buf (Elt F) ℓ) :
    (ℓ ↦{fullShare} f : sProp 𝕄) = bigSep Finset.univ fun e => iprop((ℓ ↦[B e]{fullShare} f) ∗ ℓ ↦[C e]{fullShare} f) := by
  obtain rfl : B = B' := funext hB
  obtain rfl : C = C' := funext hC
  show (ℓ ↦[Finset.univ]{fullShare} f : sProp 𝕄) = _
  rw [hall, pointsTo_biUnion Finset.univ A fun e _ e' _ h => hd e e' h]
  refine bigSep_congr fun e _ => ?_
  rw [hA e]
  exact Entails.antisymm (pointsTo_union (hBC e)).1 (pointsTo_union (hBC e)).2

theorem deal_up : (((c : Thread nD τ).loc main_arg3) ↦{fullShare} W.up : sProp 𝕄) = bigSep Finset.univ fun e : Fin 8 => iprop(own c (eu0 (wd e) (exp_wd e)) fullShare W.up ∗ own c (eu1 (wd e) (exp_wd e)) fullShare W.up) :=
  deal (ℓ := (c : Thread nD τ).loc main_arg3) (fun e => box 8 1024 2048 e.val 0 1024) (fun e => (eu0 (wd e) (exp_wd e)).view.set) (fun e => (eu1 (wd e) (exp_wd e)).view.set) (fun e => box 8 1024 2048 e.val 0 512) (fun e => box 8 1024 2048 e.val 512 512)
    (fun e => (set_eu0 _ _).trans (by rw [wd_val])) (fun e => (set_eu1 _ _).trans (by rw [wd_val])) (box_all 8 1024 2048)
    (fun e e' h => box_disjoint _ _ _ fun h' => h (Fin.ext h')) (fun e => box_halves 8 1024 2048 e.val 512)
    (fun e => box_halves_disjoint _ _ _ _ _) W.up
theorem deal_gp : (((c : Thread nD τ).loc main_arg4) ↦{fullShare} W.gp : sProp 𝕄) = bigSep Finset.univ fun e : Fin 8 => iprop(own c (eg0 (wd e) (exp_wd e)) fullShare W.gp ∗ own c (eg1 (wd e) (exp_wd e)) fullShare W.gp) :=
  deal (ℓ := (c : Thread nD τ).loc main_arg4) (fun e => box 8 1024 2048 e.val 0 1024) (fun e => (eg0 (wd e) (exp_wd e)).view.set) (fun e => (eg1 (wd e) (exp_wd e)).view.set) (fun e => box 8 1024 2048 e.val 0 512) (fun e => box 8 1024 2048 e.val 512 512)
    (fun e => (set_eg0 _ _).trans (by rw [wd_val])) (fun e => (set_eg1 _ _).trans (by rw [wd_val])) (box_all 8 1024 2048)
    (fun e e' h => box_disjoint _ _ _ fun h' => h (Fin.ext h')) (fun e => box_halves 8 1024 2048 e.val 512)
    (fun e => box_halves_disjoint _ _ _ _ _) W.gp
theorem deal_dn : (((c : Thread nD τ).loc main_arg5) ↦{fullShare} W.dn : sProp 𝕄) = bigSep Finset.univ fun e : Fin 8 => iprop(own c (ed0 (wd e) (exp_wd e)) fullShare W.dn ∗ own c (ed1 (wd e) (exp_wd e)) fullShare W.dn) :=
  deal (ℓ := (c : Thread nD τ).loc main_arg5) (fun e => box 8 2048 1024 e.val 0 2048) (fun e => (ed0 (wd e) (exp_wd e)).view.set) (fun e => (ed1 (wd e) (exp_wd e)).view.set) (fun e => box 8 2048 1024 e.val 0 1024) (fun e => box 8 2048 1024 e.val 1024 1024)
    (fun e => (set_ed0 _ _).trans (by rw [wd_val])) (fun e => (set_ed1 _ _).trans (by rw [wd_val])) (box_all 8 2048 1024)
    (fun e e' h => box_disjoint _ _ _ fun h' => h (Fin.ext h')) (fun e => box_halves 8 2048 1024 e.val 1024)
    (fun e => box_halves_disjoint _ _ _ _ _) W.dn

/-- The three arrays of weights, whole. -/
abbrev weights : sProp 𝕄 := iprop((((c : Thread nD τ).loc main_arg3) ↦{fullShare} W.up) ∗ (((c : Thread nD τ).loc main_arg4) ↦{fullShare} W.gp) ∗ (((c : Thread nD τ).loc main_arg5) ↦{fullShare} W.dn))

omit [FloatOps F] in
theorem regroup (A B C D E G : sProp 𝕄) : iprop((A ∗ B) ∗ (C ∗ D) ∗ E ∗ G) = iprop(A ∗ B ∗ C ∗ D ∗ E ∗ G) := by
  have h1 : iprop((A ∗ B) ∗ (C ∗ D) ∗ E ∗ G) ⊢ iprop(A ∗ B ∗ C ∗ D ∗ E ∗ G) := by
    iintro ⟨⟨H0, H1⟩, ⟨H2, H3⟩, H4, H5⟩; iframe H0 H1 H2 H3 H4 H5
  have h2 : iprop(A ∗ B ∗ C ∗ D ∗ E ∗ G) ⊢ iprop((A ∗ B) ∗ (C ∗ D) ∗ E ∗ G) := by
    iintro ⟨H0, H1, H2, H3, H4, H5⟩; iframe H0 H1 H2 H3 H4 H5
  exact Entails.antisymm h1 h2

theorem weights_store : weights c W = store c W none := by
  unfold weights store
  rw [deal_up, deal_gp, deal_dn, ← bigSep_sep', ← bigSep_sep']
  exact bigSep_congr fun e _ => regroup _ _ _ _ _ _

/-! ## The buffers dealt by slot -/

omit [FloatOps F] in
theorem whole_slots {ℓ : Loc nD τ sig} (A B A' B' : Finset (Idx ℓ)) (hA : A = A') (hB : B = B') (hall : (Finset.univ : Finset (Idx ℓ)) = A' ∪ B') (hd : Disjoint A' B') :
    (iprop(∃ f, ℓ ↦{fullShare} f) : sProp 𝕄) ⊣⊢ iprop((∃ f, ℓ ↦[A]{fullShare} f) ∗ ∃ f, ℓ ↦[B]{fullShare} f) := by
  subst hA hB
  constructor
  · iintro ⟨%f, H⟩
    ihave H := ((Entails.of_eq (show (ℓ ↦{fullShare} f : sProp 𝕄) = ℓ ↦[A ∪ B]{fullShare} f by rw [← hall])).trans (pointsTo_union hd).1) $$ H
    icases H with ⟨H0, H1⟩
    isplitl [H0]; · iexists f; iexact H0
    iexists f; iexact H1
  · classical
    iintro ⟨⟨%f, H0⟩, %g, H1⟩
    iexists (fun i => if i ∈ A then f i else g i)
    iapply (Entails.of_eq (show (ℓ ↦[A ∪ B]{fullShare} (fun i => if i ∈ A then f i else g i) : sProp 𝕄) = ℓ ↦{fullShare} (fun i => if i ∈ A then f i else g i) by rw [← hall]))
    iapply (pointsTo_union hd).2
    isplitl [H0]
    · iapply (Entails.of_eq (pointsTo_congr (fun i hi => (if_pos hi).symm))); iexact H0
    · iapply (Entails.of_eq (pointsTo_congr (fun i hi => (if_neg (fun h => Finset.disjoint_left.mp hd h hi)).symm))); iexact H1

theorem box_two (n1 n2 : ℕ) : (Finset.univ : Finset (⟨3, ![2, n1, n2]⟩ : Shape).Idx) = box 2 n1 n2 0 0 n1 ∪ box 2 n1 n2 1 0 n1 := by
  rw [box_all 2 n1 n2]; ext z; simp [Fin.exists_fin_two]

/-- The scratch buffers at any contents. -/
abbrev scratch : sProp 𝕄 := iprop((∃ f, ((c : Thread nD τ).loc cc1_scratch0) ↦{fullShare} f) ∗ (∃ f, ((c : Thread nD τ).loc cc1_scratch1) ↦{fullShare} f) ∗ ∃ f, ((c : Thread nD τ).loc cc1_scratch2) ↦{fullShare} f)

omit [FloatOps F] in
theorem weave {P0 P1 P2 A0 A1 A2 B0 B1 B2 : sProp 𝕄} (h0 : P0 ⊣⊢ iprop(A0 ∗ B0)) (h1 : P1 ⊣⊢ iprop(A1 ∗ B1)) (h2 : P2 ⊣⊢ iprop(A2 ∗ B2)) :
    iprop(P0 ∗ P1 ∗ P2) ⊣⊢ iprop((A0 ∗ A1 ∗ A2) ∗ B0 ∗ B1 ∗ B2) := by
  constructor
  · iintro ⟨H0, H1, H2⟩
    ihave H0 := h0.1 $$ H0
    ihave H1 := h1.1 $$ H1
    ihave H2 := h2.1 $$ H2
    icases H0 with ⟨A0, B0⟩
    icases H1 with ⟨A1, B1⟩
    icases H2 with ⟨A2, B2⟩
    iframe A0 A1 A2 B0 B1 B2
  · iintro ⟨⟨A0, A1, A2⟩, B0, B1, B2⟩
    isplitl [A0 B0]
    · iapply h0.2; iframe A0 B0
    isplitl [A1 B1]
    · iapply h1.2; iframe A1 B1
    iapply h2.2; iframe A2 B2

theorem sw_false : (sw false).toNat = 0 := by decide
theorem sw_true : (sw true).toNat = 1 := by decide

theorem scratch_slots : (scratch (F := F) c) ⊣⊢ iprop(slot (F := F) c (sw false) (slot_sw false) ∗ slot (F := F) c (sw true) (slot_sw true)) := by
  have hu : iprop(∃ f, ((c : Thread nD τ).loc cc1_scratch0) ↦{fullShare} f) ⊣⊢ iprop((∃ f, own (F := F) c (su (sw false).toNat (inbU _ (slot_sw false))) fullShare f) ∗ ∃ f, own (F := F) c (su (sw true).toNat (inbU _ (slot_sw true))) fullShare f) := whole_slots (F := F) (ℓ := (c : Thread nD τ).loc cc1_scratch0) (su (sw false).toNat (inbU _ (slot_sw false))).view.set (su (sw true).toNat (inbU _ (slot_sw true))).view.set (box 2 1024 2048 0 0 1024) (box 2 1024 2048 1 0 1024)
    ((set_su (sw false) (slot_sw false)).trans (congrArg (fun k => box 2 1024 2048 k 0 1024) sw_false)) ((set_su (sw true) (slot_sw true)).trans (congrArg (fun k => box 2 1024 2048 k 0 1024) sw_true)) (box_two 1024 2048) (box_disjoint 2 1024 2048 (by decide))
  have hg : iprop(∃ f, ((c : Thread nD τ).loc cc1_scratch1) ↦{fullShare} f) ⊣⊢ iprop((∃ f, own (F := F) c (sg (sw false).toNat (inbU _ (slot_sw false))) fullShare f) ∗ ∃ f, own (F := F) c (sg (sw true).toNat (inbU _ (slot_sw true))) fullShare f) := whole_slots (F := F) (ℓ := (c : Thread nD τ).loc cc1_scratch1) (sg (sw false).toNat (inbU _ (slot_sw false))).view.set (sg (sw true).toNat (inbU _ (slot_sw true))).view.set (box 2 1024 2048 0 0 1024) (box 2 1024 2048 1 0 1024)
    ((set_sg (sw false) (slot_sw false)).trans (congrArg (fun k => box 2 1024 2048 k 0 1024) sw_false)) ((set_sg (sw true) (slot_sw true)).trans (congrArg (fun k => box 2 1024 2048 k 0 1024) sw_true)) (box_two 1024 2048) (box_disjoint 2 1024 2048 (by decide))
  have hd : iprop(∃ f, ((c : Thread nD τ).loc cc1_scratch2) ↦{fullShare} f) ⊣⊢ iprop((∃ f, own (F := F) c (sd (sw false).toNat (inbD _ (slot_sw false))) fullShare f) ∗ ∃ f, own (F := F) c (sd (sw true).toNat (inbD _ (slot_sw true))) fullShare f) := whole_slots (F := F) (ℓ := (c : Thread nD τ).loc cc1_scratch2) (sd (sw false).toNat (inbD _ (slot_sw false))).view.set (sd (sw true).toNat (inbD _ (slot_sw true))).view.set (box 2 2048 1024 0 0 2048) (box 2 2048 1024 1 0 2048)
    ((set_sd (sw false) (slot_sw false)).trans (congrArg (fun k => box 2 2048 1024 k 0 2048) sw_false)) ((set_sd (sw true) (slot_sw true)).trans (congrArg (fun k => box 2 2048 1024 k 0 2048) sw_true)) (box_two 2048 1024) (box_disjoint 2 2048 1024 (by decide))
  exact weave hu hg hd

/-! ## The state at the loop's start and end -/

abbrev cells : sProp 𝕄 := iprop(rest (F := F) c (sw false) (slot_sw false) ∗ rest (F := F) c (sw true) (slot_sw true))

theorem res_start (p : St) (hh : p.h = none) (hf : p.f = none) : iprop(scratch (F := F) c ∗ cells (F := F) c ∗ weights c W) ⊢ St.res c W p := by
  obtain ⟨s, h, f⟩ := p
  subst hh hf
  rw [weights_store]
  iintro ⟨Hs, ⟨R0, R1⟩, Hw⟩
  ihave Hs := (scratch_slots c).1 $$ Hs
  icases Hs with ⟨S0, S1⟩
  unfold St.res
  cases s
  · isplitl [S0 R0]
    · unfold still
      isplitl [S0]; · iexact S0
      iexact R0
    isplitl [S1 R1]
    · unfold coming
      isplitl [S1]; · iexact S1
      iexact R1
    iexact Hw
  · isplitl [S1 R1]
    · unfold still
      isplitl [S1]; · iexact S1
      iexact R1
    isplitl [S0 R0]
    · unfold coming
      isplitl [S0]; · iexact S0
      iexact R0
    iexact Hw

theorem res_end (p : St) (hf : p.f = none) : St.res c W p ⊢ iprop(scratch (F := F) c ∗ cells (F := F) c ∗ weights c W) := by
  obtain ⟨s, h, f⟩ := p
  subst hf
  rw [weights_store]
  unfold St.res
  iintro ⟨Hs, Hc, Hw⟩
  ihave Hs := (still_free c W s h) $$ Hs
  unfold coming
  icases Hs with ⟨S0, R0⟩
  icases Hc with ⟨S1, R1⟩
  cases s
  · isplitl [S0 S1]
    · iapply (scratch_slots c).2
      isplitl [S0]; · iexact S0
      iexact S1
    isplitl [R0 R1]
    · isplitl [R0]; · iexact R0
      iexact R1
    iexact Hw
  · isplitl [S0 S1]
    · iapply (scratch_slots c).2
      isplitl [S1]; · iexact S1
      iexact S0
    isplitl [R0 R1]
    · isplitl [R1]; · iexact R1
      iexact R0
    iexact Hw

end Cert.Proof.Moe.Ffn

end
-- ==== Proof.FfnCall.lean ====
/-
  The experts' call: what it is entered from and what it leaves.
-/
module

public import proofs.«01_k».proof.Proof.Call
public import proofs.«01_k».proof.Proof.Deal

@[expose] public section

set_option maxRecDepth 16384

noncomputable section

namespace Cert.Proof.Moe

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (st : ℕ → Ffn.St)

/-! ## The experts' call -/

theorem pref_tabs (c : Dev nD) (t : Ffn.Tabs) : (Pipeline.prefHeld pre1 c (fun _ => fullShare) (Ffn.tabsC t) : sProp 𝕄) = Ffn.tabs (F := F) c t := by
  unfold Pipeline.prefHeld
  rw [bigSep_univ_eq_bigSepL [(0 : Fin 6), 1, 2, 3, 4, 5] (by decide) (by decide)]
  rfl

/-- The two cells the weights' copies are counted at. -/
def ownCells : Fin 2 → SemLoc sig := fun
  | 0 => .dma (Ffn.cellS (Ffn.sw false) (Ffn.slot_sw false))
  | 1 => .dma (Ffn.cellS (Ffn.sw true) (Ffn.slot_sw true))

theorem own_facts : Pipeline.OwnSemFacts spec1 ownCells := by decide

theorem own_cells (c : Dev nD) : (Pipeline.ownSems0 (K := Fin 2) ownCells c : sProp 𝕄) = Ffn.cells (F := F) c := by
  unfold Pipeline.ownSems0
  rw [bigSep_univ_eq_bigSepL [(0 : Fin 2), 1] (by decide) (by decide)]
  rfl

/-- The computed blocks' rows of `y` are their experts'. -/
def Good (d : Dev nD) (y : S5888x1024.Idx → Elt F .f32) : Prop :=
  ∀ u : Fin grid1.N, Ffn.word (tabsOf m).va (grid1.coords u) = 1#32 → ∀ e, (st (u.val + 1)).h = some e →
    ∀ z : S256x1024.Idx, ∀ i : S5888x1024.Idx, (i 0).val = 256 * u.val + (z 0).val → (i 1).val = (z 1).val →
      y i = Ffn.blkOf (wtsOf m d) (Ffn.xblk (m (rLoc d)) u.val) e z

/-- What the call works on, as launched, -/
abbrev ffnStart (d : Dev nD) : sProp 𝕄 :=
  iprop((rLoc d ↦{fullShare} m (rLoc d)) ∗ (yLoc d ↦{fullShare} m (yLoc d)) ∗ Ffn.tabs (F := F) d (tabsOf m) ∗ Ffn.weights d (wtsOf m d))
/-- and after it. -/
abbrev ffnDone (d : Dev nD) : sProp 𝕄 :=
  iprop((rLoc d ↦{fullShare} m (rLoc d)) ∗ (∃ y : S5888x1024.Idx → Elt F .f32, ⌜Good m st d y⌝ ∗ yLoc d ↦{fullShare} y) ∗ Ffn.tabs (F := F) d (tabsOf m) ∗ Ffn.weights d (wtsOf m d))

abbrev ffnDat (d : Dev nD) := Ffn.rdat (wtsOf m d) (tabsOf m) st (m (rLoc d)) (m (yLoc d)) d

theorem ffn_full (d : Dev nD) (w : Fin 2) : (ffnDat m st d).share w = fullShare := by
  unfold Pipeline.RDat.share; split <;> rfl

theorem ffn_waits (d : Dev nD) : (levAts (K (F := F)).L (K (F := F)).lev : sProp 𝕄) ⊢ Pipeline.RDat.cellsWaits (Pipeline.pin (pcfgs (F := F)) (adm m)) (rdats m st) none 1 d :=
  Pipeline.RDat.cellsWaits_intro _ _ _ _ _ fun _ _ _ => (K (F := F)).mayWait_none _ (Ffn.owed_none d)

theorem ffn_enter (d : Dev nD) : iprop(idle d ∗ (rLoc d ↦{fullShare} m (rLoc d)) ∗ (yLoc d ↦{fullShare} m (yLoc d))) ⊢ iprop((ffnDat m st d).arrays (ffnDat m st d).A ∗ (ffnDat m st d).owesAt none 0) := by
  rw [show (ffnDat m st d).arrays (ffnDat m st d).A = _ from Pipeline.RDat.arrays_eq (pcfgs (F := F)) (adm m) (rdats m st) 1 d arr_whole1 (ffn_full m st d) (ffnDat m st d).A]
  rw [bigSep_W1]
  iintro ⟨⟨%W, %hW, HO⟩, Hr, Hy⟩
  isplitl [Hr Hy]
  · isplitl [Hr]; · iexact Hr
    iexact Hy
  iexists W; isplitr
  · ipureintro; exact fun p hp => Or.inl (hW p hp)
  iexact HO

theorem ffn_leave (d : Dev nD) : iprop((ffnDat m st d).arraysAt 23 ∗ (ffnDat m st d).owesAt none (Fin.last grid1.N))
    ⊢ iprop(idle d ∗ (rLoc d ↦{fullShare} m (rLoc d)) ∗ ∃ y : S5888x1024.Idx → Elt F .f32, ⌜Good m st d y⌝ ∗ yLoc d ↦{fullShare} y) := by
  rw [show (ffnDat m st d).arraysAt 23 = _ from Pipeline.RDat.arraysAt_eq (pcfgs (F := F)) (adm m) (rdats m st) 1 d arr_whole1 (ffn_full m st d) 23]
  rw [bigSep_W1]
  iintro ⟨⟨⟨%f0, %h0, H0⟩, ⟨%f1, %h1, H1⟩⟩, %W, %hW, HO⟩
  have h0 : f0 = m (rLoc d) := by
    have h := h0
    rw [(ffnDat m st d).ArrAt_in 0 rfl] at h; exact h
  subst h0
  isplitl [HO]
  · iexists W; isplitr
    · ipureintro; intro p hp
      rcases hW hp with h | ⟨w, s, h⟩
      · exact h
      · rw [h]; exact Nat.zero_le _
    iexact HO
  isplitl [H0]; · iexact H0
  iexists f1; isplitr
  · ipureintro
    intro u hv e he z i hi0 hi1
    exact Ffn.arr_y _ _ _ _ _ d 23 le_rfl f1 h1 u (N_1 ▸ u.isLt) hv e he z i hi0 hi1
  iexact H1

theorem ffn_in (hS : Ffn.Sched (tabsOf m) st) (d : Dev nD) :
    iprop((Ffn.cells (F := F) d ∗ Ffn.weights d (wtsOf m d) ∗ levAts (K (F := F)).L (K (F := F)).lev) ∗ Ffn.tabs (F := F) d (tabsOf m) ∗ Pipeline.scopedRest spec1 d) ⊢ (ffnDat m st d).Φ 0 := by
  rw [scopedRest1_eq, show (ffnDat m st d).Φ 0 = iprop((Ffn.St.res d (wtsOf m d) (st 0) ∗ Ffn.tabs (F := F) d (tabsOf m)) ∗ levAts (K (F := F)).L (K (F := F)).lev ∗ Ffn.unused d) from rfl]
  iintro ⟨⟨Hc, Hw, Hl⟩, Ht, H0, H1, H2, H3, H4, H5, H6, H7, H8, H9, H10, H11, H12, S0, S1, S2⟩
  isplitl [Hc Hw S0 S1 S2 Ht]
  · isplitr [Ht]
    swap; · iexact Ht
    iapply (Ffn.res_start d (wtsOf m d) (st 0) hS.first.1 hS.first.2)
    isplitl [S0 S1 S2]
    · isplitl [S0]; · iexact S0
      isplitl [S1]; · iexact S1
      iexact S2
    isplitl [Hc]; · iexact Hc
    iexact Hw
  isplitl [Hl]; · iexact Hl
  iframe H0 H1 H2 H3 H4 H5 H6 H7 H8 H9 H10 H11 H12

theorem ffn_out (hS : Ffn.Sched (tabsOf m) st) (d : Dev nD) :
    (ffnDat m st d).Φ (Fin.last grid1.N) ⊢ iprop((Ffn.tabs (F := F) d (tabsOf m) ∗ Ffn.weights d (wtsOf m d)) ∗ Ffn.cells (F := F) d ∗ Pipeline.scopedRest spec1 d) := by
  rw [scopedRest1_eq, show (ffnDat m st d).Φ (Fin.last grid1.N) = iprop((Ffn.St.res d (wtsOf m d) (st grid1.N) ∗ Ffn.tabs (F := F) d (tabsOf m)) ∗ levAts (K (F := F)).L (K (F := F)).lev ∗ Ffn.unused d) from rfl, N_1]
  iintro ⟨⟨Hp, Ht⟩, -, H0, H1, H2, H3, H4, H5, H6, H7, H8, H9, H10, H11, H12⟩
  ihave Hp := (Ffn.res_end d (wtsOf m d) (st 23) hS.last) $$ Hp
  icases Hp with ⟨⟨S0, S1, S2⟩, Hc, Hw⟩
  isplitl [Ht Hw]
  · isplitl [Ht]; · iexact Ht
    iexact Hw
  isplitl [Hc]; · iexact Hc
  iframe H0 H1 H2 H3 H4 H5 H6 H7 H8 H9 H10 H11 H12
  isplitl [S0]; · iexact S0
  isplitl [S1]; · iexact S1
  iexact S2

def ffnRegion (hS : Ffn.Sched (tabsOf m) st) : Pipeline.RDat.RegionSeg (pcfgs (F := F)) (adm m) (rdats m st) none (defs₀ (F := F)) 𝒱₀ (K (F := F)).L (K (F := F)).lev 1 where
  win := winFacts1.to₀
  block_pos := block_pos1
  stage_whole := stage_whole1
  K := Fin 2
  osem := ownCells
  ho := own_facts
  hbody d := Ffn.point_obl _ _ _ _ _ hS d
  hwaits d := ffn_waits m st d
  pre d := iprop(idle d ∗ ffnStart m d)
  post d := iprop(idle d ∗ ffnDone m st d)
  X d := iprop(Ffn.cells (F := F) d ∗ Ffn.weights d (wtsOf m d) ∗ levAts (K (F := F)).L (K (F := F)).lev)
  Y d := iprop(Ffn.tabs (F := F) d (tabsOf m) ∗ Ffn.weights d (wtsOf m d))
  Z _ := BI.emp
  hentry d := by
    rw [own_cells, show Pipeline.prefHeld (pcfgs (F := F) 1).pre d (fun _ => fullShare) (adm m 1).1 = _ from pref_tabs d (tabsOf m)]
    iintro ⟨⟨Hi, Hr, Hy, Ht, Hw⟩, Hc, Hl⟩
    imodintro
    ihave H := (ffn_enter m st d) $$ [Hi Hr Hy]
    · isplitl [Hi]; · iexact Hi
      isplitl [Hr]; · iexact Hr
      iexact Hy
    icases H with ⟨Ha, HO⟩
    isplitl [Ha]; · iexact Ha
    isplitl [Ht]; · iexact Ht
    isplitl [HO]; · iexact HO
    isplitl [Hc Hw Hl]
    · isplitl [Hc]; · iexact Hc
      isplitl [Hw]; · iexact Hw
      iexact Hl
    iempintro
  hin d := by
    rw [show Pipeline.prefHeld (pcfgs (F := F) 1).pre d (fun _ => fullShare) (adm m 1).1 = _ from pref_tabs d (tabsOf m)]
    exact ffn_in m st hS d
  hout d := by
    rw [own_cells]
    exact ffn_out m st hS d
  hexit d := by
    iintro ⟨Ha, HO, ⟨Ht, Hw⟩, -⟩
    imodintro
    ihave H := (ffn_leave m st d) $$ [Ha HO]
    · isplitl [Ha]; · iexact Ha
      iexact HO
    icases H with ⟨Hi, Hr, Hy⟩
    isplitl [Hi]; · iexact Hi
    isplitl [Hr]; · iexact Hr
    isplitl [Hy]; · iexact Hy
    isplitl [Ht]; · iexact Ht
    iexact Hw

theorem ffn_wp (hS : Ffn.Sched (tabsOf m) st) (d : Dev nD) {α : Type} (k : PUnit → Prog (TpuEff nD τ sig (Elt F) (ΛP (F := F)) .tc) α) (Q : α → sProp 𝕄) :
    iprop((iprop(boundary (T d : Thread nD τ) ∗ idle d ∗ ffnDone m st d) -∗ wp frame (wpE (D (F := F)) 𝒱 (T d : Thread nD τ) none) Set.univ (k ⟨⟩) Q)
        ∗ boundary (T d : Thread nD τ) ∗ (idle d ∗ ffnStart m d) ∗ levAts (K (F := F)).L (K (F := F)).lev
        ∗ Pipeline.cellsGhost (Pipeline.pin (pcfgs (F := F)) (adm m)) EP 1 d ∗ Pipeline.toksInit (Pipeline.pin (pcfgs (F := F)) (adm m)) EP 1 d)
      ⊢ wp frame (wpE (D (F := F)) 𝒱 (T d : Thread nD τ) none) Set.univ (.op (.customCall (Pipeline.entry 1) ()) k) Q :=
  Pipeline.RDat.RegionSeg.wp (pcfgs (F := F)) (adm m) (rdats m st) none (cellOf_inj _) EP (defs₀ (F := F)) 𝒱₀ (K (F := F)).L (K (F := F)).lev (ffnRegion m st hS) d none (fun _ h => absurd h (Option.not_mem_none _)) k Q

end Cert.Proof.Moe

end
-- ==== Proof.Launch.lean ====
/-
  The launch: the router's call, the arrays dealt to the 32 tiles and joined again, and the program's run from any memory
  whose positions name rows: it ends, the arguments are as they were, and the two results are the named functions of them.
-/
module

public import proofs.«01_k».proof.Proof.Tile
public import proofs.«01_k».proof.Proof.FfnCall

@[expose] public section

noncomputable section

namespace Cert.Proof.Moe

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "yM" => (Memref.whole Cert.KernelIdeal.main_v1_scv : Memref Cert.KernelIdeal.sig Kind.scVector Space.hbm Cert.KernelIdeal.S5888x1024 EltTy.f32)
local notation "oM" => (Memref.whole Cert.KernelIdeal.main_v2_scv : Memref Cert.KernelIdeal.sig Kind.scVector Space.hbm Cert.KernelIdeal.S2048x1024 EltTy.f32)

variable (m : (ℓ : Loc nD τ sig) → Buf (Elt F) ℓ) (st : ℕ → Ffn.St)

/-- The rows the experts leave, wherever a block is computed. -/
def yStar (d : Dev nD) : S5888x1024.Idx → Elt F .f32 := fun i =>
  Ffn.blkOf (wtsOf m d) (Ffn.xblk (m (rLoc d)) ((i 0).val / 256)) ((st ((i 0).val / 256 + 1)).h.getD 0) (ValueIdx.ix2 ⟨(i 0).val % 256, Nat.mod_lt _ (by decide)⟩ (i 1))

/-- What the program leaves in the first result. -/
def res (d : Dev nD) : S2048x1024.Idx → Elt F .f32 :=
  outV (yStar m st d) (m (p0Loc d)) (m (p1Loc d)) (w0Of (m (xLoc d)) (m (gLoc d))) (w1Of (m (xLoc d)) (m (gLoc d)))

/-- A position names a row of a computed block. -/
def Named (w : BitVec 32) : Prop :=
  w.toNat < 5888 ∧ ∃ u : Fin grid1.N, u.val = w.toNat / 256 ∧ Ffn.word (tabsOf m).va (grid1.coords u) = 1#32 ∧ (st (u.val + 1)).h ≠ none

/-- The positions do. -/
def InRows : Prop := ∀ d : Dev nD, (∀ x : S2048.Idx, Named m st (m (p0Loc d) x)) ∧ ∀ x : S2048.Idx, Named m st (m (p1Loc d) x)

theorem good_row (d : Dev nD) (y : S5888x1024.Idx → Elt F .f32) (hy : Good m st d y) (w : BitVec 32) (hw : Named m st w) (k : Fin 1024) :
    y (ValueIdx.ix2 (rowNo w) k) = yStar m st d (ValueIdx.ix2 (rowNo w) k) := by
  obtain ⟨hlt, u, hu, hv, hh⟩ := hw
  obtain ⟨e, he⟩ := Option.ne_none_iff_exists'.mp hh
  have hr : (rowNo w).val = w.toNat := show min w.toNat 5887 = _ from by omega
  have h := hy u hv e he (ValueIdx.ix2 ⟨w.toNat % 256, Nat.mod_lt _ (by decide)⟩ k) (ValueIdx.ix2 (rowNo w) k)
    (by show (rowNo w).val = 256 * u.val + w.toNat % 256; rw [hr, hu]; omega) rfl
  rw [h]
  show _ = Ffn.blkOf (wtsOf m d) (Ffn.xblk (m (rLoc d)) ((rowNo w).val / 256)) ((st ((rowNo w).val / 256 + 1)).h.getD 0) (ValueIdx.ix2 ⟨(rowNo w).val % 256, _⟩ k)
  simp only [hr]
  rw [← hu, he]
  rfl

theorem good_out (d : Dev nD) (hr : InRows m st) (y : S5888x1024.Idx → Elt F .f32) (hy : Good m st d y) :
    outV y (m (p0Loc d)) (m (p1Loc d)) (w0Of (m (xLoc d)) (m (gLoc d))) (w1Of (m (xLoc d)) (m (gLoc d))) = res m st d := by
  funext x
  unfold res outV
  rw [good_row m st d y hy _ ((hr d).1 _) (x 1), good_row m st d y hy _ ((hr d).2 _) (x 1)]

/-! ## The split among the tiles -/

/-- A tile's share of the experts' rows. -/
abbrev yPart (d : Dev nD) (c : Fin 2) (s : Fin 16) : sProp 𝕄 :=
  iprop(∃ y : S5888x1024.Idx → Elt F .f32, ⌜Good m st d y⌝ ∗ yLoc d ↦{tq (at2 c s)} y)

/-- What a tile is handed and hands back, its rows of the result at `f`. -/
abbrev task (d : Dev nD) (f : S2048x1024.Idx → Elt F .f32) (c : Fin 2) (s : Fin 16) : sProp 𝕄 :=
  iprop(yPart m st d c s ∗ ((p0Loc d ↦{tq (at2 c s)} m (p0Loc d)) ∗ (p1Loc d ↦{tq (at2 c s)} m (p1Loc d))
      ∗ (e0Loc d ↦{tq (at2 c s)} (w0Of (m (xLoc d)) (m (gLoc d)) : Buf (Elt F) (e0Loc d))) ∗ (e1Loc d ↦{tq (at2 c s)} (w1Of (m (xLoc d)) (m (gLoc d)) : Buf (Elt F) (e1Loc d))))
    ∗ outRows d (at2 c s) 0 f ∗ outRows d (at2 c s) 1 f)

theorem share_split (ℓ : Loc nD τ sig) (f : Buf (Elt F) ℓ) :
    (ℓ ↦{fullShare} f : sProp 𝕄) = bigSep Finset.univ fun c : Fin 2 => bigSep Finset.univ fun s : Fin 16 => ℓ ↦{tq (at2 c s)} f := by
  rw [ShareLeaves.pointsTo_leaves Finset.univ f 5 fullShare, bigSep_univ_equiv ((finProdFinEquiv (m := 2) (n := 16)).trans (finCongr (by decide))), bigSep_univ_prod]
  rfl

/-- The rows of half `t.2.2` of tile `(t.1, t.2.1)`. -/
def rowsOf (t : Fin 2 × Fin 16 × Fin 2) : Finset S2048x1024.Idx := (oRect (at2 t.1 t.2.1) t.2.2).set

theorem set_eq (L : grid2.Coords) (c : Fin 2) : (oBlk L c).view.set = (oRect L c).set := by
  show ((View.whole (main_v2_scv : Ref sig .scVector)).slice (oRect L c)).set = _
  rw [View.set_slice]; exact Finset.map_refl

theorem mem_rowsOf (t : Fin 2 × Fin 16 × Fin 2) (x : S2048x1024.Idx) :
    x ∈ rowsOf t ↔ 128 * t.2.1.val + 64 * t.1.val + 32 * t.2.2.val ≤ (x 0).val ∧ (x 0).val < 128 * t.2.1.val + 64 * t.1.val + 32 * t.2.2.val + 32 := by
  have e := k2_off72_eq (at2 t.1 t.2.1) t.2.2
  have e0 : k2_off72 (at2 t.1 t.2.1) (BitVec.ofNat 32 (32 * t.2.2.val)) 0 = 128 * t.2.1.val + 64 * t.1.val + 32 * t.2.2.val := congrFun e 0
  have e1 : k2_off72 (at2 t.1 t.2.1) (BitVec.ofNat 32 (32 * t.2.2.val)) 1 = 0 := congrFun e 1
  have h1 : (x 1).val < 1024 := (x 1).isLt
  unfold rowsOf oRect
  rw [Rect.mem_set_unit, Fin.forall_fin_two, e0, e1]
  show (_ ∧ _ < _ + 32) ∧ (_ ∧ _ < _ + 1024) ↔ _
  omega

theorem rows_disjoint : ∀ t ∈ (Finset.univ : Finset (Fin 2 × Fin 16 × Fin 2)), ∀ u ∈ (Finset.univ : Finset (Fin 2 × Fin 16 × Fin 2)), t ≠ u → Disjoint (rowsOf t) (rowsOf u) := by
  rintro ⟨a, b, c⟩ _ ⟨a', b', c'⟩ _ h
  refine Finset.disjoint_left.mpr fun x hx hy => h ?_
  rw [mem_rowsOf] at hx hy
  dsimp only at hx hy
  have ha := a.isLt; have ha' := a'.isLt; have hc := c.isLt; have hc' := c'.isLt
  rw [Prod.mk.injEq, Prod.mk.injEq, Fin.ext_iff, Fin.ext_iff, Fin.ext_iff]
  omega

theorem rows_cover : (Finset.univ : Finset (Fin 2 × Fin 16 × Fin 2)).biUnion rowsOf = Finset.univ := by
  refine Finset.eq_univ_iff_forall.mpr fun x => Finset.mem_biUnion.mpr ?_
  have h0 : (x 0).val < 2048 := (x 0).isLt
  refine ⟨(⟨(x 0).val / 64 % 2, by omega⟩, ⟨(x 0).val / 128, by omega⟩, ⟨(x 0).val / 32 % 2, by omega⟩), Finset.mem_univ _, (mem_rowsOf _ _).mpr ?_⟩
  dsimp only
  omega

theorem out_split (d : Dev nD) (f : S2048x1024.Idx → Elt F .f32) :
    (oLoc d ↦{fullShare} f : sProp 𝕄) = bigSep Finset.univ fun c : Fin 2 => bigSep Finset.univ fun s : Fin 16 =>
      iprop(outRows d (at2 c s) 0 f ∗ outRows d (at2 c s) 1 f) := by
  rw [show (oLoc d ↦{fullShare} f : sProp 𝕄) = bigSep Finset.univ fun t => oLoc d ↦[rowsOf t]{fullShare} f from by
    rw [← pointsTo_biUnion Finset.univ (ℓ := oLoc d) rowsOf rows_disjoint, rows_cover]; try rfl]
  rw [bigSep_univ_prod]
  refine bigSep_congr fun c _ => ?_
  rw [bigSep_univ_prod]
  refine bigSep_congr fun s _ => ?_
  rw [bigSep_univ_two]
  unfold outRows
  rw [set_eq, set_eq]
  rfl

/-- The other arrays, whole: the four that are read, and the result at `f`. -/
abbrev whole (d : Dev nD) (f : S2048x1024.Idx → Elt F .f32) : sProp 𝕄 :=
  iprop(((p0Loc d ↦{fullShare} m (p0Loc d)) ∗ (p1Loc d ↦{fullShare} m (p1Loc d))
      ∗ (e0Loc d ↦{fullShare} (w0Of (m (xLoc d)) (m (gLoc d)) : Buf (Elt F) (e0Loc d))) ∗ (e1Loc d ↦{fullShare} (w1Of (m (xLoc d)) (m (gLoc d)) : Buf (Elt F) (e1Loc d))))
    ∗ (oLoc d ↦{fullShare} f))

theorem whole_split (d : Dev nD) (f : S2048x1024.Idx → Elt F .f32) :
    iprop((bigSep Finset.univ fun c : Fin 2 => bigSep Finset.univ fun s : Fin 16 => yPart m st d c s) ∗ whole m d f)
      = bigSep Finset.univ fun c : Fin 2 => bigSep Finset.univ fun s : Fin 16 => task m st d f c s := by
  unfold whole task
  simp only [bigSep_sep']
  rw [share_split (p0Loc d), share_split (p1Loc d), share_split (e0Loc d), share_split (e1Loc d), out_split]
  simp only [bigSep_sep']

theorem y_share (d : Dev nD) (y : S5888x1024.Idx → Elt F .f32) (hy : Good m st d y) (c : Fin 2) (s : Fin 16) :
    (yLoc d ↦{tq (at2 c s)} y : sProp 𝕄) ⊢ yPart m st d c s := by
  iintro H
  iexists y
  isplitr
  · ipureintro; exact hy
  iexact H

theorem y_split (d : Dev nD) : iprop(∃ y : S5888x1024.Idx → Elt F .f32, ⌜Good m st d y⌝ ∗ yLoc d ↦{fullShare} y)
    ⊢ bigSep Finset.univ fun c : Fin 2 => bigSep Finset.univ fun s : Fin 16 => yPart m st d c s := by
  iintro ⟨%y, %hy, H⟩
  ihave H := (Entails.of_eq (share_split (yLoc d) y)) $$ H
  have h : (bigSep Finset.univ fun c : Fin 2 => bigSep Finset.univ fun s : Fin 16 => (yLoc d ↦{tq (at2 c s)} y : sProp 𝕄))
      ⊢ bigSep Finset.univ fun c : Fin 2 => bigSep Finset.univ fun s : Fin 16 => yPart m st d c s :=
    bigSep_mono fun c _ => bigSep_mono fun s _ => y_share m st d y hy c s
  iapply h
  iexact H

def P : (K (F := F)).Pay (nD := nD) (Val := Elt F) (Name := ℕ) (U := UU) where
  st := fun q d c => match q with | 0 => bigSep Finset.univ fun s : Fin 16 => task m st d (m (oLoc d)) c s
  dn := fun q d c => match q with | 0 => bigSep Finset.univ fun s : Fin 16 => task m st d (res m st d) c s
  go := fun q d c s => match q with | 0 => task m st d (m (oLoc d)) c s
  td := fun q d c s => match q with | 0 => task m st d (res m st d) c s
  x := fun _ _ => iprop(emp)

instance P_storable : (P (F := F) m st).IsStorable where
  st q d c := match q with
    | 0 => (inferInstance : BI.Storable (upEmb : UEmb _ 𝕄) (bigSep Finset.univ fun s : Fin 16 => task m st d (m (oLoc d)) c s))
  dn q d c := match q with
    | 0 => (inferInstance : BI.Storable (upEmb : UEmb _ 𝕄) (bigSep Finset.univ fun s : Fin 16 => task m st d (res m st d) c s))
  go q d c s := match q with | 0 => (inferInstance : BI.Storable (upEmb : UEmb _ 𝕄) (task m st d (m (oLoc d)) c s))
  td q d c s := match q with | 0 => (inferInstance : BI.Storable (upEmb : UEmb _ 𝕄) (task m st d (res m st d) c s))

theorem defs₀_vector (c : Fin τ.nSC) (s : Fin τ.nSub) :
    defs₀ (F := F) (.scVector c s) 2 ()
      = SparseCore.onTile hcore2 hsub2 (fun c s => cc2_combine (at2 c s) yM (Memref.isWhole_whole _) (Memref.whole main_arg12_scv) (Memref.isWhole_whole _)
          (Memref.whole main_arg13_scv) (Memref.isWhole_whole _) (Memref.whole main_v0_3_scv) (Memref.isWhole_whole _) (Memref.whole main_v0_4_scv) (Memref.isWhole_whole _)
          oM (Memref.isWhole_whole _) (Memref.whole cc2_scratch0) (Memref.isWhole_whole _) (Memref.whole cc2_scratch1) (Memref.isWhole_whole _)
          (Memref.whole cc2_scratch2) (Memref.isWhole_whole _) (Memref.whole cc2_scratch3) (Memref.isWhole_whole _)
          (Memref.whole cc2_scratch4) (Memref.isWhole_whole _) (Memref.whole cc2_scratch5) (Memref.isWhole_whole _)
          cc2_scratch6 cc2_scoped0 cc2_scoped1 cc2_scoped2 cc2_scoped3 cc2_scoped4 cc2_scoped5 cc2_scoped6 cc2_scoped7 cc2_scoped8 cc2_scoped9) ⟨⟩ c s := rfl

/-- A task that waits only as the launch did, or on cells of no call, waits as one of call `q` may. -/
theorem waits_weaken {t : Thread nD τ} {A B : sProp 𝕄} {C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  iframe HA HB HC
  iexists W'
  iframe HO
  ipureintro; exact fun p hp => (hW' p hp).imp_right Or.inl

/-- A tile's body does its task. -/
theorem tile_task (hr : InRows m st) (d : Dev nD) (c : Fin 2) (s : Fin 16) (O : CellTallies nD τ sig (HIx 1)) (W : Waits sig (HIx 1)) (hO : ∀ g, O g none = 0) :
    iprop(levAts (K (F := F)).L (K (F := F)).lev ∗ emp ∗ task m st d (m (oLoc d)) c s ∗ scopedBufs (tV d (at2 c s)) ∗ scopedSems0 (tV d (at2 c s)) ∗ owes (tV d (at2 c s)) O W)
      ⊢ wp frame (wpE (defs₀ (F := F)) 𝒱₀ (tV d (at2 c s)) none) Set.univ
          (cc2_combine (at2 c s) yM (Memref.isWhole_whole _) (Memref.whole main_arg12_scv) (Memref.isWhole_whole _)
          (Memref.whole main_arg13_scv) (Memref.isWhole_whole _) (Memref.whole main_v0_3_scv) (Memref.isWhole_whole _) (Memref.whole main_v0_4_scv) (Memref.isWhole_whole _)
          oM (Memref.isWhole_whole _) (Memref.whole cc2_scratch0) (Memref.isWhole_whole _) (Memref.whole cc2_scratch1) (Memref.isWhole_whole _)
          (Memref.whole cc2_scratch2) (Memref.isWhole_whole _) (Memref.whole cc2_scratch3) (Memref.isWhole_whole _)
          (Memref.whole cc2_scratch4) (Memref.isWhole_whole _) (Memref.whole cc2_scratch5) (Memref.isWhole_whole _)
          cc2_scratch6 cc2_scoped0 cc2_scoped1 cc2_scoped2 cc2_scoped3 cc2_scoped4 cc2_scoped5 cc2_scoped6 cc2_scoped7 cc2_scoped8 cc2_scoped9)
          fun _ => iprop(task m st d (res m st d) c s ∗ scopedBufs (tV d (at2 c s)) ∗ scopedSems0 (tV d (at2 c s)) ∗ ∃ W', ⌜∀ p ∈ W', p ∈ W ∨ p.2 = none⌝ ∗ owes (tV d (at2 c s)) O W') := by
  iintro ⟨Hl, He, ⟨⟨%y, %hy, Hy⟩, ⟨Hp0, Hp1, He0, He1⟩, Ho0, Ho1⟩, Hb, Hs, HO⟩
  ihave Hwp := (tile_body d (at2 c s) facts y (m (p0Loc d)) (m (p1Loc d)) (w0Of (m (xLoc d)) (m (gLoc d))) (w1Of (m (xLoc d)) (m (gLoc d)))
    (fun x => ((hr d).1 x).1) (fun x => ((hr d).2 x).1) (m (oLoc d)) O W hO) $$ [Hl He Hy Hp0 Hp1 He0 He1 Ho0 Ho1 Hb Hs HO]
  · isplitl [Hl]; · iexact Hl
    isplitl [He]; · iexact He
    isplitl [Hy Hp0 Hp1 He0 He1 Ho0 Ho1]
    · isplitl [Hy Hp0 Hp1 He0 He1]
      · isplitl [Hy]; · iexact Hy
        isplitl [Hp0]; · iexact Hp0
        isplitl [Hp1]; · iexact Hp1
        isplitl [He0]; · iexact He0
        iexact He1
      isplitl [Ho0]; · iexact Ho0
      iexact Ho1
    isplitl [Hb]; · iexact Hb
    isplitl [Hs]; · iexact Hs
    iexact HO
  iapply wp_wand $$ Hwp
  rw [good_out m st d hr y hy]
  iintro %_ ⟨⟨⟨Hy, Hp0, Hp1, He0, He1⟩, Ho0, Ho1⟩, Hb, Hs, HO⟩
  isplitl [Hy Hp0 Hp1 He0 He1 Ho0 Ho1]
  · isplitl [Hy]
    · iexists y
      isplitr
      · ipureintro; exact hy
      iexact Hy
    isplitl [Hp0 Hp1 He0 He1]
    · isplitl [Hp0]; · iexact Hp0
      isplitl [Hp1]; · iexact Hp1
      isplitl [He0]; · iexact He0
      iexact He1
    isplitl [Ho0]; · iexact Ho0
    iexact Ho1
  isplitl [Hb]; · iexact Hb
  isplitl [Hs]; · iexact Hs
  iexact HO

set_option maxRecDepth 16384 in
theorem tileObl (hr : InRows m st) : (K (F := F)).TileObl (D (F := F)) 𝒱 (P m st) v₀ 0 := by
  intro d c i O W hO _ _
  simp only [show (P m st).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_task m st hr d ⟨_, hci.1⟩ ⟨_, hci.2⟩ O W hO).trans (wp_mono frame _ _ fun _ => waits_weaken)

theorem vecSplit : (K (F := F)).VecSplit' (P m st) 0 := by
  intro d c
  show (bigSep Finset.univ fun s : Fin 16 => task m st d (m (oLoc d)) c s) ⊢ |={Set.univ}=> iprop(
    (bigSep Finset.univ fun s : Fin 16 => task m st d (m (oLoc d)) c s)
      ∗ ((bigSep Finset.univ fun s : Fin 16 => task m st d (res m st d) c s) -∗ bigSep Finset.univ fun s : Fin 16 => task m st d (res m st d) c s))
  iintro H; imodintro
  iframe H
  iintro H; iexact H

/-! ## The launch element of the ghost state -/

/-- The two calls' staging cells, and the turns their staging takes. -/
def stagingU : UP := initOf (Pipeline.cells (nD := nD) (τ := τ) (Pipeline.pin (pcfgs (F := F)) (adm m)) (cellOf_inj _)) (Pipeline.launchToks (Pipeline.pin (pcfgs (F := F)) (adm m)) (cellOf_inj _))

def u₀ : UU := (initOf (K (F := F)).hsCells (K (F := F)).hsToks, (stagingU m, 1))

/-- What call `p` on device `d` starts from, -/
abbrev stageAt (p : Fin 2) (d : Dev nD) : sProp 𝕄 :=
  iprop(Pipeline.cellsGhost (Pipeline.pin (pcfgs (F := F)) (adm m)) EP p d ∗ Pipeline.toksInit (Pipeline.pin (pcfgs (F := F)) (adm m)) EP p d)
/-- and what both do. -/
abbrev staging (d : Dev nD) : sProp 𝕄 := bigSep Finset.univ fun p => stageAt m p d

/-- The staging's part of the launch element, dealt to the devices. -/
theorem staging_deal : (BI.own ((EP : Emb UP (MM F)) (stagingU m)) : sProp 𝕄) ⊢ |==> bigSep Finset.univ fun d : Dev nD => staging m d := by
  unfold stagingU
  refine (Pipeline.fund_ghost (Pipeline.pin (pcfgs (F := F)) (adm m)) EP (cellOf_inj _)).trans (BI.bupd_mono ?_)
  unfold staging stageAt
  simp only [bigSep_sep']
  exact BI.Entails.refl _

theorem EP_eq (a : UP) : (BI.own (((Emb.inl : Emb UP (UP × Counters)).trans (embR : Emb (UP × Counters) (MM F))) a) : sProp 𝕄) = BI.own ((EP : Emb UP (MM F)) a) := by
  unfold EP; rfl

theorem hu₀ : (ownU (u₀ m) : sProp 𝕄)
    ⊢ |={Set.univ}=> iprop(BI.own (EH (initOf (K (F := F)).hsCells (K (F := F)).hsToks)) ∗ (bigSep Finset.univ fun d : Dev nD => staging m d)
        ∗ bigSep Finset.univ fun thr : Thread nD τ => bigSep Finset.univ fun q : Fin 1 => (P m st).x q thr) := by
  have none' {I : Type} (s : Finset I) : (bigSep s fun _ => iprop(emp)) = (iprop(emp) : sProp 𝕄) := bigSep_emp_const s
  unfold u₀
  rw [show (bigSep Finset.univ fun thr : Thread nD τ => bigSep Finset.univ fun q : Fin 1 => (P (F := F) m st).x q thr) = bigSep Finset.univ fun _ => iprop(emp) from
    bigSep_congr fun _ _ => bigSep_univ_of_subsingleton (0 : Fin 1), none']
  iintro Hu
  ihave H := (ownU_pair (initOf (K (F := F)).hsCells (K (F := F)).hsToks) (stagingU m, (1 : Counters))) $$ Hu
  icases H with ⟨HH, HP⟩
  ihave H := (own_pair_emb embR (stagingU m) (1 : Counters)) $$ HP
  icases H with ⟨HP, -⟩
  ihave HP := (Entails.of_eq (EP_eq (F := F) _)) $$ HP
  imod (staging_deal m) $$ HP with HP
  imodintro
  iframe HH
  isplitl [HP]; · iexact HP
  iempintro

/-! ## The host program -/

/-- The arrays at launch: the router's, the experts', and the others. -/
theorem unscoped_split (d : Dev nD) : (unscopedBufs d (fun b => m ((SparseCore.T d).loc b)) : sProp 𝕄)
    ⊢ iprop(atStart m d ∗ ffnStart m d ∗ (p0Loc d ↦{fullShare} m (p0Loc d)) ∗ (p1Loc d ↦{fullShare} m (p1Loc d)) ∗ (oLoc d ↦{fullShare} m (oLoc d))) := by
  obtain rfl : d = 0 := Subsingleton.elim _ _
  unfold atStart unscopedBufs
  rw [bigSep_W0]
  rw [show (Finset.univ.filter fun b : Ref sig .tc => ¬ b.isScoped) = {main_arg0, main_arg1, main_v0_0, main_v0_1, main_v0_2, main_v0_3, main_v0_4, main_v0_5, main_v0_6, main_v0_7, main_v0_8, main_v0_9, main_v0_10, main_arg2, main_v1, main_arg6, main_arg7, main_arg8, main_arg9, main_arg10, main_arg11, main_arg3, main_arg4, main_arg5, main_arg12, main_arg13, main_v2} by decide]
  repeat rw [SparseCore.bigSep_insert' (by decide)]
  rw [bigSep_singleton]
  iintro ⟨H0, H1, H2, H3, H4, H5, H6, H7, H8, H9, H10, H11, H12, Hr, Hy, T0, T1, T2, T3, T4, T5, W0, W1, W2, Hp0, Hp1, Ho⟩
  isplitl [H0 H1 H2 H3 H4 H5 H6 H7 H8 H9 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [Hr Hy T0 T1 T2 T3 T4 T5 W0 W1 W2]
  · isplitl [Hr]; · iexact Hr
    isplitl [Hy]; · iexact Hy
    isplitl [T0 T1 T2 T3 T4 T5]
    · isplitl [T0]; · iexact T0
      isplitl [T1]; · iexact T1
      isplitl [T2]; · iexact T2
      isplitl [T3]; · iexact T3
      isplitl [T4]; · iexact T4
      iexact T5
    isplitl [W0]; · iexact W0
    isplitl [W1]; · iexact W1
    iexact W2
  isplitl [Hp0]; · iexact Hp0
  isplitl [Hp1]; · iexact Hp1
  iexact Ho

/-- The TensorCore's state before the calls is its debts and the rest of it. -/
theorem tcSt_idle (d : Dev nD) : ∃ R : sProp 𝕄, (K (F := F)).tcSt EH d 0 = iprop(idle d ∗ R) := ⟨_, rfl⟩

theorem st0_of (d : Dev nD) : iprop((∃ y : S5888x1024.Idx → Elt F .f32, ⌜Good m st d y⌝ ∗ yLoc d ↦{fullShare} y) ∗ whole m d (m (oLoc d)))
    ⊢ bigSep Finset.univ fun c : Fin ((K (F := F)).nCore 0) => (P m st).st 0 d c :=
  (sep_mono_left (y_split m st d)).trans (Entails.of_eq (whole_split m st d _))
theorem of_dn0 (d : Dev nD) : (bigSep Finset.univ fun c : Fin ((K (F := F)).nCore 0) => (P m st).dn 0 d c) ⊢ whole m d (res m st d) :=
  (Entails.of_eq (whole_split m st d _).symm).trans sep_elim_right

/-- What the program leaves in the second result. -/
def lgs (d : Dev nD) : S2048x8.Idx → Elt F .f32 := lgOf (m (xLoc d)) (m (gLoc d))

/-- The arguments. -/
def args : Finset (Ref sig .tc) := {main_arg0, main_arg1, main_arg2, main_arg3, main_arg4, main_arg5, main_arg6, main_arg7, main_arg8, main_arg9, main_arg10, main_arg11, main_arg12, main_arg13}

/-- What the program leaves. -/
abbrev FIN (d : Dev nD) : sProp 𝕄 :=
  iprop((bigSep args fun b => (SparseCore.T d).loc b ↦{fullShare} m ((SparseCore.T d).loc b)) ∗ (lLoc d ↦{fullShare} (lgs m d : Buf (Elt F) (lLoc d))) ∗ (oLoc d ↦{fullShare} (res m st d : Buf (Elt F) (oLoc d))))

/-- The arguments, put together again. -/
theorem args_join (d : Dev nD) : iprop((xLoc d ↦{fullShare} m (xLoc d)) ∗ (gLoc d ↦{fullShare} m (gLoc d)) ∗ (rLoc d ↦{fullShare} m (rLoc d)) ∗ Ffn.weights d (wtsOf m d) ∗ Ffn.tabs (F := F) d (tabsOf m)
      ∗ (p0Loc d ↦{fullShare} m (p0Loc d)) ∗ (p1Loc d ↦{fullShare} m (p1Loc d)))
    ⊢ bigSep args fun b => (SparseCore.T d).loc b ↦{fullShare} m ((SparseCore.T d).loc b) := by
  obtain rfl : d = 0 := Subsingleton.elim _ _
  unfold args
  repeat rw [SparseCore.bigSep_insert' (by decide)]
  rw [bigSep_singleton]
  iintro ⟨Hx, Hg, Hr, ⟨W0, W1, W2⟩, ⟨T0, T1, T2, T3, T4, T5⟩, Hp0, Hp1⟩
  isplitl [Hx]; · iexact Hx
  isplitl [Hg]; · iexact Hg
  isplitl [Hr]; · iexact Hr
  isplitl [W0]; · iexact W0
  isplitl [W1]; · iexact W1
  isplitl [W2]; · iexact W2
  isplitl [T0]; · iexact T0
  isplitl [T1]; · iexact T1
  isplitl [T2]; · iexact T2
  isplitl [T3]; · iexact T3
  isplitl [T4]; · iexact T4
  isplitl [T5]; · iexact T5
  isplitl [Hp0]; · iexact Hp0
  iexact Hp1

variable (ρ : Dev nD → PrngReg)

theorem hmain (hS : Ffn.Sched (tabsOf m) st) (κ : GSem nD τ sig → ℕ) (d : Dev nD) :
    iprop((K (F := F)).ctx EH (P m st) κ ∗ (K (F := F)).tcSt EH d 0 ∗ (K (F := F)).tcRes m ρ d ∗ staging m d)
      ⊢ wp frame (wpE ((K (F := F)).defs (D (F := F))) 𝒱 (SparseCore.T d) none) Set.univ (main d)
          fun _ => iprop((K (F := F)).tcSt EH d 1 ∗ FIN m st d ∗ (K (F := F)).tcEnd d) := by
  obtain ⟨R, hR⟩ := tcSt_idle (F := F) d
  unfold SparseCore.Cfg.tcRes SparseCore.Cfg.tcEnd staging
  rw [bigSep_univ_two]
  simp only [main, wp_bind, wp_pure]
  iintro ⟨#Hctx, Hst, ⟨Hb, Hbufs, Hts, -⟩, ⟨Hg, Ht⟩, ⟨Hg', Ht'⟩⟩
  ihave Hst := (Entails.of_eq hR) $$ Hst
  icases Hst with ⟨Hi, HR⟩
  ihave H := (unscoped_split m d) $$ Hbufs
  icases H with ⟨Ha, Hf, Hp0, Hp1, Ho⟩
  iapply ((K (F := F)).wp_liftProg (D (F := F)) 𝒱 (SparseCore.T d) Set.univ none (Prog.lift (.customCall (Pipeline.entry 0) ())) _)
  iapply (region_wp m st d Prog.ret _)
  isplitr [Hb Hi Ha Hg Ht]
  swap
  · isplitl [Hb]; · iexact Hb
    isplitl [Hi Ha]
    · isplitl [Hi]; · iexact Hi
      iexact Ha
    isplitr
    · iapply ((K (F := F)).ctx_levAts κ); iexact Hctx
    isplitl [Hg]; · iexact Hg
    iexact Ht
  iintro ⟨Hb, Hi, Hx, Hgt, Hl, He0, He1, -⟩
  rw [wp_ret]; imodintro
  iapply ((K (F := F)).wp_liftProg (D (F := F)) 𝒱 (SparseCore.T d) Set.univ none (Prog.lift (.customCall (Pipeline.entry 1) ())) _)
  iapply (ffn_wp m st hS d Prog.ret _)
  isplitr [Hb Hi Hf Hg' Ht']
  swap
  · isplitl [Hb]; · iexact Hb
    isplitl [Hi Hf]
    · isplitl [Hi]; · iexact Hi
      iexact Hf
    isplitr
    · iapply ((K (F := F)).ctx_levAts κ); iexact Hctx
    isplitl [Hg']; · iexact Hg'
    iexact Ht'
  iintro ⟨Hb, Hi, Hr, Hy, HT, HW⟩
  rw [wp_ret]; imodintro
  ihave Hst := (Entails.of_eq hR.symm) $$ [Hi HR]
  · isplitl [Hi]; · iexact Hi
    iexact HR
  iapply ((K (F := F)).wp_run (D (F := F)) 𝒱 (EH := EH) (P := P m st) κ d 0) $$ [Hst Hy Hp0 Hp1 He0 He1 Ho Hb Hts Hx Hgt Hl Hr HT HW]
  isplitr; · iexact Hctx
  isplitl [Hst]; · iexact Hst
  isplitl [Hy Hp0 Hp1 He0 He1 Ho]
  · iapply (st0_of m st d)
    isplitl [Hy]; · iexact Hy
    isplitr [Ho]
    · isplitl [Hp0]; · iexact Hp0
      isplitl [Hp1]; · iexact Hp1
      isplitl [He0]; · iexact He0
      iexact He1
    iexact Ho
  iintro ⟨Hst, Hdn⟩
  ihave H := (of_dn0 m st d) $$ Hdn
  icases H with ⟨⟨Hp0, Hp1, -, -⟩, Ho⟩
  imodintro
  iframe Hst Hb Hts
  isplitl [Hx Hgt Hr HW HT Hp0 Hp1]
  · iapply (args_join m d)
    isplitl [Hx]; · iexact Hx
    isplitl [Hgt]; · iexact Hgt
    isplitl [Hr]; · iexact Hr
    isplitl [HW]; · iexact HW
    isplitl [HT]; · iexact HT
    isplitl [Hp0]; · iexact Hp0
    iexact Hp1
  isplitl [Hl]; · iexact Hl
  iexact Ho

/-- What a finished run shows of device `d`'s arrays. -/
def fq (d : Dev nD) (s' : Phys nD τ sig (Elt F)) : Prop :=
  (∀ b ∈ args, s'.mem.mem ((SparseCore.T d).loc b) = m ((SparseCore.T d).loc b)) ∧ s'.mem.mem (lLoc d) = lgs m d ∧ s'.mem.mem (oLoc d) = res m st d

/-- An array held whole is what memory shows; the memory's fact stays in hand. -/
theorem shows (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  iframe HSI
  ipureintro; exact funext fun i => h i (Finset.mem_univ i)

/-- So are several. -/
theorem shows_all (s' : Phys nD τ sig (Elt F)) (d : Dev nD) (A : Finset (Ref sig .tc)) :
    iprop((bigSep A fun b => (SparseCore.T d).loc b ↦{fullShare} m ((SparseCore.T d).loc b)) ∗ SI s')
      ⊢ (iprop(⌜∀ b ∈ A, s'.mem.mem ((SparseCore.T d).loc b) = m ((SparseCore.T d).loc b)⌝ ∗ SI s') : sProp 𝕄) := by
  classical
  induction A using Finset.induction_on with
  | empty =>
    iintro ⟨-, HSI⟩
    iframe HSI
    ipureintro; intro b hb; exact absurd hb (Finset.notMem_empty b)
  | insert a A ha ih =>
    rw [SparseCore.bigSep_insert' ha]
    iintro ⟨⟨H, HA⟩, HSI⟩
    ihave H := (shows s' ((SparseCore.T d).loc a) _) $$ [HSI H]
    · iframe H HSI
    icases H with ⟨%h, HSI⟩
    ihave H := ih $$ [HSI HA]
    · iframe HA HSI
    icases H with ⟨%hA, HSI⟩
    iframe HSI
    ipureintro; intro b hb
    rcases Finset.mem_insert.mp hb with rfl | hb
    · exact h
    · exact hA b hb

theorem hfin (d : Dev nD) (s' : Phys nD τ sig (Elt F)) : iprop(FIN m st d ∗ SI s') ⊢ (⌜fq m st d s'⌝ : sProp 𝕄) := by
  iintro ⟨⟨HA, Hl, Ho⟩, HSI⟩
  ihave H := (shows_all m s' d args) $$ [HSI HA]
  · iframe HA HSI
  icases H with ⟨%ha, HSI⟩
  ihave H := (shows s' (lLoc d) (lgs m d)) $$ [HSI Hl]
  · iframe Hl HSI
  icases H with ⟨%hl, HSI⟩
  ihave H := (shows s' (oLoc d) (res m st d)) $$ [HSI Ho]
  · iframe Ho HSI
  icases H with ⟨%ho, HSI⟩
  ipureintro; exact ⟨ha, hl, ho⟩

/-- The program's run: on every device the two results are the named functions of the arguments, these are as they were, and the counters are back at zero. -/
def QC : PUnit × MemSt nD τ sig (Elt F) → Prop := fun r =>
  (∀ d : Dev nD, (∀ b ∈ args, r.2.mem ((SparseCore.T d).loc b) = m ((SparseCore.T d).loc b)) ∧ r.2.mem (lLoc d) = lgs m d ∧ r.2.mem (oLoc d) = res m st d) ∧ r.2.sem = fun _ => 0

theorem run_main [∀ e, Nonempty (Elt F e)] (hS : Ffn.Sched (tabsOf m) st) (hr : InRows m st) :
    θ_run (Cert.KernelIdeal.defs (F := F)) (Cert.KernelIdeal.threads (F := F)) ⟨m, fun _ => 0, ρ⟩ (QC m st) :=
  SparseCore.Cfg.θ_run_sc_quiescent (K := K (F := F)) (D := D (F := F)) (𝒱 := 𝒱) (EH := EH) (P := P m st) (A := ∅) facts v₀
    (fun q hq => match q with | 0 => nomatch hq)
    (fun q _ => match q with | 0 => tileObl m st hr)
    (fun q _ => match q with | 0 => SparseCore.Cfg.VecSplit.of_plain (vecSplit m st))
    m ρ main (fun d => staging m d) (FIN m st) (u₀ m) (sep_elim_left.trans (hu₀ m st)) (hmain m st ρ hS) (fq m st) (hfin m st) (QC m st) (fun _ h hz => ⟨h, hz⟩)

end Cert.Proof.Moe

end
-- ==== Proof.TopTwo.lean ====
/-
  The two largest of eight extended reals: by a sort, and by a maximum, its place struck out, and a maximum again.
-/
module

public import Idealize.ShloMosaic.PureOps.Ideal
public import Idealize.ShloMosaic.PureOps.Ideal.Laws
public import Idealize.ShloMosaic.PureOps.Reduce
public import Idealize.ShloMosaic.Lib.SortFacts

@[expose] public section

noncomputable section

namespace Cert.Proof.Moe

open Idealize.ShloMosaic

/-- The largest of eight, from below all. -/
abbrev top8 (f : Fin 8 → EReal) : EReal := (Finset.univ : Finset (Fin 8)).fold max ⊥ f

theorem le_top8 (f : Fin 8 → EReal) (e : Fin 8) : f e ≤ top8 f :=
  (Finset.le_fold_max (f e)).mpr (.inr ⟨e, Finset.mem_univ e, le_rfl⟩)

theorem top8_le {f : Fin 8 → EReal} {c : EReal} (h : ∀ e, f e ≤ c) : top8 f ≤ c :=
  (Finset.fold_max_le c).mpr ⟨bot_le, fun e _ => h e⟩

theorem top8_eq {f : Fin 8 → EReal} {a : Fin 8} (h : ∀ e, f e ≤ f a) : top8 f = f a :=
  le_antisymm (top8_le h) (le_top8 f a)

/-- The place of the largest is one of the eight. -/
theorem top8_mem (f : Fin 8 → EReal) : ∃ a, f a = top8 f := by
  obtain ⟨a, ha⟩ := Finite.exists_max f
  exact ⟨a, (top8_eq ha).symm⟩

/-- Of eight values not below zero, listed largest first by `σ`, with one of the largest struck out by a value below them, the largest is the second listed. -/
theorem second_of_eight {f : Fin 8 → EReal} (h0 : ∀ e, 0 ≤ f e) {σ : Fin 8 → Fin 8} (hs : Function.Surjective σ)
    (hd : ∀ i j, i < j → f (σ j) ≤ f (σ i)) {a : Fin 8} (ha : f a = top8 f) {c : EReal} (hc : c ≤ 0) :
    top8 (fun e => if e = a then c else f e) = f (σ 1) := by
  obtain ⟨k, rfl⟩ := hs a
  have hi : Function.Injective σ := Finite.injective_iff_surjective.mpr hs
  refine le_antisymm (top8_le fun e => ?_) ?_
  · obtain ⟨l, rfl⟩ := hs e
    split
    · exact hc.trans (h0 _)
    · rename_i hne
      rcases Nat.lt_or_ge l.val 1 with hl | hl
      · have el : l = 0 := Fin.ext (by show l.val = 0; omega)
        subst el
        have hk : (0 : Fin 8) < k := by
          refine Nat.pos_of_ne_zero fun h => hne ?_
          exact congrArg σ (Fin.ext h).symm
        refine ((le_top8 f _).trans ha.symm.le).trans ?_
        rcases eq_or_lt_of_le (show (1 : Fin 8) ≤ k from hk) with rfl | h
        · exact le_rfl
        · exact hd _ _ h
      · rcases eq_or_lt_of_le (show (1 : Fin 8) ≤ l from hl) with rfl | h
        · exact le_rfl
        · exact hd _ _ h
  · by_cases hk : k = 1
    · subst hk
      refine (hd 0 1 (by decide)).trans ?_
      refine le_trans ?_ (le_top8 _ (σ 0))
      rw [if_neg (fun h => absurd (hi h) (by decide))]
    · refine le_trans ?_ (le_top8 _ (σ 1))
      rw [if_neg (fun h => hk (hi h).symm)]

/-- The first listed is the largest. -/
theorem first_of_eight {f : Fin 8 → EReal} {σ : Fin 8 → Fin 8} (hs : Function.Surjective σ)
    (hd : ∀ i j, i < j → f (σ j) ≤ f (σ i)) : top8 f = f (σ 0) := by
  refine top8_eq fun e => ?_
  obtain ⟨l, rfl⟩ := hs e
  rcases eq_or_lt_of_le (Fin.zero_le l) with rfl | h
  · exact le_rfl
  · exact hd _ _ h

/-- The host's sort of eight extended reals, greater first, lists them largest first. -/
theorem sorted_eight (f : Fin 8 → EReal) (i j : Fin 8) (h : i < j) :
    f (sortedFrom (fun k k' => Ideal.cmp .ogt (f k) (f k') == 1#1) j) ≤ f (sortedFrom (fun k k' => Ideal.cmp .ogt (f k) (f k') == 1#1) i) := by
  have e (x y : EReal) : (Ideal.cmp .ogt x y == 1#1) = decide (y < x) := by
    by_cases h : y < x <;> simp [Ideal.cmp, h]
  have hn := sortedFrom_noInversion (n := 8) (fun k k' => Ideal.cmp .ogt (f k) (f k') == 1#1) (fun k k' => Ideal.cmp .ogt (f k) (f k') == 1#1)
    (fun a b => by simp only [e, decide_eq_true_eq, decide_eq_false_iff_not, not_lt]; exact le_of_lt)
    (fun a b h => h)
    (fun a b c => by simp only [e, decide_eq_false_iff_not, not_lt]; exact fun h1 h2 => h1.trans h2) i j h
  simpa only [e, decide_eq_false_iff_not, not_lt] using hn

/-- The least of signed words is the first or one of them, and not above any of them. -/
theorem least_word (s : Finset (Fin 8)) (b : BitVec 32) (v : Fin 8 → BitVec 32) :
    (s.fold IntOp.minsi b v = b ∨ ∃ e, s.fold IntOp.minsi b v = v e)
      ∧ ∀ e ∈ s, (s.fold IntOp.minsi b v).toInt ≤ (v e).toInt := by
  have mn (x y : BitVec 32) : (IntOp.minsi x y = x ∧ x.toInt ≤ y.toInt) ∨ (IntOp.minsi x y = y ∧ y.toInt ≤ x.toInt) := by
    unfold IntOp.minsi
    split
    · rename_i h
      simp only [BitVec.sle_eq_decide, BitVec.slt_eq_decide, decide_eq_true_eq] at h
      exact .inl ⟨rfl, by omega⟩
    · rename_i h
      simp only [BitVec.sle_eq_decide, BitVec.slt_eq_decide, decide_eq_true_eq] at h
      exact .inr ⟨rfl, by omega⟩
  induction s using Finset.induction_on with
  | empty => exact ⟨.inl rfl, fun e h => absurd h (Finset.notMem_empty e)⟩
  | insert a s ha ih =>
    rw [Finset.fold_insert ha]
    rcases mn (v a) (s.fold IntOp.minsi b v) with ⟨h1, h2⟩ | ⟨h1, h2⟩
    · rw [h1]
      refine ⟨.inr ⟨a, rfl⟩, fun e he => ?_⟩
      rcases Finset.mem_insert.mp he with rfl | he
      · exact le_rfl
      · exact h2.trans (ih.2 e he)
    · rw [h1]
      refine ⟨ih.1, fun e he => ?_⟩
      rcases Finset.mem_insert.mp he with rfl | he
      · exact h2
      · exact ih.2 e he

/-- The least place, of eight, at which the largest value stands: 8 stands where it does not, and the largest word beside them all. -/
theorem least_place (f : Fin 8 → EReal) (v : Fin 8 → BitVec 32) (hv : ∀ e, v e = if f e = top8 f then BitVec.ofNat 32 e.val else 8#32) :
    ∃ a : Fin 8, (Finset.univ : Finset (Fin 8)).fold IntOp.minsi 2147483647#32 v = BitVec.ofNat 32 a.val ∧ f a = top8 f := by
  obtain ⟨b, hb⟩ := top8_mem f
  obtain ⟨hm, hl⟩ := least_word Finset.univ 2147483647#32 v
  have h7 : ((Finset.univ : Finset (Fin 8)).fold IntOp.minsi 2147483647#32 v).toInt ≤ 7 := by
    refine (hl b (Finset.mem_univ b)).trans ?_
    rw [hv b, if_pos hb]
    exact (show ∀ b : Fin 8, (BitVec.ofNat 32 b.val).toInt ≤ 7 by decide) b
  rcases hm with h | ⟨a, h⟩
  · rw [h] at h7; exact absurd h7 (by decide)
  · rw [h, hv a] at h7
    by_cases ha : f a = top8 f
    · exact ⟨a, by rw [h, hv a, if_pos ha], ha⟩
    · rw [if_neg ha] at h7; exact absurd h7 (by decide)

/-! ## The shares -/

theorem exp_nonneg (x : EReal) : 0 ≤ Ideal.exp x := by
  induction x with
  | bot => exact le_rfl
  | top => exact le_top
  | coe r => exact EReal.coe_nonneg.mpr (Real.exp_pos r).le

/-- Over the bottom everything is nothing. -/
theorem div_bot (x : EReal) : Ideal.div x ⊥ = 0 := by
  rw [Ideal.div, if_neg (by decide), EReal.inv_bot, mul_zero]

/-- Values not below zero, each over their sum, are all not below zero or all the bottom. -/
theorem shares (g : Fin 8 → EReal) (h : ∀ e, 0 ≤ g e) :
    (∀ e, 0 ≤ Ideal.div (g e) (∑ k, g k)) ∨ ∀ e, Ideal.div (g e) (∑ k, g k) = ⊥ := by
  have hs : 0 ≤ ∑ k, g k := Finset.sum_nonneg fun e _ => h e
  by_cases h0 : ∑ k, g k = 0
  · refine .inr fun e => ?_
    have he : g e = 0 := (Finset.sum_eq_zero_iff_of_nonneg fun e _ => h e).mp h0 e (Finset.mem_univ e)
    rw [Ideal.div, if_pos h0, he, if_neg (lt_irrefl _)]
  · refine .inl fun e => ?_
    rw [Ideal.div, if_neg h0]
    exact mul_nonneg (h e) (EReal.inv_nonneg_of_nonneg hs)

/-- The two largest of eight shares, each over the two's sum: by a maximum, a place of it struck out by a value not above zero, and a maximum again;
    or by a sort. -/
theorem two_shares {f : Fin 8 → EReal} (hf : (∀ e, 0 ≤ f e) ∨ ∀ e, f e = ⊥) {σ : Fin 8 → Fin 8} (hs : Function.Surjective σ)
    (hd : ∀ i j, i < j → f (σ j) ≤ f (σ i)) {a : Fin 8} (ha : f a = top8 f) {c : EReal} (hc : c ≤ 0) :
    Ideal.div (top8 f) (top8 f + top8 fun e => if e = a then c else f e) = Ideal.div (f (σ 0)) (f (σ 0) + f (σ 1))
      ∧ Ideal.div (top8 fun e => if e = a then c else f e) (top8 f + top8 fun e => if e = a then c else f e) = Ideal.div (f (σ 1)) (f (σ 0) + f (σ 1)) := by
  have h1 := first_of_eight hs hd
  rcases hf with h0 | hb
  · rw [second_of_eight h0 hs hd ha hc, h1]; exact ⟨rfl, rfl⟩
  · rw [h1, hb (σ 0), EReal.bot_add, EReal.bot_add, div_bot, div_bot, div_bot]; exact ⟨rfl, rfl⟩

end Cert.Proof.Moe

end
-- ==== Proof.Weights.lean ====
/-
  At the extended reals, the router's logits and routing weights are the reference's.
-/
module

public import proofs.«01_k».proof.Proof.TopTwo
public import proofs.«01_k».proof.Proof.Router
public import proofs.«01_k».proof.Proof.Gen.ReferenceIdeal.Run
public import Idealize.ShloMosaic.Lib.Pointwise

@[expose] public section

noncomputable section

namespace Cert.Proof.Moe

open Cert.ReferenceIdeal Cert.ReferenceIdeal.Gen
open Cert.KernelIdeal.Gen (k0_pay5 k0_pay6 k0_pay7 k0_pay8 k0_pay9 k0_pay10 k0_pay12 k0_pay13 k0_pay14 k0_pay15)
open Idealize.ShloMosaic

variable (x : FVec Ideal S2048x1024 .f32) (g : FVec Ideal S1024x8 .f32)

/-! ## The reference's terms -/

/-- The logits, -/
def rLogits : FVec Ideal S2048x8 .f32 := Host.dotGeneral dot_S2048x1024_S1024x8_S2048x8_1_0_0_1_n_n none x g

/-- of logits, their differences from the row's largest, raised, -/
def rRaised (l : FVec Ideal S2048x8 .f32) : FVec Ideal S2048x8 .f32 :=
  Host.exp (subf l (broadcastInDim S2048x8 ![0, 1] bcast_S2048x1_S2048x8_0_1 (broadcastInDim S2048x1 ![0] bcast_S2048_S2048x1_0
    (maximumf (broadcastInDim S2048 ![] bcast_S_S2048 (constant S_ .f32 0xFF800000#32)) (Host.reduce FloatOps.maximumf l (constant S_ .f32 0xFF800000#32) reducesTo_S2048x8_S2048_d1 h_S_)))))

/-- each over the row's sum, -/
def rSoft (l : FVec Ideal S2048x8 .f32) : FVec Ideal S2048x8 .f32 :=
  Host.divf (rRaised l) (broadcastInDim S2048x8 ![0, 1] bcast_S2048x1_S2048x8_0_1 (broadcastInDim S2048x1 ![0] bcast_S2048_S2048x1_0
    (Host.reduceAdd (rRaised l) (constant S_ .f32 0x00000000#32) reducesTo_S2048x8_S2048_d1 h_S_)))

/-- the row's two largest, -/
def rTop (s : FVec Ideal S2048x8 .f32) : FVec Ideal S2048x2 .f32 :=
  (Host.topK S2048x2 1 (FloatOps.cmpfTotal .gt) s sliceFits_S2048x8_S2048x2).1

/-- and each of them over the two's sum. -/
def rShares (t : FVec Ideal S2048x2 .f32) : FVec Ideal S2048x2 .f32 :=
  Host.divf t (broadcastInDim S2048x2 ![0, 1] bcast_S2048x1_S2048x2_0_1 (broadcastInDim S2048x1 ![0] bcast_S2048_S2048x1_0
    (Host.reduceAdd t (constant S_ .f32 0x00000000#32) reducesTo_S2048x2_S2048_d1 h_S_)))

/-! ## Read at an index -/

theorem logits_eq : k0_pay5 (F := Ideal) x g = rLogits x g := by
  funext j
  unfold rLogits
  pointwise [k0_pay5]

theorem neg_inf : Ideal.ofBits .f32 0xFF800000#32 = ⊥ := by
  simp [Ideal.ofBits, Ideal.ieee]

theorem neg_one : Ideal.ofBits .f32 0xBF800000#32 ≤ 0 := by
  simp [Ideal.ofBits, Ideal.ieee]
  rw [← EReal.coe_mul]
  exact EReal.coe_nonneg.mpr (by positivity)

theorem rRaised_apply (l : FVec Ideal S2048x8 .f32) (r : Fin 2048) (e : Fin 8) :
    rRaised l (ix2 r e) = Ideal.exp (l (ix2 r e) - top8 fun k => l (ix2 r k)) := by
  unfold rRaised
  pointwise
  rw [neg_inf, bot_sup_eq]

theorem rSoft_apply (l : FVec Ideal S2048x8 .f32) (r : Fin 2048) (e : Fin 8) :
    rSoft l (ix2 r e) = Ideal.div (rRaised l (ix2 r e)) (∑ k, rRaised l (ix2 r k)) := by
  unfold rSoft
  pointwise

theorem rShares_apply (t : FVec Ideal S2048x2 .f32) (r : Fin 2048) (e : Fin 2) :
    rShares t (ix2 r e) = Ideal.div (t (ix2 r e)) (t (ix2 r 0) + t (ix2 r 1)) := by
  unfold rShares
  pointwise
  rw [Fin.sum_univ_two]

/-- The shares of one row of logits, the kernel's and the reference's. -/
theorem soft_eq : k0_pay6 (F := Ideal) x g = rSoft (rLogits x g) := by
  funext j
  obtain ⟨r, e, rfl⟩ : ∃ r e, j = ix2 r e := ⟨j 0, j 1, funext fun a => match a with | ⟨0, _⟩ => rfl | ⟨1, _⟩ => rfl⟩
  rw [rSoft_apply]
  simp only [rRaised_apply]
  unfold k0_pay6
  pointwise
  rw [neg_inf, logits_eq]

/-- One row's shares. -/
abbrev shareRow (r : Fin 2048) : Fin 8 → EReal := fun e => k0_pay6 (F := Ideal) x g (ix2 r e)

theorem shareRow_sign (r : Fin 2048) : (∀ e, 0 ≤ shareRow x g r e) ∨ ∀ e, shareRow x g r e = ⊥ := by
  have h (e) : shareRow x g r e = Ideal.div (rRaised (rLogits x g) (ix2 r e)) (∑ k, rRaised (rLogits x g) (ix2 r k)) := by
    rw [← rSoft_apply, ← soft_eq]
  simp only [h]
  refine shares (fun e => rRaised (rLogits x g) (ix2 r e)) fun e => ?_
  rw [rRaised_apply]
  exact exp_nonneg _

theorem first_apply (r : Fin 2048) : k0_pay7 (F := Ideal) x g (ix2 r 0) = top8 (shareRow x g r) := by
  unfold k0_pay7
  pointwise
  rw [neg_inf]

/-- The place the kernel strikes out is one of the largest's. -/
theorem place_apply (r : Fin 2048) : ∃ a : Fin 8, (k0_pay8 (F := Ideal) x g (ix2 r 0) : BitVec 32) = BitVec.ofNat 32 a.val ∧ shareRow x g r a = top8 (shareRow x g r) := by
  obtain ⟨a, h, ha⟩ := least_place (shareRow x g r) _ fun _ => rfl
  refine ⟨a, Eq.trans ?_ h, ha⟩
  unfold k0_pay8
  pointwise
  rw [first_apply]

theorem struck_apply (r : Fin 2048) {a : Fin 8} (ha : (k0_pay8 (F := Ideal) x g (ix2 r 0) : BitVec 32) = BitVec.ofNat 32 a.val) (e : Fin 8) :
    k0_pay9 (F := Ideal) x g (ix2 r e) = if e = a then Ideal.ofBits .f32 0xBF800000#32 else shareRow x g r e := by
  have h : ∀ e a : Fin 8, IntOp.cmpi .eq (BitVec.ofNat 32 e.val) (BitVec.ofNat 32 a.val) = if e = a then 1#1 else 0#1 := by decide
  unfold k0_pay9
  pointwise
  rw [ha, h]
  split <;> rfl

theorem second_apply (r : Fin 2048) {a : Fin 8} (ha : (k0_pay8 (F := Ideal) x g (ix2 r 0) : BitVec 32) = BitVec.ofNat 32 a.val) :
    k0_pay10 (F := Ideal) x g (ix2 r 0) = top8 fun e => if e = a then Ideal.ofBits .f32 0xBF800000#32 else shareRow x g r e := by
  unfold k0_pay10
  pointwise
  rw [neg_inf]
  simp only [struck_apply x g r ha]

/-- The order in which the host's sort lists a row. -/
abbrev listed (f : Fin 8 → EReal) : Fin 8 → Fin 8 := sortedFrom fun k k' => Ideal.cmp .ogt (f k) (f k') == 1#1

theorem along_one (r : Fin 2048) (e k : Fin 8) : Shape.Idx.along (s := S2048x8) (ix2 r e) 1 k = ix2 r k :=
  funext fun a => match a with | ⟨0, _⟩ => rfl | ⟨1, _⟩ => rfl

theorem rTop_apply (s : FVec Ideal S2048x8 .f32) (r : Fin 2048) (e : Fin 2) :
    rTop s (ix2 r e) = s (ix2 r (listed (fun k => s (ix2 r k)) ⟨e.val, by omega⟩)) := by
  unfold rTop Host.topK Host.sort2
  pointwise
  simp only [along_one]
  rfl

/-- The router's weights are the reference's. -/
theorem weights_row (r : Fin 2048) (l : Fin 16) :
    k0_pay13 (F := Ideal) x g (ix2 r l) = rShares (rTop (rSoft (rLogits x g))) (ix2 r 0)
      ∧ k0_pay15 (F := Ideal) (k0_pay14 (F := Ideal) x g) (ix2 r l) = rShares (rTop (rSoft (rLogits x g))) (ix2 r 1) := by
  obtain ⟨a, h, ha⟩ := place_apply x g r
  have t := two_shares (shareRow_sign x g r) (sortedFrom_surjective _) (sorted_eight (shareRow x g r)) ha neg_one
  rw [← second_apply x g r h, ← first_apply] at t
  rw [rShares_apply, rShares_apply, rTop_apply, rTop_apply, ← soft_eq]
  unfold k0_pay13 k0_pay15
  pointwise [k0_pay12, k0_pay14]
  exact t

end Cert.Proof.Moe

end
-- ==== Proof.Plan.lean ====
/-
  The slots' states, block by block, as the tables give them.
-/
module

public import proofs.«01_k».proof.Proof.Loop

@[expose] public section

set_option maxRecDepth 16384

noncomputable section

namespace Cert.Proof.Moe.Ffn

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What the tables say, block by block -/

/-- The word of block `n`. -/
abbrev blockWord (v : S23.Idx → BitVec 32) (n : ℕ) (h : n < 23) : ℕ := (v (ValueIdx.ix1 ⟨n, h⟩)).toNat

/-- The conditions on the tables. -/
structure Deals (t : Tabs) : Prop where
  words : ∀ n h, blockWord t.be n h < 8 ∧ blockWord t.cu n h < 2 ∧ blockWord t.va n h < 2 ∧ blockWord t.rs n h < 2 ∧ blockWord t.fe n h ≤ 8
    ∧ (blockWord t.rs n h = 1 → blockWord t.va n h = 1) ∧ (blockWord t.ff n h = 1 ↔ blockWord t.rs n h = 1 ∧ blockWord t.fe n h < 8)
  first : blockWord t.rs 0 (by omega) = 1
  last : blockWord t.va 22 (by omega) = 0 ∨ blockWord t.fe 22 (by omega) = 8
  step : ∀ n (h : n + 1 < 23), (blockWord t.va (n + 1) h = 0 ∨ blockWord t.va n (by omega) = 1
      ∧ (blockWord t.rs (n + 1) h = 0 ∧ blockWord t.cu (n + 1) h = blockWord t.cu n (by omega) ∧ blockWord t.be (n + 1) h = blockWord t.be n (by omega) ∧ blockWord t.fe (n + 1) h = blockWord t.fe n (by omega)
        ∨ blockWord t.rs (n + 1) h = 1 ∧ blockWord t.cu (n + 1) h = 1 - blockWord t.cu n (by omega) ∧ blockWord t.be (n + 1) h = blockWord t.fe n (by omega)))
    ∧ (blockWord t.va (n + 1) h = 1 ∨ blockWord t.va n (by omega) = 0 ∨ blockWord t.fe n (by omega) = 8)

/-- The expert a word names, if it names one. -/
def named (n : ℕ) : Option (Fin 8) := if h : n < 8 then some ⟨n, h⟩ else none

/-- The slots' state after the first `n` blocks: the last block computed says it. -/
def plan (t : Tabs) : ℕ → St
  | 0 => ⟨!(blockWord t.cu 0 (by omega) == 1), none, none⟩
  | n + 1 => if h : n < 23 then
      if blockWord t.va n h = 1 then ⟨blockWord t.cu n h == 1, named (blockWord t.be n h), named (blockWord t.fe n h)⟩ else plan t n
    else plan t n

theorem plan_live (t : Tabs) (n : ℕ) (h : n < 23) (hv : blockWord t.va n h = 1) :
    plan t (n + 1) = ⟨blockWord t.cu n h == 1, named (blockWord t.be n h), named (blockWord t.fe n h)⟩ := by
  rw [plan, dif_pos h, if_pos hv]
theorem plan_dead (t : Tabs) (n : ℕ) (h : n < 23) (hv : blockWord t.va n h ≠ 1) : plan t (n + 1) = plan t n := by
  rw [plan, dif_pos h, if_neg hv]

theorem named_lt {n : ℕ} (h : n < 8) : named n = some ⟨n, h⟩ := dif_pos h
theorem named_eight {n : ℕ} (h : ¬n < 8) : named n = none := dif_neg h

/-- A word is its value's. -/
theorem word_eq {v : BitVec 32} {n : ℕ} (h : v.toNat = n) : v = BitVec.ofNat 32 n := by
  rw [← h, BitVec.ofNat_toNat, BitVec.setWidth_eq]
theorem slot_eq {v : BitVec 32} (h : v.toNat < 2) : v = sw (v.toNat == 1) := by
  apply BitVec.eq_of_toNat_eq
  rcases (show v.toNat = 0 ∨ v.toNat = 1 by omega) with h | h <;> rw [h] <;> rfl
theorem expert_eq {v : BitVec 32} (h : v.toNat < 8) : v = wd ⟨v.toNat, h⟩ := word_eq rfl

variable {t : Tabs} (ht : Deals t)
include ht

/-- After a block that isn't computed nothing is in flight. -/
theorem plan_idle : ∀ n h, blockWord t.va n h ≠ 1 → (plan t (n + 1)).f = none
  | 0, h, hv => absurd ((ht.words 0 h).2.2.2.2.2.1 ht.first) hv
  | n + 1, h, hv => by
    rw [plan_dead t (n + 1) h hv]
    by_cases hl : blockWord t.va n (by omega) = 1
    · rw [plan_live t n (by omega) hl]
      have := (ht.step n h).2
      exact named_eight (by omega)
    · exact plan_idle n (by omega) hl

/-- The plan holds the slots' states. -/
theorem plan_sched : Sched t (plan t) where
  first := ⟨rfl, rfl⟩
  last := by
    by_cases hv : blockWord t.va 22 (by omega) = 1
    · rw [plan_live t 22 (by omega) hv]
      have := ht.last
      exact named_eight (by omega)
    · exact plan_idle ht 22 (by omega) hv
  step i := by
    obtain ⟨n, hn⟩ : ∃ n, (i 0).val = n := ⟨_, rfl⟩
    have h : n < 23 := hn ▸ (i 0).isLt
    have hw (v : S23.Idx → BitVec 32) : word v i = v (ValueIdx.ix1 ⟨n, h⟩) := congrArg (fun k => v (ValueIdx.ix1 k)) (Fin.ext hn)
    have one (v : S23.Idx → BitVec 32) : word v i = 1#32 ↔ blockWord v n h = 1 := by
      rw [hw, ← BitVec.toNat_inj]; rfl
    obtain ⟨w1, w2, w3, w4, w5, w6, w7⟩ := ht.words n h
    rw [hn]
    refine ⟨⟨⟨_, w1⟩, (hw _).trans (expert_eq w1)⟩, ⟨_, (hw _).trans (slot_eq w2)⟩, ?_, ?_, ?_⟩
    · intro h0
      obtain rfl : n = 0 := hn.symm.trans h0
      exact ⟨(one _).2 ht.first, rfl⟩
    · intro hr
      rw [one] at hr
      rw [plan_live t n h (w6 hr), one, hw, hw, hw]
      refine ⟨⟨?_, ?_⟩, slot_eq w2, fun h0 => ?_, fun hf => ?_, fun hf => ?_⟩
      · rw [named_lt w1]; exact expert_eq w1
      · rw [named_lt w1]; exact Option.some_ne_none _
      · obtain ⟨k, rfl⟩ : ∃ k, n = k + 1 := ⟨n - 1, by omega⟩
        have hs := (ht.step k h).1
        have hl : blockWord t.va k (by omega) = 1 := by omega
        have h2 := (ht.words k (by omega)).2.1
        rw [plan_live t k (by omega) hl]
        have e1 : blockWord t.be (k + 1) h = blockWord t.fe k (by omega) := by omega
        have e2 : blockWord t.cu (k + 1) h = 1 - blockWord t.cu k (by omega) := by omega
        refine ⟨congrArg named e1.symm, ?_⟩
        show (blockWord t.cu (k + 1) h == 1) = !(blockWord t.cu k (by omega) == 1)
        rw [e2]
        rcases (show blockWord t.cu k (by omega) = 0 ∨ blockWord t.cu k (by omega) = 1 by omega) with h | h <;> rw [h] <;> rfl
      · have h8 := (w7.1 hf).2
        rw [named_lt h8]
        exact ⟨Option.some_ne_none _, expert_eq h8⟩
      · exact named_eight fun h8 => hf ((one _).2 (w7.2 ⟨hr, h8⟩))
    · intro hr
      rw [Ne, one] at hr
      rw [Ne, one, one]
      obtain ⟨k, rfl⟩ : ∃ k, n = k + 1 := ⟨n - 1, by
        have := ht.first
        rcases Nat.eq_zero_or_pos n with rfl | h
        · exact absurd this hr
        · omega⟩
      refine ⟨fun hf => hr (w7.1 hf).1, ?_, fun hv => ?_⟩
      · by_cases hv : blockWord t.va (k + 1) h = 1
        · have hs := (ht.step k h).1
          have hl : blockWord t.va k (by omega) = 1 := by omega
          rw [plan_live t (k + 1) h hv, plan_live t k (by omega) hl]
          have e1 : blockWord t.cu (k + 1) h = blockWord t.cu k (by omega) := by omega
          have e2 : blockWord t.be (k + 1) h = blockWord t.be k (by omega) := by omega
          have e3 : blockWord t.fe (k + 1) h = blockWord t.fe k (by omega) := by omega
          rw [e1, e2, e3]
        · exact plan_dead t _ h hv
      · have hs := (ht.step k h).1
        have hl : blockWord t.va k (by omega) = 1 := by omega
        have e1 : blockWord t.cu (k + 1) h = blockWord t.cu k (by omega) := by omega
        have e2 : blockWord t.be (k + 1) h = blockWord t.be k (by omega) := by omega
        rw [plan_live t k (by omega) hl, hw, hw]
        refine ⟨(slot_eq w2).trans (by rw [show (t.cu (ValueIdx.ix1 ⟨k + 1, h⟩)).toNat = _ from e1]), ⟨_, w1⟩, ?_, expert_eq w1⟩
        show named (blockWord t.be k (by omega)) = _
        rw [← e2]; exact named_lt w1

/-- A block that is computed is computed with the expert its word names. -/
theorem plan_expert (n : ℕ) (h : n < 23) (hv : blockWord t.va n h = 1) : (plan t (n + 1)).h = some ⟨blockWord t.be n h, (ht.words n h).1⟩ := by
  rw [plan_live t n h hv]; exact named_lt _

end Cert.Proof.Moe.Ffn

end
-- ==== Proof.Words.lean ====
/-
  What the precondition says at a token, a block and a step from one block to the next.
-/
module

public import proofs.«01_k».proof.Proof.Gen.Pre_blocks_and_rows
public import Idealize.ShloMosaic.Lib.Pointwise

@[expose] public section

set_option maxRecDepth 16384

noncomputable section

namespace Cert.Proof.Moe

open Idealize.ShloMosaic

variable {F : FTy → Type} [FloatOps F] (x : FVec F Cert.Pre_blocks_and_rows.S2048x1024 .f32) (gw : FVec F Cert.Pre_blocks_and_rows.S1024x8 .f32) (xs : FVec F Cert.Pre_blocks_and_rows.S5888x1024 .f32)
  (up gp : FVec F Cert.Pre_blocks_and_rows.S8x1024x2048 .f32) (dn : FVec F Cert.Pre_blocks_and_rows.S8x2048x1024 .f32)
  (be va rs ff fe cu : IVec Cert.Pre_blocks_and_rows.S23 32) (p q : IVec Cert.Pre_blocks_and_rows.S2048 32)

/-- The bits of the precondition on a token's two positions and a block, -/
def rowBit (p q v b : BitVec 32) : BitVec 1 :=
  let r := IntOp.andi (IntOp.andi (IntOp.andi (IntOp.cmpi .sge p 0#32) (IntOp.cmpi .slt p 5888#32)) (IntOp.cmpi .sge q 0#32)) (IntOp.cmpi .slt q 5888#32)
  let out (p : BitVec 32) := IntOp.ori (IntOp.ori (IntOp.cmpi .eq v 1#32) (IntOp.cmpi .slt p (IntOp.muli 256#32 b))) (IntOp.cmpi .sge p (IntOp.addi (IntOp.muli 256#32 b) 256#32))
  IntOp.andi (IntOp.andi r (out p)) (out q)

/-- on a block's words, -/
def blockBit (be va rs ff fe cu rs0 va22 fe22 : BitVec 32) : BitVec 1 :=
  let b := IntOp.andi (IntOp.andi (IntOp.andi (IntOp.cmpi .sge be 0#32) (IntOp.cmpi .slt be 8#32)) (IntOp.cmpi .sge cu 0#32)) (IntOp.cmpi .slt cu 2#32)
  let b := IntOp.andi (IntOp.andi (IntOp.andi (IntOp.andi b (IntOp.cmpi .sge va 0#32)) (IntOp.cmpi .slt va 2#32)) (IntOp.cmpi .sge rs 0#32)) (IntOp.cmpi .slt rs 2#32)
  let b := IntOp.andi (IntOp.andi (IntOp.andi b (IntOp.cmpi .sge fe 0#32)) (IntOp.cmpi .sle fe 8#32)) (IntOp.cmpi .sle rs va)
  let b := IntOp.andi b (IntOp.cmpi .eq (IntOp.cmpi .eq ff 1#32) (IntOp.andi (IntOp.cmpi .eq rs 1#32) (IntOp.cmpi .slt fe 8#32)))
  IntOp.andi (IntOp.andi b (IntOp.cmpi .eq rs0 1#32)) (IntOp.ori (IntOp.cmpi .eq va22 0#32) (IntOp.cmpi .eq fe22 8#32))

/-- and on a block's words and the last block's. -/
def stepBit (be be' va va' rs fe fe' cu cu' : BitVec 32) : BitVec 1 :=
  let goes := IntOp.andi (IntOp.andi (IntOp.cmpi .eq cu cu') (IntOp.cmpi .eq be be')) (IntOp.cmpi .eq fe fe')
  let starts := IntOp.andi (IntOp.cmpi .eq cu (IntOp.subi 1#32 cu')) (IntOp.cmpi .eq be fe')
  let s := IntOp.ori (IntOp.cmpi .eq va 0#32) (IntOp.andi (IntOp.cmpi .eq va' 1#32) (IntOp.ori (IntOp.andi (IntOp.cmpi .eq rs 0#32) goes) (IntOp.andi (IntOp.cmpi .eq rs 1#32) starts)))
  IntOp.andi s (IntOp.ori (IntOp.ori (IntOp.cmpi .eq va 1#32) (IntOp.cmpi .eq va' 0#32)) (IntOp.cmpi .eq fe' 8#32))

theorem pre_apply (i : Fin 2048) (j : Fin 23) (k : Fin 22) :
    Cert.Pre_blocks_and_rows.fn (F := F) x gw xs up gp dn be va rs ff fe cu p q (ix3 i j k)
      = IntOp.andi (IntOp.andi (rowBit (p (ix1 i)) (q (ix1 i)) (va (ix1 j)) (BitVec.ofNat 32 j.val))
          (blockBit (be (ix1 j)) (va (ix1 j)) (rs (ix1 j)) (ff (ix1 j)) (fe (ix1 j)) (cu (ix1 j)) (rs (ix1 0)) (va (ix1 22)) (fe (ix1 22))))
        (stepBit (be (ix1 ⟨1 + k.val, by omega⟩)) (be (ix1 ⟨k.val, by omega⟩)) (va (ix1 ⟨1 + k.val, by omega⟩)) (va (ix1 ⟨k.val, by omega⟩)) (rs (ix1 ⟨1 + k.val, by omega⟩)) (fe (ix1 ⟨1 + k.val, by omega⟩)) (fe (ix1 ⟨k.val, by omega⟩)) (cu (ix1 ⟨1 + k.val, by omega⟩)) (cu (ix1 ⟨k.val, by omega⟩))) := by
  unfold rowBit blockBit stepBit Cert.Pre_blocks_and_rows.fn Cert.Pre_blocks_and_rows.fn_part1 Cert.Pre_blocks_and_rows.fn_part2 Cert.Pre_blocks_and_rows.fn_part3 Cert.Pre_blocks_and_rows.fn_part4 Cert.Pre_blocks_and_rows.fn_part5 Cert.Pre_blocks_and_rows.fn_part6 Cert.Pre_blocks_and_rows.fn_part7 Cert.Pre_blocks_and_rows.fn_part8
  pointwise

/-! ## The bits read as conditions -/

theorem andi_one (a b : BitVec 1) : IntOp.andi a b = 1#1 ↔ a = 1#1 ∧ b = 1#1 := by revert a b; decide
theorem ori_one (a b : BitVec 1) : IntOp.ori a b = 1#1 ↔ a = 1#1 ∨ b = 1#1 := by revert a b; decide
theorem same_one (a b : BitVec 1) : IntOp.cmpi .eq a b = 1#1 ↔ (a = 1#1 ↔ b = 1#1) := by revert a b; decide
theorem bool_one (p : Bool) : BitVec.ofBool p = 1#1 ↔ p = true := by cases p <;> decide
theorem eq_one (a b : BitVec 32) : IntOp.cmpi .eq a b = 1#1 ↔ a.toNat = b.toNat := by
  rw [BitVec.toNat_inj]; simp only [IntOp.cmpi, bool_one, beq_iff_eq]
theorem sge_one (a b : BitVec 32) : IntOp.cmpi .sge a b = 1#1 ↔ b.toInt ≤ a.toInt := by
  simp only [IntOp.cmpi, bool_one, BitVec.sle_eq_decide, decide_eq_true_eq]
theorem sle_one (a b : BitVec 32) : IntOp.cmpi .sle a b = 1#1 ↔ a.toInt ≤ b.toInt := by
  simp only [IntOp.cmpi, bool_one, BitVec.sle_eq_decide, decide_eq_true_eq]
theorem slt_one (a b : BitVec 32) : IntOp.cmpi .slt a b = 1#1 ↔ a.toInt < b.toInt := by
  simp only [IntOp.cmpi, bool_one, BitVec.slt_eq_decide, decide_eq_true_eq]

/-- The positions name rows, of blocks that are computed; -/
theorem rowBit_spec {p q v : BitVec 32} {b : ℕ} (hb : b < 23) (h : rowBit p q v (BitVec.ofNat 32 b) = 1#1) :
    p.toNat < 5888 ∧ q.toNat < 5888 ∧ (p.toNat / 256 = b → v = 1#32) ∧ (q.toNat / 256 = b → v = 1#32) := by
  have e : (256#32 * BitVec.ofNat 32 b).toNat = 256 * b := by
    rw [BitVec.toNat_mul, BitVec.toNat_ofNat, BitVec.toNat_ofNat]; omega
  simp only [rowBit, andi_one, ori_one, eq_one, sge_one, slt_one, IntOp.muli, IntOp.addi, BitVec.toInt_eq_toNat_cond, BitVec.toNat_add, e, BitVec.toNat_ofNat] at h
  rw [← BitVec.toNat_inj, BitVec.toNat_ofNat]
  omega

/-- a block's words are in their ranges, a run starts in a block that is computed, and fetches the next expert if there is one; -/
theorem blockBit_spec {be va rs ff fe cu rs0 va22 fe22 : BitVec 32} (h : blockBit be va rs ff fe cu rs0 va22 fe22 = 1#1) :
    (be.toNat < 8 ∧ cu.toNat < 2 ∧ va.toNat < 2 ∧ rs.toNat < 2 ∧ fe.toNat ≤ 8 ∧ (rs.toNat = 1 → va.toNat = 1) ∧ (ff.toNat = 1 ↔ rs.toNat = 1 ∧ fe.toNat < 8))
      ∧ rs0.toNat = 1 ∧ (va22.toNat = 0 ∨ fe22.toNat = 8) := by
  simp only [blockBit, andi_one, ori_one, same_one, eq_one, sge_one, sle_one, slt_one, BitVec.toInt_eq_toNat_cond, BitVec.toNat_ofNat] at h
  omega

/-- a block goes on with the last block's run, or starts the run fetched in it. -/
theorem stepBit_spec {be be' va va' rs fe fe' cu cu' : BitVec 32} (h : stepBit be be' va va' rs fe fe' cu cu' = 1#1) (hc : cu'.toNat < 2) :
    (va.toNat = 0 ∨ va'.toNat = 1 ∧ (rs.toNat = 0 ∧ cu.toNat = cu'.toNat ∧ be.toNat = be'.toNat ∧ fe.toNat = fe'.toNat
        ∨ rs.toNat = 1 ∧ cu.toNat = 1 - cu'.toNat ∧ be.toNat = fe'.toNat))
      ∧ (va.toNat = 1 ∨ va'.toNat = 0 ∨ fe'.toNat = 8) := by
  simp only [stepBit, andi_one, ori_one, eq_one, IntOp.subi, BitVec.toNat_sub, BitVec.toNat_ofNat] at h
  omega

end Cert.Proof.Moe

end
-- ==== Proof.Experts.lean ====
/-
  At the extended reals, a block of rows through its expert is the reference's rows of it.
-/
module

public import proofs.«01_k».proof.Proof.Ffn
public import proofs.«01_k».proof.Proof.Gen.ReferenceIdeal.Run
public import Idealize.ShloMosaic.Lib.Pointwise

@[expose] public section

noncomputable section

namespace Cert.Proof.Moe

open Cert.ReferenceIdeal Cert.ReferenceIdeal.Gen
open Cert.KernelIdeal.Gen (k1_pay1)
open Idealize.ShloMosaic

variable (xs : FVec Ideal S5888x1024 .f32) (up gp : FVec Ideal S8x1024x2048 .f32) (dn : FVec Ideal S8x2048x1024 .f32) (be : IVec S23 32)

/-! ## The reference's terms -/

/-- The rows through all experts' first matrices, -/
def rFirst (w : FVec Ideal S8x1024x2048 .f32) : FVec Ideal S8x5888x2048 .f32 :=
  transpose S8x5888x2048 [1, 0, 2] (Host.dotGeneral dot_S5888x1024_S8x1024x2048_S5888x8x2048_1_1_0_02_n_n none xs w) transposes_S5888x8x2048_S8x5888x2048_1_0_2

/-- a value scaled by how far it is above nothing, -/
def rSwish (a : FVec Ideal S8x5888x2048 .f32) : FVec Ideal S8x5888x2048 .f32 :=
  mulf a (Host.divf (broadcastInDim S8x5888x2048 ![] bcast_S_S8x5888x2048 (constant S_ .f32 0x3F800000#32))
    (addf (broadcastInDim S8x5888x2048 ![] bcast_S_S8x5888x2048 (constant S_ .f32 0x3F800000#32)) (Host.exp (Host.negf a))))

/-- one where a row's block names an expert, -/
def rChosen : FVec Ideal S8x5888 .f32 :=
  uitofp .f32 (cmpi .eq (broadcastInDim S8x5888 ![0, 1] bcast_S8x1_S8x5888_0_1 (broadcastInDim S8x1 ![0] bcast_S8_S8x1_0 (iotaInDim S8 32 0)))
    (broadcastInDim S8x5888 ![0, 1] bcast_S1x5888_S8x5888_0_1 (broadcastInDim S1x5888 ![1] bcast_S5888_S1x5888_1
      (shapeCast _ (broadcastInDim S23x256 ![0, 1] bcast_S23x1_S23x256_0_1 (broadcastInDim S23x1 ![0] bcast_S23_S23x1_0 be)) shapeCasts_S23x256_S5888))))

/-- and the rows through their blocks' experts. -/
def rRows : FVec Ideal S5888x1024 .f32 :=
  Host.reduceAdd (mulf (Host.dotGeneral dot_S8x5888x2048_S8x2048x1024_S8x5888x1024_2_1_1_2_0_0 none (mulf (rSwish (rFirst xs up)) (rFirst xs gp)) dn)
    (broadcastInDim S8x5888x1024 ![0, 1, 2] bcast_S8x5888x1_S8x5888x1024_0_1_2 (broadcastInDim S8x5888x1 ![0, 1] bcast_S8x5888_S8x5888x1_0_1 (rChosen be))))
    (constant S_ .f32 0x00000000#32) reducesTo_S8x5888x1024_S5888x1024_d0 h_S_

/-! ## Read at an index -/

/-- A hidden value. -/
def hid (a b : EReal) : EReal := a * Ideal.div 1 (1 + Ideal.exp (-a)) * b

theorem rFirst_apply (w : FVec Ideal S8x1024x2048 .f32) (e : Fin 8) (r : Fin 5888) (f : Fin 2048) :
    rFirst xs w (ix3 e r f) = ∑ h : Fin 1024, xs (ix2 r h) * w (ix3 e h f) := by
  unfold rFirst
  pointwise

theorem rSwish_apply (a : FVec Ideal S8x5888x2048 .f32) (e : Fin 8) (r : Fin 5888) (f : Fin 2048) :
    rSwish a (ix3 e r f) = a (ix3 e r f) * Ideal.div 1 (1 + Ideal.exp (-a (ix3 e r f))) := by
  unfold rSwish
  pointwise

theorem uitofp_one : (FloatOps.uitofp .f32 1#1 : Ideal .f32) = (1 : EReal) := by
  show (((1#1 : BitVec 1).toNat : ℝ) : EReal) = 1
  simp
theorem uitofp_zero : (FloatOps.uitofp .f32 0#1 : Ideal .f32) = (0 : EReal) := by
  show (((0#1 : BitVec 1).toNat : ℝ) : EReal) = 0
  simp

theorem rChosen_apply (e : Fin 8) (r : Fin 5888) :
    rChosen be (ix2 e r) = if (be (ix1 ⟨r.val / 256, by omega⟩)).toNat = e.val then 1 else 0 := by
  unfold rChosen
  pointwise
  by_cases h : (be (ix1 ⟨r.val / 256, by omega⟩)).toNat = e.val
  · rw [if_pos h, show IntOp.cmpi .eq (BitVec.ofNat 32 e.val) (be (ix1 ⟨r.val / 256, by omega⟩)) = 1#1 by
      rw [← h]; simp [IntOp.cmpi]]
    exact uitofp_one
  · rw [if_neg h, show IntOp.cmpi .eq (BitVec.ofNat 32 e.val) (be (ix1 ⟨r.val / 256, by omega⟩)) = 0#1 by
      have h' : BitVec.ofNat 32 e.val ≠ be (ix1 ⟨r.val / 256, by omega⟩) := fun h' => h (by rw [← h', BitVec.toNat_ofNat]; omega)
      simp only [IntOp.cmpi, beq_eq_false_iff_ne.mpr h']; rfl]
    exact uitofp_zero

theorem rRows_apply (r : Fin 5888) (k : Fin 1024) :
    rRows xs up gp dn be (ix2 r k) = ∑ e : Fin 8, (∑ f : Fin 2048, hid (rFirst xs up (ix3 e r f)) (rFirst xs gp (ix3 e r f)) * dn (ix3 e f k)) * rChosen be (ix2 e r) := by
  unfold rRows hid
  pointwise
  simp only [rSwish_apply]

/-- The rows the reference computes for a block whose word names an expert. -/
theorem rRows_expert (r : Fin 5888) (k : Fin 1024) (e : Fin 8) (he : (be (ix1 ⟨r.val / 256, by omega⟩)).toNat = e.val) :
    rRows xs up gp dn be (ix2 r k) = ∑ f : Fin 2048, hid (∑ h : Fin 1024, xs (ix2 r h) * up (ix3 e h f)) (∑ h : Fin 1024, xs (ix2 r h) * gp (ix3 e h f)) * dn (ix3 e f k) := by
  rw [rRows_apply, Finset.sum_eq_single e]
  · rw [rChosen_apply, if_pos he, mul_one]
    simp only [rFirst_apply]
  · intro e' _ h
    rw [rChosen_apply, if_neg fun h' => h (Fin.ext (h'.symm.trans he)), mul_zero]
  · exact fun h => absurd (Finset.mem_univ e) h

/-- A block of rows through an expert. -/
theorem block_apply (x : FVec Ideal Cert.KernelIdeal.S256x1024 .f32) (u g : FVec Ideal Cert.KernelIdeal.S1x1024x2048 .f32) (d : FVec Ideal Cert.KernelIdeal.S1x2048x1024 .f32) (r : Fin 256) (k : Fin 1024) :
    k1_pay1 (F := Ideal) x u g d (ix2 r k)
      = ∑ f : Fin 2048, hid (∑ h : Fin 1024, x (ix2 r h) * u (ix3 0 h f)) (∑ h : Fin 1024, x (ix2 r h) * g (ix3 0 h f)) * d (ix3 0 f k) := by
  unfold k1_pay1 hid
  pointwise
  simp only [zero_sub]

end Cert.Proof.Moe

end
-- ==== Proof.Value.lean ====
/-
  What the reference computes is what the calls leave, where the tables deal the blocks out and the positions name computed rows; and the claims.
-/
module

public import proofs.«01_k».proof.Defs
public import proofs.«01_k».proof.Proof.Launch
public import proofs.«01_k».proof.Proof.Weights
public import proofs.«01_k».proof.Proof.Gen.Kernel
public import proofs.«01_k».proof.Proof.Gen.ReferenceIdeal.Run
public import proofs.«01_k».proof.Proof.Plan
public import proofs.«01_k».proof.Proof.Words
public import proofs.«01_k».proof.Proof.Experts
public import Idealize.ShloMosaic.Lib.Routing.Ops

@[expose] public section

noncomputable section

namespace Cert.Proof.Moe

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.ValueIdx

/-! ## The precondition -/

section Pre

variable (x : FVec F Cert.Pre_blocks_and_rows.S2048x1024 .f32) (gw : FVec F Cert.Pre_blocks_and_rows.S1024x8 .f32) (xs : FVec F Cert.Pre_blocks_and_rows.S5888x1024 .f32)
  (up gp : FVec F Cert.Pre_blocks_and_rows.S8x1024x2048 .f32) (dn : FVec F Cert.Pre_blocks_and_rows.S8x2048x1024 .f32)
  (be va rs ff fe cu : IVec Cert.Pre_blocks_and_rows.S23 32) (p q : IVec Cert.Pre_blocks_and_rows.S2048 32)
  (h : Cert.Pre_blocks_and_rows.fn (F := F) x gw xs up gp dn be va rs ff fe cu p q = fun _ => 1#1)
include h

/-- The precondition's three bits are ones. -/
theorem bits_of_pre (i : Fin 2048) (j : Fin 23) (k : Fin 22) :
    rowBit (p (ValueIdx.ix1 i)) (q (ValueIdx.ix1 i)) (va (ValueIdx.ix1 j)) (BitVec.ofNat 32 j.val) = 1#1
      ∧ blockBit (be (ValueIdx.ix1 j)) (va (ValueIdx.ix1 j)) (rs (ValueIdx.ix1 j)) (ff (ValueIdx.ix1 j)) (fe (ValueIdx.ix1 j)) (cu (ValueIdx.ix1 j)) (rs (ValueIdx.ix1 0)) (va (ValueIdx.ix1 22)) (fe (ValueIdx.ix1 22)) = 1#1
      ∧ stepBit (be (ValueIdx.ix1 ⟨1 + k.val, by omega⟩)) (be (ValueIdx.ix1 ⟨k.val, by omega⟩)) (va (ValueIdx.ix1 ⟨1 + k.val, by omega⟩)) (va (ValueIdx.ix1 ⟨k.val, by omega⟩)) (rs (ValueIdx.ix1 ⟨1 + k.val, by omega⟩))
          (fe (ValueIdx.ix1 ⟨1 + k.val, by omega⟩)) (fe (ValueIdx.ix1 ⟨k.val, by omega⟩)) (cu (ValueIdx.ix1 ⟨1 + k.val, by omega⟩)) (cu (ValueIdx.ix1 ⟨k.val, by omega⟩)) = 1#1 := by
  have e := (pre_apply x gw xs up gp dn be va rs ff fe cu p q i j k).symm.trans (congrFun h _)
  simp only [andi_one, ix1_eq_valueIdx] at e
  exact ⟨e.1.1, e.1.2, e.2⟩

/-- The tables deal the blocks out. -/
theorem deals_of_pre : Ffn.Deals ⟨be, va, rs, ff, fe, cu⟩ where
  words n hn := (blockBit_spec (bits_of_pre x gw xs up gp dn be va rs ff fe cu p q h 0 ⟨n, hn⟩ 0).2.1).1
  first := (blockBit_spec (bits_of_pre x gw xs up gp dn be va rs ff fe cu p q h 0 0 0).2.1).2.1
  last := (blockBit_spec (bits_of_pre x gw xs up gp dn be va rs ff fe cu p q h 0 0 0).2.1).2.2
  step n hn := by
    have e := (bits_of_pre x gw xs up gp dn be va rs ff fe cu p q h 0 0 ⟨n, by omega⟩).2.2
    simp only [Nat.add_comm 1 n] at e
    exact stepBit_spec e (blockBit_spec (bits_of_pre x gw xs up gp dn be va rs ff fe cu p q h 0 ⟨n, by omega⟩ 0).2.1).1.2.1

/-- Both positions of every token name rows, of blocks that are computed. -/
theorem rows_of_pre (i : Fin 2048) :
    (∃ hp : (p (ValueIdx.ix1 i)).toNat < 5888, va (ValueIdx.ix1 ⟨(p (ValueIdx.ix1 i)).toNat / 256, by omega⟩) = 1#32)
      ∧ ∃ hq : (q (ValueIdx.ix1 i)).toNat < 5888, va (ValueIdx.ix1 ⟨(q (ValueIdx.ix1 i)).toNat / 256, by omega⟩) = 1#32 := by
  have e (j : Fin 23) := rowBit_spec j.isLt (bits_of_pre x gw xs up gp dn be va rs ff fe cu p q h i j 0).1
  have hp := (e 0).1
  have hq := (e 0).2.1
  exact ⟨⟨hp, (e ⟨_, by omega⟩).2.2.1 rfl⟩, hq, (e ⟨_, by omega⟩).2.2.2 rfl⟩

end Pre

/-- What the tables and positions of a device's memory are to satisfy. -/
structure Fits (m : (ℓ : Loc nD τ sig) → Buf (Elt F) ℓ) : Prop where
  deals : Ffn.Deals (tabsOf m)
  first : ∀ (d : Dev nD) (i : Fin 2048), ∃ hp : (m (p0Loc d) (ValueIdx.ix1 i) : BitVec 32).toNat < 5888, (tabsOf m).va (ValueIdx.ix1 ⟨(m (p0Loc d) (ValueIdx.ix1 i) : BitVec 32).toNat / 256, by omega⟩) = 1#32
  second : ∀ (d : Dev nD) (i : Fin 2048), ∃ hp : (m (p1Loc d) (ValueIdx.ix1 i) : BitVec 32).toNat < 5888, (tabsOf m).va (ValueIdx.ix1 ⟨(m (p1Loc d) (ValueIdx.ix1 i) : BitVec 32).toNat / 256, by omega⟩) = 1#32

theorem fits_ideal (m : (ℓ : Loc nD τ sig) → Buf (Elt Ideal) ℓ) (h : Cert.Pre_KernelIdeal m) : Fits m where
  deals := deals_of_pre _ _ _ _ _ _ _ _ _ _ _ _ _ _ (h 0)
  first d i := by
    obtain rfl : d = 0 := Subsingleton.elim _ _
    exact (rows_of_pre _ _ _ _ _ _ _ _ _ _ _ _ _ _ (h 0) i).1
  second d i := by
    obtain rfl : d = 0 := Subsingleton.elim _ _
    exact (rows_of_pre _ _ _ _ _ _ _ _ _ _ _ _ _ _ (h 0) i).2
theorem fits_bits (m : (ℓ : Loc nD τ sig) → Buf (Elt Bits) ℓ) (h : Cert.Pre_Kernel m) : Fits m where
  deals := deals_of_pre _ _ _ _ _ _ _ _ _ _ _ _ _ _ (h 0)
  first d i := by
    obtain rfl : d = 0 := Subsingleton.elim _ _
    exact (rows_of_pre _ _ _ _ _ _ _ _ _ _ _ _ _ _ (h 0) i).1
  second d i := by
    obtain rfl : d = 0 := Subsingleton.elim _ _
    exact (rows_of_pre _ _ _ _ _ _ _ _ _ _ _ _ _ _ (h 0) i).2

section Fits

variable {m : (ℓ : Loc nD τ sig) → Buf (Elt F) ℓ} (hm : Fits m)
include hm

/-- A word that names a row of a computed block names it in the plan. -/
theorem named_row (w : BitVec 32) (h : ∃ hp : w.toNat < 5888, (tabsOf m).va (ValueIdx.ix1 ⟨w.toNat / 256, by omega⟩) = 1#32) : Named m (Ffn.plan (tabsOf m)) w := by
  obtain ⟨hp, hv⟩ := h
  have hb : w.toNat / 256 < 23 := by omega
  refine ⟨hp, ⟨w.toNat / 256, hb⟩, rfl, ?_, ?_⟩
  · exact (congrArg (fun k => (tabsOf m).va (ValueIdx.ix1 k)) (Fin.ext (Ffn.coords_val ⟨w.toNat / 256, hb⟩))).trans hv
  · show (Ffn.plan (tabsOf m) (w.toNat / 256 + 1)).h ≠ none
    rw [Ffn.plan_expert hm.deals (w.toNat / 256) hb (congrArg BitVec.toNat hv)]
    exact Option.some_ne_none _

theorem in_rows : InRows m (Ffn.plan (tabsOf m)) := fun d =>
  ⟨fun x => by rw [ValueIdx.eq_ix1 x]; exact named_row hm _ (hm.first d (x 0)), fun x => by rw [ValueIdx.eq_ix1 x]; exact named_row hm _ (hm.second d (x 0))⟩

end Fits

/-! ## The reference's value -/

/-- A position that names a row is not wrapped by the reference's indexing. -/
theorem not_wrapped {v : BitVec 32} (h : v.toNat < 5888) : Scalar.select (IntOp.cmpi .slt v 0#32) (IntOp.addi v 5888#32) v = v := by
  have e : IntOp.cmpi .slt v 0#32 = 0#1 := by
    have e' : v.slt 0#32 = false := by
      rw [BitVec.slt_eq_decide, decide_eq_false_iff_not, BitVec.toInt_eq_toNat_cond]
      simp only [BitVec.toInt_zero, Nat.reducePow]
      omega
    simp only [IntOp.cmpi, e']
    rfl
  rw [e]; rfl

/-- The reference's list of positions, wrapped where negative and stood on end. -/
abbrev column (p : S2048.Idx → BitVec 32) : IVec Cert.ReferenceIdeal.S2048x1 32 :=
  broadcastInDim Cert.ReferenceIdeal.S2048x1 ![0] Cert.ReferenceIdeal.Facts₀.bcast_S2048_S2048x1_0
    (select (cmpi .slt p (broadcastInDim Cert.ReferenceIdeal.S2048 ![] Cert.ReferenceIdeal.Facts₀.bcast_S_S2048 (constantI Cert.ReferenceIdeal.S_ 32 0#32)))
      (addi p (broadcastInDim Cert.ReferenceIdeal.S2048 ![] Cert.ReferenceIdeal.Facts₀.bcast_S_S2048 (constantI Cert.ReferenceIdeal.S_ 32 5888#32))) p)

/-- The rows the reference gathers by positions that name rows. -/
theorem gathered_rows (Y : S5888x1024.Idx → Elt F .f32) (p : S2048.Idx → BitVec 32) (h : ∀ x, (p x).toNat < 5888) (r : Fin 2048) (k : Fin 1024) :
    Host.gather Cert.ReferenceIdeal.gather_S5888x1024_S2048x1_S2048x1024_1_0_n_n_0_1_11024 Y (column p) (ValueIdx.ix2 r k)
      = Y (ValueIdx.ix2 (rowNo (p (ValueIdx.ix1 r))) k) := by
  refine Routing.gather_row (nb := 5888) (B := 1024) (n := 2048) _ rfl rfl rfl rfl rfl Y (column p) r k (rowNo (p (ValueIdx.ix1 r))) ?_ (by decide)
  have hr := h (ValueIdx.ix1 r)
  have e : column p (ValueIdx.ix2 r (0 : Fin 1)) = p (ValueIdx.ix1 r) := by
    have e0 : column p (ValueIdx.ix2 r (0 : Fin 1)) = Scalar.select (IntOp.cmpi .slt (p (ValueIdx.ix1 r)) 0#32) (IntOp.addi (p (ValueIdx.ix1 r)) 5888#32) (p (ValueIdx.ix1 r)) := by
      have j (g : S2048.Idx) (hg : (g 0).val = r.val) : g = ValueIdx.ix1 r := funext fun a => match a with | ⟨0, _⟩ => Fin.ext hg
      exact congrArg (fun g => Scalar.select (IntOp.cmpi .slt (p g) 0#32) (IntOp.addi (p g) 5888#32) (p g)) (j _ rfl)
    exact e0.trans (not_wrapped hr)
  rw [e]
  exact BitVec.eq_of_toNat_eq (by rw [BitVec.toNat_ofNat]; show _ = min _ 5887 % 2 ^ 32; omega)

/-- The reference's result is `outV`, where the lanes of the weights hold the reference's columns. -/
theorem value_eq (Y : S5888x1024.Idx → Elt F .f32) (p q : S2048.Idx → BitVec 32) (w v : S2048x1.Idx → Elt F .f32) (w' v' : S2048x16.Idx → Elt F .f32)
    (hp : ∀ x, (p x).toNat < 5888) (hq : ∀ x, (q x).toNat < 5888)
    (hw : ∀ (r : Fin 2048) (l : Fin 16), w' (ValueIdx.ix2 r l) = w (ValueIdx.ix2 r 0)) (hv : ∀ (r : Fin 2048) (l : Fin 16), v' (ValueIdx.ix2 r l) = v (ValueIdx.ix2 r 0)) :
    (addf (mulf (broadcastInDim Cert.ReferenceIdeal.S2048x1024 ![0, 1] Cert.ReferenceIdeal.Facts₀.bcast_S2048x1_S2048x1024_0_1 w)
        (Host.gather Cert.ReferenceIdeal.gather_S5888x1024_S2048x1_S2048x1024_1_0_n_n_0_1_11024 Y (column p)))
      (mulf (broadcastInDim Cert.ReferenceIdeal.S2048x1024 ![0, 1] Cert.ReferenceIdeal.Facts₀.bcast_S2048x1_S2048x1024_0_1 v)
        (Host.gather Cert.ReferenceIdeal.gather_S5888x1024_S2048x1_S2048x1024_1_0_n_n_0_1_11024 Y (column q))) : FVec F S2048x1024 .f32)
      = outV Y p q w' v' := by
  have one (u : S2048x1.Idx → Elt F .f32) (u' : S2048x16.Idx → Elt F .f32) (h : ∀ (r : Fin 2048) (l : Fin 16), u' (ValueIdx.ix2 r l) = u (ValueIdx.ix2 r 0)) (x : S2048x1024.Idx) :
      broadcastInDim Cert.ReferenceIdeal.S2048x1024 ![0, 1] Cert.ReferenceIdeal.Facts₀.bcast_S2048x1_S2048x1024_0_1 u x
        = u' (ValueIdx.ix2 (x 0) ⟨(x 1).val % 16, Nat.mod_lt _ (by decide)⟩) :=
    Eq.trans (congrArg u (funext fun a => match a with | ⟨0, _⟩ => rfl | ⟨1, _⟩ => rfl)) (h (x 0) _).symm
  have two (p : S2048.Idx → BitVec 32) (hp : ∀ x, (p x).toNat < 5888) (x : S2048x1024.Idx) :
      Host.gather Cert.ReferenceIdeal.gather_S5888x1024_S2048x1_S2048x1024_1_0_n_n_0_1_11024 Y (column p) x = Y (ValueIdx.ix2 (rowNo (p (ValueIdx.ix1 (x 0)))) (x 1)) :=
    (congrArg _ (ValueIdx.eq_ix2 x)).trans (gathered_rows Y p hp (x 0) (x 1))
  funext x
  unfold addf mulf outV
  rw [one w w' hw, one v v' hv, two p hp, two q hq]

/-- The reference's two columns of weights. -/
abbrev refW0 (x : FVec Ideal Cert.ReferenceIdeal.S2048x1024 .f32) (g : FVec Ideal Cert.ReferenceIdeal.S1024x8 .f32) : FVec Ideal Cert.ReferenceIdeal.S2048x1 .f32 :=
  extractStridedSlice Cert.ReferenceIdeal.S2048x1 ![0, 0] (rShares (rTop (rSoft (rLogits x g)))) Cert.ReferenceIdeal.Facts₀.slices_S2048x2_S2048x1_0_0
abbrev refW1 (x : FVec Ideal Cert.ReferenceIdeal.S2048x1024 .f32) (g : FVec Ideal Cert.ReferenceIdeal.S1024x8 .f32) : FVec Ideal Cert.ReferenceIdeal.S2048x1 .f32 :=
  extractStridedSlice Cert.ReferenceIdeal.S2048x1 ![0, 1] (rShares (rTop (rSoft (rLogits x g)))) Cert.ReferenceIdeal.Facts₀.slices_S2048x2_S2048x1_0_1

/-- A column's row `r`, cut from the pair of shares at `k`. -/
theorem at_share (r : Fin 2048) (k : Fin 2) (h : Shape.Slices Cert.ReferenceIdeal.S2048x2 ![0, k.val] Cert.ReferenceIdeal.S2048x1) :
    (Idealize.ShloMosaic.ix2 r k : Cert.ReferenceIdeal.S2048x2.Idx) = fun a => ⟨(![0, k.val] : Fin 2 → Nat) a + ((ValueIdx.ix2 r (0 : Fin 1) : Cert.ReferenceIdeal.S2048x1.Idx) (a.cast h.1.symm)).val, Nat.lt_of_lt_of_le (Nat.add_lt_add_left (Fin.isLt _) _) (h.2 a)⟩ := by
  funext a
  match a with
  | ⟨0, _⟩ => exact Fin.ext (Nat.zero_add r.val).symm
  | ⟨1, _⟩ => exact Fin.ext (Nat.add_zero k.val).symm

theorem w0_lanes (x : FVec Ideal S2048x1024 .f32) (g : FVec Ideal S1024x8 .f32) (r : Fin 2048) (l : Fin 16) : w0Of (F := Ideal) x g (ValueIdx.ix2 r l) = refW0 x g (ValueIdx.ix2 r 0) :=
  ((weights_row x g r l).1).trans (congrArg (rShares (rTop (rSoft (rLogits x g)))) (at_share r 0 Cert.ReferenceIdeal.Facts₀.slices_S2048x2_S2048x1_0_0))
theorem w1_lanes (x : FVec Ideal S2048x1024 .f32) (g : FVec Ideal S1024x8 .f32) (r : Fin 2048) (l : Fin 16) : w1Of (F := Ideal) x g (ValueIdx.ix2 r l) = refW1 x g (ValueIdx.ix2 r 0) :=
  ((weights_row x g r l).2).trans (congrArg (rShares (rTop (rSoft (rLogits x g)))) (at_share r 1 Cert.ReferenceIdeal.Facts₀.slices_S2048x2_S2048x1_0_1))

/-- Where the positions name the same rows of two arrays, so does the sum. -/
theorem outV_congr (Y Y' : S5888x1024.Idx → Elt F .f32) (p q : S2048.Idx → BitVec 32) (w v : S2048x16.Idx → Elt F .f32)
    (hp : ∀ x k, Y (ValueIdx.ix2 (rowNo (p x)) k) = Y' (ValueIdx.ix2 (rowNo (p x)) k)) (hq : ∀ x k, Y (ValueIdx.ix2 (rowNo (q x)) k) = Y' (ValueIdx.ix2 (rowNo (q x)) k)) :
    outV Y p q w v = outV Y' p q w v := by
  funext x
  exact congrArg₂ FloatOps.addf (congrArg (FloatOps.mulf _) (hp (ValueIdx.ix1 (x 0)) (x 1))) (congrArg (FloatOps.mulf _) (hq (ValueIdx.ix1 (x 0)) (x 1)))

/-- The rows the reference computes are those the experts' call leaves, wherever a block is computed. -/
theorem rows_eq {m : (ℓ : Loc nD τ sig) → Buf (Elt Ideal) ℓ} (hm : Fits m) (d : Dev nD) (w : BitVec 32)
    (h : ∃ hp : w.toNat < 5888, (tabsOf m).va (ValueIdx.ix1 ⟨w.toNat / 256, by omega⟩) = 1#32) (k : Fin 1024) :
    rRows (m (rLoc d)) (wtsOf m d).up (wtsOf m d).gp (wtsOf m d).dn (tabsOf m).be (ValueIdx.ix2 (rowNo w) k) = yStar m (Ffn.plan (tabsOf m)) d (ValueIdx.ix2 (rowNo w) k) := by
  obtain ⟨hp, hv⟩ := h
  have hb : w.toNat / 256 < 23 := by omega
  have hr : rowNo w = ⟨w.toNat, hp⟩ := Fin.ext (show min w.toNat 5887 = w.toNat by omega)
  rw [hr]
  show _ = Ffn.blkOf (wtsOf m d) (Ffn.xblk (m (rLoc d)) (w.toNat / 256)) ((Ffn.plan (tabsOf m) (w.toNat / 256 + 1)).h.getD 0) (ValueIdx.ix2 ⟨w.toNat % 256, Nat.mod_lt _ (by decide)⟩ k)
  rw [Ffn.plan_expert hm.deals (w.toNat / 256) hb (congrArg BitVec.toNat hv), Option.getD_some]
  rw [← ix2_eq_valueIdx, ← ix2_eq_valueIdx]
  rw [rRows_expert _ _ _ _ _ _ _ ⟨_, (hm.deals.words (w.toNat / 256) hb).1⟩ (by rw [ix1_eq_valueIdx])]
  unfold Ffn.blkOf
  rw [block_apply]
  have hx (h : Fin 1024) : Ffn.xblk (F := Ideal) (m (rLoc d)) (w.toNat / 256) (Idealize.ShloMosaic.ix2 ⟨w.toNat % 256, Nat.mod_lt _ (by decide)⟩ h) = m (rLoc d) (Idealize.ShloMosaic.ix2 ⟨w.toNat, hp⟩ h) := by
    have e : 256 * (w.toNat / 256) + w.toNat % 256 = w.toNat := Nat.div_add_mod _ _
    show (if h' : 256 * (w.toNat / 256) + w.toNat % 256 < 5888 then m (rLoc d) (ValueIdx.ix2 ⟨256 * (w.toNat / 256) + w.toNat % 256, h'⟩ h) else _) = _
    rw [dif_pos (by omega), ix2_eq_valueIdx]
    exact congrArg (fun r => m (rLoc d) (ValueIdx.ix2 r h)) (Fin.ext e)
  simp only [hx, ix3_1, ix3_2, ← ix3_eq_valueIdx]

/-! ## The claims -/

/-- The arguments are among those the run leaves alone. -/
theorem kept {m : (ℓ : Loc nD τ sig) → Buf (Elt F) ℓ} {r : PUnit × MemSt nD τ sig (Elt F)} {d : Dev nD}
    (h : ∀ b ∈ args, r.2.mem ((SparseCore.T d).loc b) = m ((SparseCore.T d).loc b)) :
    r.2.mem ((SparseCore.T d).loc main_arg0) = m ((SparseCore.T d).loc main_arg0) ∧ r.2.mem ((SparseCore.T d).loc main_arg1) = m ((SparseCore.T d).loc main_arg1)
      ∧ r.2.mem ((SparseCore.T d).loc main_arg2) = m ((SparseCore.T d).loc main_arg2) ∧ r.2.mem ((SparseCore.T d).loc main_arg3) = m ((SparseCore.T d).loc main_arg3)
      ∧ r.2.mem ((SparseCore.T d).loc main_arg4) = m ((SparseCore.T d).loc main_arg4) ∧ r.2.mem ((SparseCore.T d).loc main_arg5) = m ((SparseCore.T d).loc main_arg5)
      ∧ r.2.mem ((SparseCore.T d).loc main_arg6) = m ((SparseCore.T d).loc main_arg6) ∧ r.2.mem ((SparseCore.T d).loc main_arg7) = m ((SparseCore.T d).loc main_arg7)
      ∧ r.2.mem ((SparseCore.T d).loc main_arg8) = m ((SparseCore.T d).loc main_arg8) ∧ r.2.mem ((SparseCore.T d).loc main_arg9) = m ((SparseCore.T d).loc main_arg9)
      ∧ r.2.mem ((SparseCore.T d).loc main_arg10) = m ((SparseCore.T d).loc main_arg10) ∧ r.2.mem ((SparseCore.T d).loc main_arg11) = m ((SparseCore.T d).loc main_arg11)
      ∧ r.2.mem ((SparseCore.T d).loc main_arg12) = m ((SparseCore.T d).loc main_arg12) ∧ r.2.mem ((SparseCore.T d).loc main_arg13) = m ((SparseCore.T d).loc main_arg13) :=
  ⟨h _ (by decide), h _ (by decide), h _ (by decide), h _ (by decide), h _ (by decide), h _ (by decide), h _ (by decide), h _ (by decide), h _ (by decide), h _ (by decide), h _ (by decide), h _ (by decide), h _ (by decide), h _ (by decide)⟩

theorem run_fits [∀ e, Nonempty (Elt F e)] {m : (ℓ : Loc nD τ sig) → Buf (Elt F) ℓ} (hm : Fits m) (ρ : Dev nD → PrngReg) :
    θ_run (Cert.KernelIdeal.defs (F := F)) (Cert.KernelIdeal.threads (F := F)) ⟨m, fun _ => 0, ρ⟩ (QC m (Ffn.plan (tabsOf m))) :=
  run_main m (Ffn.plan (tabsOf m)) ρ (Ffn.plan_sched hm.deals) (in_rows hm)

theorem quiet_kernelIdeal : Cert.quiescent_KernelIdeal := fun m ρ h =>
  (θ_run Cert.KernelIdeal.defs _ _).mono (fun _ h => ⟨fun d => kept (h.1 d).1, h.2⟩)
    (run_fits (F := Ideal) (fits_ideal m h) ρ)

theorem quiet_reference : Cert.quiescent_ReferenceIdeal := fun m ρ _ =>
  (θ_run Cert.ReferenceIdeal.defs _ _).mono (fun r h => ⟨fun d => (h d).2.2, sem_eq_zero_of_no_sems (by decide) r.2⟩) (Cert.ReferenceIdeal.Value.run (F := Ideal) m ρ)

theorem quiet_reference_pre : Cert.quiescent_ReferenceIdeal_pre_blocks_and_rows := fun m ρ _ => quiet_reference m ρ trivial

/-- The reference's first result is the program's. -/
theorem result_eq {m : (ℓ : Loc nD τ sig) → Buf (Elt Ideal) ℓ} (hm : Fits m) (d : Dev nD) :
    (addf (mulf (broadcastInDim Cert.ReferenceIdeal.S2048x1024 ![0, 1] Cert.ReferenceIdeal.Facts₀.bcast_S2048x1_S2048x1024_0_1 (refW0 (m (xLoc d)) (m (gLoc d))))
        (Host.gather Cert.ReferenceIdeal.gather_S5888x1024_S2048x1_S2048x1024_1_0_n_n_0_1_11024 (rRows (m (rLoc d)) (wtsOf m d).up (wtsOf m d).gp (wtsOf m d).dn (tabsOf m).be) (column (m (p0Loc d)))))
      (mulf (broadcastInDim Cert.ReferenceIdeal.S2048x1024 ![0, 1] Cert.ReferenceIdeal.Facts₀.bcast_S2048x1_S2048x1024_0_1 (refW1 (m (xLoc d)) (m (gLoc d))))
        (Host.gather Cert.ReferenceIdeal.gather_S5888x1024_S2048x1_S2048x1024_1_0_n_n_0_1_11024 (rRows (m (rLoc d)) (wtsOf m d).up (wtsOf m d).gp (wtsOf m d).dn (tabsOf m).be) (column (m (p1Loc d))))) : FVec Ideal S2048x1024 .f32)
      = res m (Ffn.plan (tabsOf m)) d := by
  have h0 (x : S2048.Idx) : ∃ hp : (m (p0Loc d) x : BitVec 32).toNat < 5888, (tabsOf m).va (ValueIdx.ix1 ⟨(m (p0Loc d) x : BitVec 32).toNat / 256, by omega⟩) = 1#32 := by
    rw [ValueIdx.eq_ix1 x]; exact hm.first d (x 0)
  have h1 (x : S2048.Idx) : ∃ hp : (m (p1Loc d) x : BitVec 32).toNat < 5888, (tabsOf m).va (ValueIdx.ix1 ⟨(m (p1Loc d) x : BitVec 32).toNat / 256, by omega⟩) = 1#32 := by
    rw [ValueIdx.eq_ix1 x]; exact hm.second d (x 0)
  rw [value_eq (F := Ideal) _ (m (p0Loc d)) (m (p1Loc d)) (refW0 (m (xLoc d)) (m (gLoc d))) (refW1 (m (xLoc d)) (m (gLoc d))) (w0Of (m (xLoc d)) (m (gLoc d))) (w1Of (m (xLoc d)) (m (gLoc d)))
    (fun x => (h0 x).1) (fun x => (h1 x).1) (w0_lanes _ _) (w1_lanes _ _)]
  exact outV_congr _ _ _ _ _ _ (fun x k => rows_eq hm d _ (h0 x) k) (fun x k => rows_eq hm d _ (h1 x) k)

theorem algebraic : Cert.algebraic_KernelIdeal_ReferenceIdeal := fun m ρ m' ρ' h ha =>
  ⟨fun d => res m (Ffn.plan (tabsOf m)) d, fun d => lgs m d,
    (θ_run Cert.KernelIdeal.defs _ _).mono (fun _ h d => ⟨(h.1 d).2.2, (h.1 d).2.1, kept (h.1 d).1⟩)
      (run_fits (F := Ideal) (fits_ideal m h) ρ),
    (θ_run Cert.ReferenceIdeal.defs _ _).mono (fun _ hv d => ⟨(hv d).1.trans (by
      obtain rfl : d = 0 := Subsingleton.elim _ _
      obtain ⟨e0, e1, e2, e3, e4, e5, e6, e7, e8, e9, e10, e11, e12, e13⟩ := ha 0
      unfold Cert.ReferenceIdeal.Value.res_main_v57
      rw [e0, e1, e2, e3, e4, e5, e6, e12, e13]
      exact result_eq (fits_ideal m h) 0),
      (hv d).2.1.trans (by rw [(ha d).1, (ha d).2.1]; exact (logits_eq _ _).symm), (hv d).2.2⟩) (Cert.ReferenceIdeal.Value.run (F := Ideal) m' ρ')⟩

end Cert.Proof.Moe

end
-- ==== Proof.Same.lean ====
/-
  The kernel and its ideal reading are the same text: so are the tables of what their threads run.
-/
module

public import proofs.«01_k».proof.Defs
public import proofs.«01_k».proof.Proof.Gen.Kernel
public import proofs.«01_k».proof.Proof.Gen.KernelIdeal

@[expose] public section

noncomputable section

namespace Cert.Proof.Moe
open Idealize.ShloMosaic
set_option maxHeartbeats 8000000 in
/-- The two programs' tables of bodies are one: they are read off the same text. -/
theorem same_bodies : Cert.Kernel.defs₀ (F := Bits) = Cert.KernelIdeal.defs₀ (F := Bits) := by
  funext c ℓ a
  match c, ℓ, a with
  | .tc, ⟨0, _⟩, (_, _) => rfl
  | .tc, ⟨1, _⟩, (_, _) => rfl
  | .tc, ⟨2, _⟩, _ => rfl
  | .scScalar _, ⟨0, _⟩, _ => rfl
  | .scScalar _, ⟨1, _⟩, _ => rfl
  | .scScalar _, ⟨2, _⟩, _ => rfl
  | .scVector _ _, ⟨0, _⟩, _ => rfl
  | .scVector _ _, ⟨1, _⟩, _ => rfl
  | .scVector _ _, ⟨2, _⟩, _ => rfl

end Cert.Proof.Moe
end
-- ==== Proof.Bits.lean ====
/-
  The kernel's claim, from its ideal reading's run.
-/
module

public import proofs.«01_k».proof.Proof.Value
public import proofs.«01_k».proof.Proof.Same

@[expose] public section

noncomputable section

namespace Cert.Proof.Moe

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.ValueIdx

/-- The two programs' pipelines are one. -/
theorem same_pcfgs : Cert.Kernel.pcfgs (F := Bits) = Cert.KernelIdeal.pcfgs (F := Bits) := by exact rfl

/-- The program's SparseCore calls, over any pipelines. -/
def scOf (pc : Fin 2 → Pipeline.PCfg sig Λ₀ (Elt Bits)) : SparseCore.Cfg τ sig (Pipeline.Sig Λ₀ (Fin 2) fun p => (pc p).Adm) 1 where
  kind := scKind
  nCore := scNCore
  nSub := scNSub
  hkind := hscKind
  hCore := hscCore
  hSub := hscSub
  body := fun | 0 => Pipeline.kernel 2 | ⟨_ + 1, h⟩ => absurd h (Nat.not_lt.2 (Nat.le_add_left _ _))
  args := fun | 0 => ⟨⟩ | ⟨_ + 1, h⟩ => absurd h (Nat.not_lt.2 (Nat.le_add_left _ _))
  start := sc_start
  done := sc_done
  go := sc_go
  taskDone := sc_taskDone

/-- The TensorCore's program, over any pipelines. -/
def mainOf (pc : Fin 2 → Pipeline.PCfg sig Λ₀ (Elt Bits)) :
    Dev nD → Prog (TpuEff nD τ sig (Elt Bits) (SparseCore.Sig (Pipeline.Sig Λ₀ (Fin 2) fun p => (pc p).Adm) 1) .tc) PUnit := fun d => do
  Prog.lift (.customCall (SparseCore.inner (Pipeline.entry 0)) ())
  Prog.lift (.customCall (SparseCore.inner (Pipeline.entry 1)) ())
  (scOf pc).run d 0
  pure ⟨⟩

/-- A program of these pipelines and these bodies runs to an end of which `Q` holds. -/
def Ends (pc : Fin 2 → Pipeline.PCfg sig Λ₀ (Elt Bits)) (D : Defs nD τ sig (Elt Bits) Λ₀) (s : MemSt nD τ sig (Elt Bits))
    (Q : PUnit × MemSt nD τ sig (Elt Bits) → Prop) : Prop :=
  θ_run ((scOf pc).defs (Pipeline.defs pc D)) ((scOf pc).threads (mainOf pc)) s Q

/-- What holds of a program's runs holds of an equal program's. -/
theorem ends_same {pc pc' : Fin 2 → Pipeline.PCfg sig Λ₀ (Elt Bits)} (e : pc' = pc) {D D' : Defs nD τ sig (Elt Bits) Λ₀} (e' : D' = D)
    {s : MemSt nD τ sig (Elt Bits)} {Q : PUnit × MemSt nD τ sig (Elt Bits) → Prop} (h : Ends pc D s Q) : Ends pc' D' s Q := by
  subst e; subst e'; exact h

/-- The ideal reading's runs are of this form. -/
theorem ends_ideal {s : MemSt nD τ sig (Elt Bits)} {Q : PUnit × MemSt nD τ sig (Elt Bits) → Prop}
    (h : θ_run (Cert.KernelIdeal.defs (F := Bits)) (Cert.KernelIdeal.threads (F := Bits)) s Q) : Ends Cert.KernelIdeal.pcfgs Cert.KernelIdeal.defs₀ s Q := h

set_option maxHeartbeats 2000000 in
/-- So are the program's. -/
theorem ends_kernel {s : MemSt Cert.Kernel.nD Cert.Kernel.τ Cert.Kernel.sig (Elt Bits)} {Q : PUnit × MemSt Cert.Kernel.nD Cert.Kernel.τ Cert.Kernel.sig (Elt Bits) → Prop}
    (h : Ends (Cert.Kernel.pcfgs (F := Bits)) (Cert.Kernel.defs₀ (F := Bits)) s Q) :
    θ_run (Cert.Kernel.defs (F := Bits)) (Cert.Kernel.threads (F := Bits)) s Q := by
  delta Ends at h
  delta Cert.Kernel.defs Cert.Kernel.threads
  exact h

theorem quiet_kernel : Cert.quiescent_Kernel := fun m ρ h =>
  ends_kernel (ends_same same_pcfgs same_bodies (ends_ideal ((θ_run Cert.KernelIdeal.defs _ _).mono (fun _ h => ⟨fun d => kept (h.1 d).1, h.2⟩)
    (run_fits (F := Bits) (fits_bits m h) ρ))))

end Cert.Proof.Moe

end
-- ==== Proof.lean ====
/-
  The certificate: the witnesses of the programs' stated facts, and the claims, proved in Proof/Value.lean and Proof/Bits.lean.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_blocks_and_rows
public import proofs.«01_k».proof.Proof.Value
public import proofs.«01_k».proof.Proof.Bits
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_blocks_and_rows.Gen.facts,
    Moe.quiet_kernel, Moe.quiet_kernelIdeal, Moe.quiet_reference, Moe.quiet_reference_pre, trivial, Moe.algebraic⟩

end Cert.Proof

end
